-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_XaBwd (m : (ℓ : Loc Cert.XaBwd.nD Cert.XaBwd.τ Cert.XaBwd.sig) → Buf (Elt Bits) ℓ) : Prop :=
  True

def Pre_XaBwdIdeal (m : (ℓ : Loc Cert.XaBwdIdeal.nD Cert.XaBwdIdeal.τ Cert.XaBwdIdeal.sig) → Buf (Elt Ideal) ℓ) : Prop :=
  True

def Pre_XaBwdIdeal_xa_finite [hPre_xa_finite : Cert.Pre_xa_finite.Facts] (m : (ℓ : Loc Cert.XaBwdIdeal.nD Cert.XaBwdIdeal.τ Cert.XaBwdIdeal.sig) → Buf (Elt Ideal) ℓ) : Prop :=
  ∀ c : Dev Cert.XaBwdIdeal.nD,
    (Cert.Pre_xa_finite.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3))) = (fun _ => 1#1)

def Pre_XaBwdReferenceIdeal (m : (ℓ : Loc Cert.XaBwdReferenceIdeal.nD Cert.XaBwdReferenceIdeal.τ Cert.XaBwdReferenceIdeal.sig) → Buf (Elt Ideal) ℓ) : Prop :=
  True

def Pre_XaBwdReferenceIdeal_xa_finite [hPre_xa_finite : Cert.Pre_xa_finite.Facts] (m : (ℓ : Loc Cert.XaBwdReferenceIdeal.nD Cert.XaBwdReferenceIdeal.τ Cert.XaBwdReferenceIdeal.sig) → Buf (Elt Ideal) ℓ) : Prop :=
  ∀ c : Dev Cert.XaBwdReferenceIdeal.nD,
    (Cert.Pre_xa_finite.fn (F := Ideal) (m ((c.tc : Thread Cert.XaBwdReferenceIdeal.nD Cert.XaBwdReferenceIdeal.τ).loc Cert.XaBwdReferenceIdeal.main_arg0)) (m ((c.tc : Thread Cert.XaBwdReferenceIdeal.nD Cert.XaBwdReferenceIdeal.τ).loc Cert.XaBwdReferenceIdeal.main_arg1)) (m ((c.tc : Thread Cert.XaBwdReferenceIdeal.nD Cert.XaBwdReferenceIdeal.τ).loc Cert.XaBwdReferenceIdeal.main_arg2)) (m ((c.tc : Thread Cert.XaBwdReferenceIdeal.nD Cert.XaBwdReferenceIdeal.τ).loc Cert.XaBwdReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3)
      ∧ r.2.mem ((c.tc : Thread Cert.DownDx.nD Cert.DownDx.τ).loc Cert.DownDx.main_arg4) = m ((c.tc : Thread Cert.DownDx.nD Cert.DownDx.τ).loc Cert.DownDx.main_arg4))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3)
      ∧ r.2.mem ((c.tc : Thread Cert.DownDxIdeal.nD Cert.DownDxIdeal.τ).loc Cert.DownDxIdeal.main_arg4) = m ((c.tc : Thread Cert.DownDxIdeal.nD Cert.DownDxIdeal.τ).loc Cert.DownDxIdeal.main_arg4))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2)
      ∧ r.2.mem ((c.tc : Thread Cert.DownDxReferenceIdeal.nD Cert.DownDxReferenceIdeal.τ).loc Cert.DownDxReferenceIdeal.main_arg3) = m ((c.tc : Thread Cert.DownDxReferenceIdeal.nD Cert.DownDxReferenceIdeal.τ).loc Cert.DownDxReferenceIdeal.main_arg3)
      ∧ r.2.mem ((c.tc : Thread Cert.DownDxReferenceIdeal.nD Cert.DownDxReferenceIdeal.τ).loc Cert.DownDxReferenceIdeal.main_arg4) = m ((c.tc : Thread Cert.DownDxReferenceIdeal.nD Cert.DownDxReferenceIdeal.τ).loc Cert.DownDxReferenceIdeal.main_arg4))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2)
      ∧ r.2.mem ((c.tc : Thread Cert.DownDw.nD Cert.DownDw.τ).loc Cert.DownDw.main_arg3) = m ((c.tc : Thread Cert.DownDw.nD Cert.DownDw.τ).loc Cert.DownDw.main_arg3)
      ∧ r.2.mem ((c.tc : Thread Cert.DownDw.nD Cert.DownDw.τ).loc Cert.DownDw.main_arg4) = m ((c.tc : Thread Cert.DownDw.nD Cert.DownDw.τ).loc Cert.DownDw.main_arg4))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
      ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3)
      ∧ r.2.mem ((c.tc : Thread Cert.DownDwIdeal.nD Cert.DownDwIdeal.τ).loc Cert.DownDwIdeal.main_arg4) = m ((c.tc : Thread Cert.DownDwIdeal.nD Cert.DownDwIdeal.τ).loc Cert.DownDwIdeal.main_arg4))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2)
      ∧ r.2.mem ((c.tc : Thread Cert.DownDwReferenceIdeal.nD Cert.DownDwReferenceIdeal.τ).loc Cert.DownDwReferenceIdeal.main_arg3) = m ((c.tc : Thread Cert.DownDwReferenceIdeal.nD Cert.DownDwReferenceIdeal.τ).loc Cert.DownDwReferenceIdeal.main_arg3)
      ∧ r.2.mem ((c.tc : Thread Cert.DownDwReferenceIdeal.nD Cert.DownDwReferenceIdeal.τ).loc Cert.DownDwReferenceIdeal.main_arg4) = m ((c.tc : Thread Cert.DownDwReferenceIdeal.nD Cert.DownDwReferenceIdeal.τ).loc Cert.DownDwReferenceIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3)
      ∧ r.2.mem ((c.tc : Thread Cert.UpDw.nD Cert.UpDw.τ).loc Cert.UpDw.main_arg4) = m ((c.tc : Thread Cert.UpDw.nD Cert.UpDw.τ).loc Cert.UpDw.main_arg4))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3)
      ∧ r.2.mem ((c.tc : Thread Cert.UpDwIdeal.nD Cert.UpDwIdeal.τ).loc Cert.UpDwIdeal.main_arg4) = m ((c.tc : Thread Cert.UpDwIdeal.nD Cert.UpDwIdeal.τ).loc Cert.UpDwIdeal.main_arg4))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2)
      ∧ r.2.mem ((c.tc : Thread Cert.UpDwReferenceIdeal.nD Cert.UpDwReferenceIdeal.τ).loc Cert.UpDwReferenceIdeal.main_arg3) = m ((c.tc : Thread Cert.UpDwReferenceIdeal.nD Cert.UpDwReferenceIdeal.τ).loc Cert.UpDwReferenceIdeal.main_arg3)
      ∧ r.2.mem ((c.tc : Thread Cert.UpDwReferenceIdeal.nD Cert.UpDwReferenceIdeal.τ).loc Cert.UpDwReferenceIdeal.main_arg4) = m ((c.tc : Thread Cert.UpDwReferenceIdeal.nD Cert.UpDwReferenceIdeal.τ).loc Cert.UpDwReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3)
      ∧ r.2.mem ((c.tc : Thread Cert.UpDxReferenceIdeal.nD Cert.UpDxReferenceIdeal.τ).loc Cert.UpDxReferenceIdeal.main_arg4) = m ((c.tc : Thread Cert.UpDxReferenceIdeal.nD Cert.UpDxReferenceIdeal.τ).loc Cert.UpDxReferenceIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1)
      ∧ r.2.mem ((c.tc : Thread Cert.InDwReferenceIdeal.nD Cert.InDwReferenceIdeal.τ).loc Cert.InDwReferenceIdeal.main_arg2) = m ((c.tc : Thread Cert.InDwReferenceIdeal.nD Cert.InDwReferenceIdeal.τ).loc Cert.InDwReferenceIdeal.main_arg2)
      ∧ r.2.mem ((c.tc : Thread Cert.InDwReferenceIdeal.nD Cert.InDwReferenceIdeal.τ).loc Cert.InDwReferenceIdeal.main_arg3) = m ((c.tc : Thread Cert.InDwReferenceIdeal.nD Cert.InDwReferenceIdeal.τ).loc Cert.InDwReferenceIdeal.main_arg3))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2)
      ∧ r.2.mem ((c.tc : Thread Cert.InDxReferenceIdeal.nD Cert.InDxReferenceIdeal.τ).loc Cert.InDxReferenceIdeal.main_arg3) = m ((c.tc : Thread Cert.InDxReferenceIdeal.nD Cert.InDxReferenceIdeal.τ).loc Cert.InDxReferenceIdeal.main_arg3)
      ∧ r.2.mem ((c.tc : Thread Cert.InDxReferenceIdeal.nD Cert.InDxReferenceIdeal.τ).loc Cert.InDxReferenceIdeal.main_arg4) = m ((c.tc : Thread Cert.InDxReferenceIdeal.nD Cert.InDxReferenceIdeal.τ).loc Cert.InDxReferenceIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2)
      ∧ r.2.mem ((c.tc : Thread Cert.OutDw.nD Cert.OutDw.τ).loc Cert.OutDw.main_arg3) = m ((c.tc : Thread Cert.OutDw.nD Cert.OutDw.τ).loc Cert.OutDw.main_arg3))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2)
      ∧ r.2.mem ((c.tc : Thread Cert.OutDwIdeal.nD Cert.OutDwIdeal.τ).loc Cert.OutDwIdeal.main_arg3) = m ((c.tc : Thread Cert.OutDwIdeal.nD Cert.OutDwIdeal.τ).loc Cert.OutDwIdeal.main_arg3))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2)
      ∧ r.2.mem ((c.tc : Thread Cert.OutDwReferenceIdeal.nD Cert.OutDwReferenceIdeal.τ).loc Cert.OutDwReferenceIdeal.main_arg3) = m ((c.tc : Thread Cert.OutDwReferenceIdeal.nD Cert.OutDwReferenceIdeal.τ).loc Cert.OutDwReferenceIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2)
      ∧ r.2.mem ((c.tc : Thread Cert.OutDxReferenceIdeal.nD Cert.OutDxReferenceIdeal.τ).loc Cert.OutDxReferenceIdeal.main_arg3) = m ((c.tc : Thread Cert.OutDxReferenceIdeal.nD Cert.OutDxReferenceIdeal.τ).loc Cert.OutDxReferenceIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1)
      ∧ r.2.mem ((c.tc : Thread Cert.UpFwdReferenceIdeal.nD Cert.UpFwdReferenceIdeal.τ).loc Cert.UpFwdReferenceIdeal.main_arg2) = m ((c.tc : Thread Cert.UpFwdReferenceIdeal.nD Cert.UpFwdReferenceIdeal.τ).loc Cert.UpFwdReferenceIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1)
      ∧ r.2.mem ((c.tc : Thread Cert.DownFwdReferenceIdeal.nD Cert.DownFwdReferenceIdeal.τ).loc Cert.DownFwdReferenceIdeal.main_arg2) = m ((c.tc : Thread Cert.DownFwdReferenceIdeal.nD Cert.DownFwdReferenceIdeal.τ).loc Cert.DownFwdReferenceIdeal.main_arg2)
      ∧ r.2.mem ((c.tc : Thread Cert.DownFwdReferenceIdeal.nD Cert.DownFwdReferenceIdeal.τ).loc Cert.DownFwdReferenceIdeal.main_arg3) = m ((c.tc : Thread Cert.DownFwdReferenceIdeal.nD Cert.DownFwdReferenceIdeal.τ).loc Cert.DownFwdReferenceIdeal.main_arg3))
      ∧ r.2.sem = fun _ => 0)

def quiescent_XaBwd [hXaBwd : Cert.XaBwd.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2)
      ∧ r.2.mem ((c.tc : Thread Cert.XaBwd.nD Cert.XaBwd.τ).loc Cert.XaBwd.main_arg3) = m ((c.tc : Thread Cert.XaBwd.nD Cert.XaBwd.τ).loc Cert.XaBwd.main_arg3))
      ∧ r.2.sem = fun _ => 0)

def quiescent_XaBwdIdeal [hXaBwdIdeal : Cert.XaBwdIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ r.2.sem = fun _ => 0)

def quiescent_XaBwdIdeal_pre_xa_finite [hXaBwdIdeal : Cert.XaBwdIdeal.Facts] [hPre_xa_finite : Cert.Pre_xa_finite.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal_xa_finite m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ r.2.sem = fun _ => 0)

def quiescent_XaBwdReferenceIdeal [hXaBwdReferenceIdeal : Cert.XaBwdReferenceIdeal.Facts] : Prop :=
  ∀ (m : (ℓ : Loc Cert.XaBwdReferenceIdeal.nD Cert.XaBwdReferenceIdeal.τ Cert.XaBwdReferenceIdeal.sig) → Buf (Elt Ideal) ℓ) (g : Dev Cert.XaBwdReferenceIdeal.nD → PrngReg), Pre_XaBwdReferenceIdeal m →
    θ_run (Cert.XaBwdReferenceIdeal.defs (F := Ideal)) (onTc (τ := Cert.XaBwdReferenceIdeal.τ) (Cert.XaBwdReferenceIdeal.main (F := Ideal))) ⟨m, fun _ => 0, g⟩ (fun r => (∀ c : Dev Cert.XaBwdReferenceIdeal.nD,
      r.2.mem ((c.tc : Thread Cert.XaBwdReferenceIdeal.nD Cert.XaBwdReferenceIdeal.τ).loc Cert.XaBwdReferenceIdeal.main_arg0) = m ((c.tc : Thread Cert.XaBwdReferenceIdeal.nD Cert.XaBwdReferenceIdeal.τ).loc Cert.XaBwdReferenceIdeal.main_arg0)
      ∧ r.2.mem ((c.tc : Thread Cert.XaBwdReferenceIdeal.nD Cert.XaBwdReferenceIdeal.τ).loc Cert.XaBwdReferenceIdeal.main_arg1) = m ((c.tc : Thread Cert.XaBwdReferenceIdeal.nD Cert.XaBwdReferenceIdeal.τ).loc Cert.XaBwdReferenceIdeal.main_arg1)
      ∧ r.2.mem ((c.tc : Thread Cert.XaBwdReferenceIdeal.nD Cert.XaBwdReferenceIdeal.τ).loc Cert.XaBwdReferenceIdeal.main_arg2) = m ((c.tc : Thread Cert.XaBwdReferenceIdeal.nD Cert.XaBwdReferenceIdeal.τ).loc Cert.XaBwdReferenceIdeal.main_arg2)
      ∧ r.2.mem ((c.tc : Thread Cert.XaBwdReferenceIdeal.nD Cert.XaBwdReferenceIdeal.τ).loc Cert.XaBwdReferenceIdeal.main_arg3) = m ((c.tc : Thread Cert.XaBwdReferenceIdeal.nD Cert.XaBwdReferenceIdeal.τ).loc Cert.XaBwdReferenceIdeal.main_arg3))
      ∧ r.2.sem = fun _ => 0)

def quiescent_XaBwdReferenceIdeal_pre_xa_finite [hXaBwdReferenceIdeal : Cert.XaBwdReferenceIdeal.Facts] [hPre_xa_finite : Cert.Pre_xa_finite.Facts] : Prop :=
  ∀ (m : (ℓ : Loc Cert.XaBwdReferenceIdeal.nD Cert.XaBwdReferenceIdeal.τ Cert.XaBwdReferenceIdeal.sig) → Buf (Elt Ideal) ℓ) (g : Dev Cert.XaBwdReferenceIdeal.nD → PrngReg), Pre_XaBwdReferenceIdeal_xa_finite m →
    θ_run (Cert.XaBwdReferenceIdeal.defs (F := Ideal)) (onTc (τ := Cert.XaBwdReferenceIdeal.τ) (Cert.XaBwdReferenceIdeal.main (F := Ideal))) ⟨m, fun _ => 0, g⟩ (fun r => (∀ c : Dev Cert.XaBwdReferenceIdeal.nD,
      r.2.mem ((c.tc : Thread Cert.XaBwdReferenceIdeal.nD Cert.XaBwdReferenceIdeal.τ).loc Cert.XaBwdReferenceIdeal.main_arg0) = m ((c.tc : Thread Cert.XaBwdReferenceIdeal.nD Cert.XaBwdReferenceIdeal.τ).loc Cert.XaBwdReferenceIdeal.main_arg0)
      ∧ r.2.mem ((c.tc : Thread Cert.XaBwdReferenceIdeal.nD Cert.XaBwdReferenceIdeal.τ).loc Cert.XaBwdReferenceIdeal.main_arg1) = m ((c.tc : Thread Cert.XaBwdReferenceIdeal.nD Cert.XaBwdReferenceIdeal.τ).loc Cert.XaBwdReferenceIdeal.main_arg1)
      ∧ r.2.mem ((c.tc : Thread Cert.XaBwdReferenceIdeal.nD Cert.XaBwdReferenceIdeal.τ).loc Cert.XaBwdReferenceIdeal.main_arg2) = m ((c.tc : Thread Cert.XaBwdReferenceIdeal.nD Cert.XaBwdReferenceIdeal.τ).loc Cert.XaBwdReferenceIdeal.main_arg2)
      ∧ r.2.mem ((c.tc : Thread Cert.XaBwdReferenceIdeal.nD Cert.XaBwdReferenceIdeal.τ).loc Cert.XaBwdReferenceIdeal.main_arg3) = m ((c.tc : Thread Cert.XaBwdReferenceIdeal.nD Cert.XaBwdReferenceIdeal.τ).loc Cert.XaBwdReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_11) = v0 c
          ∧ r.2.mem ((c.tc : Thread Cert.ReferenceIdeal.nD Cert.ReferenceIdeal.τ).loc Cert.ReferenceIdeal.main_v19_12) = v1 c
          ∧ r.2.mem ((c.tc : Thread Cert.ReferenceIdeal.nD Cert.ReferenceIdeal.τ).loc Cert.ReferenceIdeal.main_v19_13) = v2 c
          ∧ r.2.mem ((c.tc : Thread Cert.ReferenceIdeal.nD Cert.ReferenceIdeal.τ).loc Cert.ReferenceIdeal.main_v19_14) = v3 c
          ∧ r.2.mem ((c.tc : Thread Cert.ReferenceIdeal.nD Cert.ReferenceIdeal.τ).loc Cert.ReferenceIdeal.main_v19_15) = v4 c
          ∧ r.2.mem ((c.tc : Thread Cert.ReferenceIdeal.nD Cert.ReferenceIdeal.τ).loc Cert.ReferenceIdeal.main_v19_16) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)
      ∧ m' ((c.tc : Thread Cert.DownDxReferenceIdeal.nD Cert.DownDxReferenceIdeal.τ).loc Cert.DownDxReferenceIdeal.main_arg3) = m ((c.tc : Thread Cert.DownDxIdeal.nD Cert.DownDxIdeal.τ).loc Cert.DownDxIdeal.main_arg3)
      ∧ m' ((c.tc : Thread Cert.DownDxReferenceIdeal.nD Cert.DownDxReferenceIdeal.τ).loc Cert.DownDxReferenceIdeal.main_arg4) = m ((c.tc : Thread Cert.DownDxIdeal.nD Cert.DownDxIdeal.τ).loc Cert.DownDxIdeal.main_arg4)) →
    ∃ (v0 : (c : Dev Cert.DownDxIdeal.nD) → Buf (Elt Ideal) ((c.tc : Thread Cert.DownDxIdeal.nD Cert.DownDxIdeal.τ).loc Cert.DownDxIdeal.main_v14)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v14) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3)
          ∧ r.2.mem ((c.tc : Thread Cert.DownDxIdeal.nD Cert.DownDxIdeal.τ).loc Cert.DownDxIdeal.main_arg4) = m ((c.tc : Thread Cert.DownDxIdeal.nD Cert.DownDxIdeal.τ).loc Cert.DownDxIdeal.main_arg4))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v25) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2)
          ∧ r.2.mem ((c.tc : Thread Cert.DownDxReferenceIdeal.nD Cert.DownDxReferenceIdeal.τ).loc Cert.DownDxReferenceIdeal.main_arg3) = m' ((c.tc : Thread Cert.DownDxReferenceIdeal.nD Cert.DownDxReferenceIdeal.τ).loc Cert.DownDxReferenceIdeal.main_arg3)
          ∧ r.2.mem ((c.tc : Thread Cert.DownDxReferenceIdeal.nD Cert.DownDxReferenceIdeal.τ).loc Cert.DownDxReferenceIdeal.main_arg4) = m' ((c.tc : Thread Cert.DownDxReferenceIdeal.nD Cert.DownDxReferenceIdeal.τ).loc Cert.DownDxReferenceIdeal.main_arg4))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)
      ∧ m' ((c.tc : Thread Cert.DownDwReferenceIdeal.nD Cert.DownDwReferenceIdeal.τ).loc Cert.DownDwReferenceIdeal.main_arg3) = m ((c.tc : Thread Cert.DownDwIdeal.nD Cert.DownDwIdeal.τ).loc Cert.DownDwIdeal.main_arg3)
      ∧ m' ((c.tc : Thread Cert.DownDwReferenceIdeal.nD Cert.DownDwReferenceIdeal.τ).loc Cert.DownDwReferenceIdeal.main_arg4) = m ((c.tc : Thread Cert.DownDwIdeal.nD Cert.DownDwIdeal.τ).loc Cert.DownDwIdeal.main_arg4)) →
    ∃ (v0 : (c : Dev Cert.DownDwIdeal.nD) → Buf (Elt Ideal) ((c.tc : Thread Cert.DownDwIdeal.nD Cert.DownDwIdeal.τ).loc Cert.DownDwIdeal.main_v16)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v16) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
          ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3)
          ∧ r.2.mem ((c.tc : Thread Cert.DownDwIdeal.nD Cert.DownDwIdeal.τ).loc Cert.DownDwIdeal.main_arg4) = m ((c.tc : Thread Cert.DownDwIdeal.nD Cert.DownDwIdeal.τ).loc Cert.DownDwIdeal.main_arg4))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v19) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2)
          ∧ r.2.mem ((c.tc : Thread Cert.DownDwReferenceIdeal.nD Cert.DownDwReferenceIdeal.τ).loc Cert.DownDwReferenceIdeal.main_arg3) = m' ((c.tc : Thread Cert.DownDwReferenceIdeal.nD Cert.DownDwReferenceIdeal.τ).loc Cert.DownDwReferenceIdeal.main_arg3)
          ∧ r.2.mem ((c.tc : Thread Cert.DownDwReferenceIdeal.nD Cert.DownDwReferenceIdeal.τ).loc Cert.DownDwReferenceIdeal.main_arg4) = m' ((c.tc : Thread Cert.DownDwReferenceIdeal.nD Cert.DownDwReferenceIdeal.τ).loc Cert.DownDwReferenceIdeal.main_arg4))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)
      ∧ m' ((c.tc : Thread Cert.UpDwReferenceIdeal.nD Cert.UpDwReferenceIdeal.τ).loc Cert.UpDwReferenceIdeal.main_arg2) = m ((c.tc : Thread Cert.UpDwIdeal.nD Cert.UpDwIdeal.τ).loc Cert.UpDwIdeal.main_arg2)
      ∧ m' ((c.tc : Thread Cert.UpDwReferenceIdeal.nD Cert.UpDwReferenceIdeal.τ).loc Cert.UpDwReferenceIdeal.main_arg3) = m ((c.tc : Thread Cert.UpDwIdeal.nD Cert.UpDwIdeal.τ).loc Cert.UpDwIdeal.main_arg3)
      ∧ m' ((c.tc : Thread Cert.UpDwReferenceIdeal.nD Cert.UpDwReferenceIdeal.τ).loc Cert.UpDwReferenceIdeal.main_arg4) = m ((c.tc : Thread Cert.UpDwIdeal.nD Cert.UpDwIdeal.τ).loc Cert.UpDwIdeal.main_arg4)) →
    ∃ (v0 : (c : Dev Cert.UpDwIdeal.nD) → Buf (Elt Ideal) ((c.tc : Thread Cert.UpDwIdeal.nD Cert.UpDwIdeal.τ).loc Cert.UpDwIdeal.main_v27)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v27) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3)
          ∧ r.2.mem ((c.tc : Thread Cert.UpDwIdeal.nD Cert.UpDwIdeal.τ).loc Cert.UpDwIdeal.main_arg4) = m ((c.tc : Thread Cert.UpDwIdeal.nD Cert.UpDwIdeal.τ).loc Cert.UpDwIdeal.main_arg4))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v28) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2)
          ∧ r.2.mem ((c.tc : Thread Cert.UpDwReferenceIdeal.nD Cert.UpDwReferenceIdeal.τ).loc Cert.UpDwReferenceIdeal.main_arg3) = m' ((c.tc : Thread Cert.UpDwReferenceIdeal.nD Cert.UpDwReferenceIdeal.τ).loc Cert.UpDwReferenceIdeal.main_arg3)
          ∧ r.2.mem ((c.tc : Thread Cert.UpDwReferenceIdeal.nD Cert.UpDwReferenceIdeal.τ).loc Cert.UpDwReferenceIdeal.main_arg4) = m' ((c.tc : Thread Cert.UpDwReferenceIdeal.nD Cert.UpDwReferenceIdeal.τ).loc Cert.UpDwReferenceIdeal.main_arg4))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)
      ∧ m' ((c.tc : Thread Cert.UpDxReferenceIdeal.nD Cert.UpDxReferenceIdeal.τ).loc Cert.UpDxReferenceIdeal.main_arg3) = m ((c.tc : Thread Cert.UpDxIdeal.nD Cert.UpDxIdeal.τ).loc Cert.UpDxIdeal.main_arg3)
      ∧ m' ((c.tc : Thread Cert.UpDxReferenceIdeal.nD Cert.UpDxReferenceIdeal.τ).loc Cert.UpDxReferenceIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v27_0)) (v1 : (c : Dev Cert.UpDxIdeal.nD) → Buf (Elt Ideal) ((c.tc : Thread Cert.UpDxIdeal.nD Cert.UpDxIdeal.τ).loc Cert.UpDxIdeal.main_v27_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v27_0) = v0 c
          ∧ r.2.mem ((c.tc : Thread Cert.UpDxIdeal.nD Cert.UpDxIdeal.τ).loc Cert.UpDxIdeal.main_v27_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v50) = v0 c
          ∧ r.2.mem ((c.tc : Thread Cert.UpDxReferenceIdeal.nD Cert.UpDxReferenceIdeal.τ).loc Cert.UpDxReferenceIdeal.main_v33) = v1 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3)
          ∧ r.2.mem ((c.tc : Thread Cert.UpDxReferenceIdeal.nD Cert.UpDxReferenceIdeal.τ).loc Cert.UpDxReferenceIdeal.main_arg4) = m' ((c.tc : Thread Cert.UpDxReferenceIdeal.nD Cert.UpDxReferenceIdeal.τ).loc Cert.UpDxReferenceIdeal.main_arg4))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)
      ∧ m' ((c.tc : Thread Cert.InDwReferenceIdeal.nD Cert.InDwReferenceIdeal.τ).loc Cert.InDwReferenceIdeal.main_arg2) = m ((c.tc : Thread Cert.InDwIdeal.nD Cert.InDwIdeal.τ).loc Cert.InDwIdeal.main_arg2)
      ∧ m' ((c.tc : Thread Cert.InDwReferenceIdeal.nD Cert.InDwReferenceIdeal.τ).loc Cert.InDwReferenceIdeal.main_arg3) = m ((c.tc : Thread Cert.InDwIdeal.nD Cert.InDwIdeal.τ).loc Cert.InDwIdeal.main_arg3)) →
    ∃ (v0 : (c : Dev Cert.InDwIdeal.nD) → Buf (Elt Ideal) ((c.tc : Thread Cert.InDwIdeal.nD Cert.InDwIdeal.τ).loc Cert.InDwIdeal.main_v14)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v14) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v17) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1)
          ∧ r.2.mem ((c.tc : Thread Cert.InDwReferenceIdeal.nD Cert.InDwReferenceIdeal.τ).loc Cert.InDwReferenceIdeal.main_arg2) = m' ((c.tc : Thread Cert.InDwReferenceIdeal.nD Cert.InDwReferenceIdeal.τ).loc Cert.InDwReferenceIdeal.main_arg2)
          ∧ r.2.mem ((c.tc : Thread Cert.InDwReferenceIdeal.nD Cert.InDwReferenceIdeal.τ).loc Cert.InDwReferenceIdeal.main_arg3) = m' ((c.tc : Thread Cert.InDwReferenceIdeal.nD Cert.InDwReferenceIdeal.τ).loc Cert.InDwReferenceIdeal.main_arg3))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)
      ∧ m' ((c.tc : Thread Cert.InDxReferenceIdeal.nD Cert.InDxReferenceIdeal.τ).loc Cert.InDxReferenceIdeal.main_arg3) = m ((c.tc : Thread Cert.InDxIdeal.nD Cert.InDxIdeal.τ).loc Cert.InDxIdeal.main_arg3)
      ∧ m' ((c.tc : Thread Cert.InDxReferenceIdeal.nD Cert.InDxReferenceIdeal.τ).loc Cert.InDxReferenceIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v2_0)) (v1 : (c : Dev Cert.InDxIdeal.nD) → Buf (Elt Ideal) ((c.tc : Thread Cert.InDxIdeal.nD Cert.InDxIdeal.τ).loc Cert.InDxIdeal.main_v2_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2_0) = v0 c
          ∧ r.2.mem ((c.tc : Thread Cert.InDxIdeal.nD Cert.InDxIdeal.τ).loc Cert.InDxIdeal.main_v2_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v37) = v0 c
          ∧ r.2.mem ((c.tc : Thread Cert.InDxReferenceIdeal.nD Cert.InDxReferenceIdeal.τ).loc Cert.InDxReferenceIdeal.main_v20) = v1 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2)
          ∧ r.2.mem ((c.tc : Thread Cert.InDxReferenceIdeal.nD Cert.InDxReferenceIdeal.τ).loc Cert.InDxReferenceIdeal.main_arg3) = m' ((c.tc : Thread Cert.InDxReferenceIdeal.nD Cert.InDxReferenceIdeal.τ).loc Cert.InDxReferenceIdeal.main_arg3)
          ∧ r.2.mem ((c.tc : Thread Cert.InDxReferenceIdeal.nD Cert.InDxReferenceIdeal.τ).loc Cert.InDxReferenceIdeal.main_arg4) = m' ((c.tc : Thread Cert.InDxReferenceIdeal.nD Cert.InDxReferenceIdeal.τ).loc Cert.InDxReferenceIdeal.main_arg4))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)
      ∧ m' ((c.tc : Thread Cert.InFwdReferenceIdeal.nD Cert.InFwdReferenceIdeal.τ).loc Cert.InFwdReferenceIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v14)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v14) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v13) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)
      ∧ m' ((c.tc : Thread Cert.OutDwReferenceIdeal.nD Cert.OutDwReferenceIdeal.τ).loc Cert.OutDwReferenceIdeal.main_arg3) = m ((c.tc : Thread Cert.OutDwIdeal.nD Cert.OutDwIdeal.τ).loc Cert.OutDwIdeal.main_arg3)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2)
          ∧ r.2.mem ((c.tc : Thread Cert.OutDwIdeal.nD Cert.OutDwIdeal.τ).loc Cert.OutDwIdeal.main_arg3) = m ((c.tc : Thread Cert.OutDwIdeal.nD Cert.OutDwIdeal.τ).loc Cert.OutDwIdeal.main_arg3))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2)
          ∧ r.2.mem ((c.tc : Thread Cert.OutDwReferenceIdeal.nD Cert.OutDwReferenceIdeal.τ).loc Cert.OutDwReferenceIdeal.main_arg3) = m' ((c.tc : Thread Cert.OutDwReferenceIdeal.nD Cert.OutDwReferenceIdeal.τ).loc Cert.OutDwReferenceIdeal.main_arg3))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)
      ∧ m' ((c.tc : Thread Cert.OutDxReferenceIdeal.nD Cert.OutDxReferenceIdeal.τ).loc Cert.OutDxReferenceIdeal.main_arg3) = m ((c.tc : Thread Cert.OutDxIdeal.nD Cert.OutDxIdeal.τ).loc Cert.OutDxIdeal.main_arg3)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v2) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2)
          ∧ r.2.mem ((c.tc : Thread Cert.OutDxReferenceIdeal.nD Cert.OutDxReferenceIdeal.τ).loc Cert.OutDxReferenceIdeal.main_arg3) = m' ((c.tc : Thread Cert.OutDxReferenceIdeal.nD Cert.OutDxReferenceIdeal.τ).loc Cert.OutDxReferenceIdeal.main_arg3))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v1) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2))

def preserves_UpFwd_UpFwdIdeal : Prop :=
  True

def algebraic_UpFwdIdeal_UpFwdReferenceIdeal [hUpFwdIdeal : Cert.UpFwdIdeal.Facts] [hUpFwdReferenceIdeal : Cert.UpFwdReferenceIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdIdeal m →
    (∀ c : Dev Cert.UpFwdIdeal.nD,
      m' ((c.tc : Thread Cert.UpFwdReferenceIdeal.nD Cert.UpFwdReferenceIdeal.τ).loc Cert.UpFwdReferenceIdeal.main_arg0) = m ((c.tc : Thread Cert.UpFwdIdeal.nD Cert.UpFwdIdeal.τ).loc Cert.UpFwdIdeal.main_arg0)
      ∧ m' ((c.tc : Thread Cert.UpFwdReferenceIdeal.nD Cert.UpFwdReferenceIdeal.τ).loc Cert.UpFwdReferenceIdeal.main_arg1) = m ((c.tc : Thread Cert.UpFwdIdeal.nD Cert.UpFwdIdeal.τ).loc Cert.UpFwdIdeal.main_arg1)
      ∧ m' ((c.tc : Thread Cert.UpFwdReferenceIdeal.nD Cert.UpFwdReferenceIdeal.τ).loc Cert.UpFwdReferenceIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v14_0)) (v1 : (c : Dev Cert.UpFwdIdeal.nD) → Buf (Elt Ideal) ((c.tc : Thread Cert.UpFwdIdeal.nD Cert.UpFwdIdeal.τ).loc Cert.UpFwdIdeal.main_v14_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v14_0) = v0 c
          ∧ r.2.mem ((c.tc : Thread Cert.UpFwdIdeal.nD Cert.UpFwdIdeal.τ).loc Cert.UpFwdIdeal.main_v14_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v12) = v0 c
          ∧ r.2.mem ((c.tc : Thread Cert.UpFwdReferenceIdeal.nD Cert.UpFwdReferenceIdeal.τ).loc Cert.UpFwdReferenceIdeal.main_v15) = v1 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1)
          ∧ r.2.mem ((c.tc : Thread Cert.UpFwdReferenceIdeal.nD Cert.UpFwdReferenceIdeal.τ).loc Cert.UpFwdReferenceIdeal.main_arg2) = m' ((c.tc : Thread Cert.UpFwdReferenceIdeal.nD Cert.UpFwdReferenceIdeal.τ).loc Cert.UpFwdReferenceIdeal.main_arg2))

def preserves_DownFwd_DownFwdIdeal : Prop :=
  True

def algebraic_DownFwdIdeal_DownFwdReferenceIdeal [hDownFwdIdeal : Cert.DownFwdIdeal.Facts] [hDownFwdReferenceIdeal : Cert.DownFwdReferenceIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdIdeal m →
    (∀ c : Dev Cert.DownFwdIdeal.nD,
      m' ((c.tc : Thread Cert.DownFwdReferenceIdeal.nD Cert.DownFwdReferenceIdeal.τ).loc Cert.DownFwdReferenceIdeal.main_arg0) = m ((c.tc : Thread Cert.DownFwdIdeal.nD Cert.DownFwdIdeal.τ).loc Cert.DownFwdIdeal.main_arg0)
      ∧ m' ((c.tc : Thread Cert.DownFwdReferenceIdeal.nD Cert.DownFwdReferenceIdeal.τ).loc Cert.DownFwdReferenceIdeal.main_arg1) = m ((c.tc : Thread Cert.DownFwdIdeal.nD Cert.DownFwdIdeal.τ).loc Cert.DownFwdIdeal.main_arg1)
      ∧ m' ((c.tc : Thread Cert.DownFwdReferenceIdeal.nD Cert.DownFwdReferenceIdeal.τ).loc Cert.DownFwdReferenceIdeal.main_arg2) = m ((c.tc : Thread Cert.DownFwdIdeal.nD Cert.DownFwdIdeal.τ).loc Cert.DownFwdIdeal.main_arg2)
      ∧ m' ((c.tc : Thread Cert.DownFwdReferenceIdeal.nD Cert.DownFwdReferenceIdeal.τ).loc Cert.DownFwdReferenceIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v17)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v17) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v16) = v0 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1)
          ∧ r.2.mem ((c.tc : Thread Cert.DownFwdReferenceIdeal.nD Cert.DownFwdReferenceIdeal.τ).loc Cert.DownFwdReferenceIdeal.main_arg2) = m' ((c.tc : Thread Cert.DownFwdReferenceIdeal.nD Cert.DownFwdReferenceIdeal.τ).loc Cert.DownFwdReferenceIdeal.main_arg2)
          ∧ r.2.mem ((c.tc : Thread Cert.DownFwdReferenceIdeal.nD Cert.DownFwdReferenceIdeal.τ).loc Cert.DownFwdReferenceIdeal.main_arg3) = m' ((c.tc : Thread Cert.DownFwdReferenceIdeal.nD Cert.DownFwdReferenceIdeal.τ).loc Cert.DownFwdReferenceIdeal.main_arg3))

def preserves_XaBwd_XaBwdIdeal : Prop :=
  True

def algebraic_XaBwdIdeal_XaBwdReferenceIdeal_pre_xa_finite [hXaBwdIdeal : Cert.XaBwdIdeal.Facts] [hXaBwdReferenceIdeal : Cert.XaBwdReferenceIdeal.Facts] [hPre_xa_finite : Cert.Pre_xa_finite.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaBwdReferenceIdeal.nD Cert.XaBwdReferenceIdeal.τ Cert.XaBwdReferenceIdeal.sig) → Buf (Elt Ideal) ℓ) (g' : Dev Cert.XaBwdReferenceIdeal.nD → PrngReg), Pre_XaBwdIdeal_xa_finite m →
    (∀ c : Dev Cert.XaBwdIdeal.nD,
      m' ((c.tc : Thread Cert.XaBwdReferenceIdeal.nD Cert.XaBwdReferenceIdeal.τ).loc Cert.XaBwdReferenceIdeal.main_arg0) = m ((c.tc : Thread Cert.XaBwdIdeal.nD Cert.XaBwdIdeal.τ).loc Cert.XaBwdIdeal.main_arg0)
      ∧ m' ((c.tc : Thread Cert.XaBwdReferenceIdeal.nD Cert.XaBwdReferenceIdeal.τ).loc Cert.XaBwdReferenceIdeal.main_arg1) = m ((c.tc : Thread Cert.XaBwdIdeal.nD Cert.XaBwdIdeal.τ).loc Cert.XaBwdIdeal.main_arg1)
      ∧ m' ((c.tc : Thread Cert.XaBwdReferenceIdeal.nD Cert.XaBwdReferenceIdeal.τ).loc Cert.XaBwdReferenceIdeal.main_arg2) = m ((c.tc : Thread Cert.XaBwdIdeal.nD Cert.XaBwdIdeal.τ).loc Cert.XaBwdIdeal.main_arg2)
      ∧ m' ((c.tc : Thread Cert.XaBwdReferenceIdeal.nD Cert.XaBwdReferenceIdeal.τ).loc Cert.XaBwdReferenceIdeal.main_arg3) = m ((c.tc : Thread Cert.XaBwdIdeal.nD Cert.XaBwdIdeal.τ).loc Cert.XaBwdIdeal.main_arg3)) →
    ∃ (v0 : (c : Dev Cert.XaBwdIdeal.nD) → Buf (Elt Ideal) ((c.tc : Thread Cert.XaBwdIdeal.nD Cert.XaBwdIdeal.τ).loc Cert.XaBwdIdeal.main_v0_0)) (v1 : (c : Dev Cert.XaBwdIdeal.nD) → Buf (Elt Ideal) ((c.tc : Thread Cert.XaBwdIdeal.nD Cert.XaBwdIdeal.τ).loc Cert.XaBwdIdeal.main_v0_1)) (v2 : (c : Dev Cert.XaBwdIdeal.nD) → Buf (Elt Ideal) ((c.tc : Thread Cert.XaBwdIdeal.nD Cert.XaBwdIdeal.τ).loc Cert.XaBwdIdeal.main_v0_2)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v0_0) = v0 c
          ∧ r.2.mem ((c.tc : Thread Cert.XaBwdIdeal.nD Cert.XaBwdIdeal.τ).loc Cert.XaBwdIdeal.main_v0_1) = v1 c
          ∧ r.2.mem ((c.tc : Thread Cert.XaBwdIdeal.nD Cert.XaBwdIdeal.τ).loc Cert.XaBwdIdeal.main_v0_2) = v2 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
          ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ θ_run (Cert.XaBwdReferenceIdeal.defs (F := Ideal)) (onTc (τ := Cert.XaBwdReferenceIdeal.τ) (Cert.XaBwdReferenceIdeal.main (F := Ideal))) ⟨m', fun _ => 0, g'⟩ (fun r => ∀ c : Dev Cert.XaBwdReferenceIdeal.nD,
          r.2.mem ((c.tc : Thread Cert.XaBwdReferenceIdeal.nD Cert.XaBwdReferenceIdeal.τ).loc Cert.XaBwdReferenceIdeal.main_v62) = v0 c
          ∧ r.2.mem ((c.tc : Thread Cert.XaBwdReferenceIdeal.nD Cert.XaBwdReferenceIdeal.τ).loc Cert.XaBwdReferenceIdeal.main_v61) = v1 c
          ∧ r.2.mem ((c.tc : Thread Cert.XaBwdReferenceIdeal.nD Cert.XaBwdReferenceIdeal.τ).loc Cert.XaBwdReferenceIdeal.main_v60) = v2 c
          ∧ r.2.mem ((c.tc : Thread Cert.XaBwdReferenceIdeal.nD Cert.XaBwdReferenceIdeal.τ).loc Cert.XaBwdReferenceIdeal.main_arg0) = m' ((c.tc : Thread Cert.XaBwdReferenceIdeal.nD Cert.XaBwdReferenceIdeal.τ).loc Cert.XaBwdReferenceIdeal.main_arg0)
          ∧ r.2.mem ((c.tc : Thread Cert.XaBwdReferenceIdeal.nD Cert.XaBwdReferenceIdeal.τ).loc Cert.XaBwdReferenceIdeal.main_arg1) = m' ((c.tc : Thread Cert.XaBwdReferenceIdeal.nD Cert.XaBwdReferenceIdeal.τ).loc Cert.XaBwdReferenceIdeal.main_arg1)
          ∧ r.2.mem ((c.tc : Thread Cert.XaBwdReferenceIdeal.nD Cert.XaBwdReferenceIdeal.τ).loc Cert.XaBwdReferenceIdeal.main_arg2) = m' ((c.tc : Thread Cert.XaBwdReferenceIdeal.nD Cert.XaBwdReferenceIdeal.τ).loc Cert.XaBwdReferenceIdeal.main_arg2)
          ∧ r.2.mem ((c.tc : Thread Cert.XaBwdReferenceIdeal.nD Cert.XaBwdReferenceIdeal.τ).loc Cert.XaBwdReferenceIdeal.main_arg3) = m' ((c.tc : Thread Cert.XaBwdReferenceIdeal.nD Cert.XaBwdReferenceIdeal.τ).loc Cert.XaBwdReferenceIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hUpDx : Cert.UpDx.Facts) (hUpDxIdeal : Cert.UpDxIdeal.Facts) (hUpDxReferenceIdeal : Cert.UpDxReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hInFwd : Cert.InFwd.Facts) (hInFwdIdeal : Cert.InFwdIdeal.Facts) (hInFwdReferenceIdeal : Cert.InFwdReferenceIdeal.Facts) (hOutDw : Cert.OutDw.Facts) (hOutDwIdeal : Cert.OutDwIdeal.Facts) (hOutDwReferenceIdeal : Cert.OutDwReferenceIdeal.Facts) (hOutDx : Cert.OutDx.Facts) (hOutDxIdeal : Cert.OutDxIdeal.Facts) (hOutDxReferenceIdeal : Cert.OutDxReferenceIdeal.Facts) (hOutFwd : Cert.OutFwd.Facts) (hOutFwdIdeal : Cert.OutFwdIdeal.Facts) (hOutFwdReferenceIdeal : Cert.OutFwdReferenceIdeal.Facts) (hUpFwd : Cert.UpFwd.Facts) (hUpFwdIdeal : Cert.UpFwdIdeal.Facts) (hUpFwdReferenceIdeal : Cert.UpFwdReferenceIdeal.Facts) (hDownFwd : Cert.DownFwd.Facts) (hDownFwdIdeal : Cert.DownFwdIdeal.Facts) (hDownFwdReferenceIdeal : Cert.DownFwdReferenceIdeal.Facts) (hXaBwd : Cert.XaBwd.Facts) (hXaBwdIdeal : Cert.XaBwdIdeal.Facts) (hXaBwdReferenceIdeal : Cert.XaBwdReferenceIdeal.Facts) (hPre_finite : Cert.Pre_finite.Facts) (hPre_xa_finite : Cert.Pre_xa_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_UpFwd (hUpFwd := hUpFwd)
    ∧ quiescent_UpFwdIdeal (hUpFwdIdeal := hUpFwdIdeal)
    ∧ quiescent_UpFwdReferenceIdeal (hUpFwdReferenceIdeal := hUpFwdReferenceIdeal)
    ∧ quiescent_DownFwd (hDownFwd := hDownFwd)
    ∧ quiescent_DownFwdIdeal (hDownFwdIdeal := hDownFwdIdeal)
    ∧ quiescent_DownFwdReferenceIdeal (hDownFwdReferenceIdeal := hDownFwdReferenceIdeal)
    ∧ quiescent_XaBwd (hXaBwd := hXaBwd)
    ∧ quiescent_XaBwdIdeal (hXaBwdIdeal := hXaBwdIdeal)
    ∧ quiescent_XaBwdIdeal_pre_xa_finite (hXaBwdIdeal := hXaBwdIdeal) (hPre_xa_finite := hPre_xa_finite)
    ∧ quiescent_XaBwdReferenceIdeal (hXaBwdReferenceIdeal := hXaBwdReferenceIdeal)
    ∧ quiescent_XaBwdReferenceIdeal_pre_xa_finite (hXaBwdReferenceIdeal := hXaBwdReferenceIdeal) (hPre_xa_finite := hPre_xa_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_InFwd_InFwdIdeal
    ∧ algebraic_InFwdIdeal_InFwdReferenceIdeal (hInFwdIdeal := hInFwdIdeal) (hInFwdReferenceIdeal := hInFwdReferenceIdeal)
    ∧ preserves_OutDw_OutDwIdeal
    ∧ algebraic_OutDwIdeal_OutDwReferenceIdeal (hOutDwIdeal := hOutDwIdeal) (hOutDwReferenceIdeal := hOutDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_UpFwd_UpFwdIdeal
    ∧ algebraic_UpFwdIdeal_UpFwdReferenceIdeal (hUpFwdIdeal := hUpFwdIdeal) (hUpFwdReferenceIdeal := hUpFwdReferenceIdeal)
    ∧ preserves_DownFwd_DownFwdIdeal
    ∧ algebraic_DownFwdIdeal_DownFwdReferenceIdeal (hDownFwdIdeal := hDownFwdIdeal) (hDownFwdReferenceIdeal := hDownFwdReferenceIdeal)
    ∧ preserves_XaBwd_XaBwdIdeal
    ∧ algebraic_XaBwdIdeal_XaBwdReferenceIdeal_pre_xa_finite (hXaBwdIdeal := hXaBwdIdeal) (hXaBwdReferenceIdeal := hXaBwdReferenceIdeal) (hPre_xa_finite := hPre_xa_finite)
-- ==== Pre_finite.lean ====
abbrev S2048x1024 : Shape := ⟨2, ![2048, 1024]⟩
abbrev S2048x3072 : Shape := ⟨2, ![2048, 3072]⟩
abbrev S8x16x128x128 : Shape := ⟨4, ![8, 16, 128, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x3072 : S_.BroadcastsInDim S2048x3072 (![] : Fin 0 → Fin S2048x3072.rank)
  reducesTo_S2048x3072_S_d0_1 : S2048x3072.ReducesTo [0, 1] S_
  bcast_S_S8x16x128x128 : S_.BroadcastsInDim S8x16x128x128 (![] : Fin 0 → Fin S8x16x128x128.rank)
  reducesTo_S8x16x128x128_S_d0_1_2_3 : S8x16x128x128.ReducesTo [0, 1, 2, 3] S_

variable [Facts]

def fn_part2 {F : FTy → Type} [FloatOps F] (main_arg7 : FVec F S8x16x128x128 .f32) (main_arg8 : FVec F S2048x1024 .f32) (main_v33 : IVec S_ 1) : IVec S_ 1 :=
  let main_v34 : FVec F S8x16x128x128 .f32 := Host.absf main_arg7
  let main_cst_12 : FVec F S_ .f32 := constant S_ .f32 0x7F800000#32
  let main_v35 : FVec F S8x16x128x128 .f32 := broadcastInDim S8x16x128x128 ![] bcast_S_S8x16x128x128 main_cst_12
  let main_v36 : IVec S8x16x128x128 1 := cmpf .olt main_v34 main_v35
  let main_c_13 : IVec S_ 1 := constantI S_ 1 1#1
  let main_v37 : IVec S_ 1 := (fun x v => Host.reduce IntOp.andi x v reducesTo_S8x16x128x128_S_d0_1_2_3 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  main_v43

def fn_part1 {F : FTy → Type} [FloatOps F] (main_arg4 : FVec F S2048x1024 .f32) (main_arg5 : FVec F S2048x1024 .f32) (main_arg6 : FVec F S8x16x128x128 .f32) (main_arg7 : FVec F S8x16x128x128 .f32) (main_arg8 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S8x16x128x128 .f32 := Host.absf main_arg6
  let main_cst_10 : FVec F S_ .f32 := constant S_ .f32 0x7F800000#32
  let main_v30 : FVec F S8x16x128x128 .f32 := broadcastInDim S8x16x128x128 ![] bcast_S_S8x16x128x128 main_cst_10
  let main_v31 : IVec S8x16x128x128 1 := cmpf .olt main_v29 main_v30
  let main_c_11 : IVec S_ 1 := constantI S_ 1 1#1
  let main_v32 : IVec S_ 1 := (fun x v => Host.reduce IntOp.andi x v reducesTo_S8x16x128x128_S_d0_1_2_3 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S2048x1024 .f32) (main_arg2 : FVec F S2048x3072 .f32) (main_arg3 : FVec F S2048x1024 .f32) (main_arg4 : FVec F S2048x1024 .f32) (main_arg5 : FVec F S2048x1024 .f32) (main_arg6 : FVec F S8x16x128x128 .f32) (main_arg7 : FVec F S8x16x128x128 .f32) (main_arg8 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x3072 .f32 := Host.absf main_arg2
  let main_cst_2 : FVec F S_ .f32 := constant S_ .f32 0x7F800000#32
  let main_v10 : FVec F S2048x3072 .f32 := broadcastInDim S2048x3072 ![] bcast_S_S2048x3072 main_cst_2
  let main_v11 : IVec S2048x3072 1 := cmpf .olt main_v9 main_v10
  let main_c_3 : IVec S_ 1 := constantI S_ 1 1#1
  let main_v12 : IVec S_ 1 := (fun x v => Host.reduce IntOp.andi x v reducesTo_S2048x3072_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_v13 main_v16
-- ==== Pre_xa_finite.lean ====
abbrev S2048x512 : Shape := ⟨2, ![2048, 512]⟩
abbrev S256x512 : Shape := ⟨2, ![256, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  main_v18

def fn {F : FTy → Type} [FloatOps F] (main_arg0 : FVec F S2048x512 .f32) (main_arg1 : FVec F S256x512 .f32) (main_arg2 : FVec F S256x512 .f32) (main_arg3 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_v13 main_v16
-- ==== Kernel.lean ====
abbrev S2048x1024 : Shape := ⟨2, ![2048, 1024]⟩
abbrev S2048x3072 : Shape := ⟨2, ![2048, 3072]⟩
abbrev S8x16x128x128 : Shape := ⟨4, ![8, 16, 128, 128]⟩
abbrev S128x1024 : Shape := ⟨2, ![128, 1024]⟩
abbrev S8x1x128x128 : Shape := ⟨4, ![8, 1, 128, 128]⟩
abbrev S8x128x128 : Shape := ⟨3, ![8, 128, 128]⟩
abbrev S128x128 : Shape := ⟨2, ![128, 128]⟩
abbrev S1x128x128 : Shape := ⟨3, ![1, 128, 128]⟩
abbrev S8x128x256 : Shape := ⟨3, ![8, 128, 256]⟩
abbrev S8x128 : Shape := ⟨2, ![8, 128]⟩
abbrev S8x1x128 : Shape := ⟨3, ![8, 1, 128]⟩
abbrev S7x128x128 : Shape := ⟨3, ![7, 128, 128]⟩
abbrev S6x128x128 : Shape := ⟨3, ![6, 128, 128]⟩
abbrev S5x128x128 : Shape := ⟨3, ![5, 128, 128]⟩
abbrev S2x128x128 : Shape := ⟨3, ![2, 128, 128]⟩
abbrev S4x128x128 : Shape := ⟨3, ![4, 128, 128]⟩
abbrev S3x128x128 : Shape := ⟨3, ![3, 128, 128]⟩

abbrev nBuf : Space → Nat
  | .hbm => 15
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S8x16x128x128, .f32⟩
  | .hbm, ⟨7, _⟩ => ⟨S8x16x128x128, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S8x1x128x128, .f32⟩
  | .local _ .vmem, ⟨13, _⟩ => ⟨S8x1x128x128, .f32⟩
  | .local _ .vmem, ⟨14, _⟩ => ⟨S8x1x128x128, .f32⟩
  | .local _ .vmem, ⟨15, _⟩ => ⟨S8x1x128x128, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S8x128x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2048x1024 : Shape := ⟨2, ![2048, 1024]⟩
abbrev S2048x3072 : Shape := ⟨2, ![2048, 3072]⟩
abbrev S8x16x128x128 : Shape := ⟨4, ![8, 16, 128, 128]⟩
abbrev S16x128x8x128 : Shape := ⟨4, ![16, 128, 8, 128]⟩
abbrev S16x8x128x128 : Shape := ⟨4, ![16, 8, 128, 128]⟩
abbrev S_ : Shape := ⟨0, ![]⟩
abbrev S8x128x128 : Shape := ⟨3, ![8, 128, 128]⟩
abbrev S1x8x128x128 : Shape := ⟨4, ![1, 8, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x128 : Shape := ⟨2, ![8, 128]⟩
abbrev S8x1x128 : Shape := ⟨3, ![8, 1, 128]⟩
abbrev S8x128x256 : Shape := ⟨3, ![8, 128, 256]⟩
abbrev S8x256x128 : Shape := ⟨3, ![8, 256, 128]⟩
abbrev S128x8x128 : Shape := ⟨3, ![128, 8, 128]⟩
abbrev S128x1024 : Shape := ⟨2, ![128, 1024]⟩
abbrev S1920x1024 : Shape := ⟨2, ![1920, 1024]⟩

abbrev nBuf : Space → Nat
  | .hbm => 271
  | .vmem => 0
  | .smem => 0
  | _ => 0

abbrev hbmTy0_0 (i : Nat) : BufTy := match i % 128 with
  | 0 => ⟨S2048x1024, .f32⟩
  | 1 => ⟨S2048x1024, .f32⟩
  | 2 => ⟨S2048x3072, .f32⟩
  | 3 => ⟨S2048x1024, .f32⟩
  | 4 => ⟨S2048x1024, .f32⟩
  | 5 => ⟨S2048x1024, .f32⟩
  | 6 => ⟨S8x16x128x128, .f32⟩
  | 7 => ⟨S8x16x128x128, .f32⟩
  | 8 => ⟨S2048x1024, .f32⟩
  | 9 => ⟨S2048x1024, .f32⟩
  | 10 => ⟨S16x128x8x128, .f32⟩
  | 11 => ⟨S16x8x128x128, .f32⟩
  | 12 => ⟨S16x128x8x128, .f32⟩
  | 13 => ⟨S16x8x128x128, .f32⟩
  | 14 => ⟨S16x128x8x128, .f32⟩
  | 15 => ⟨S16x8x128x128, .f32⟩
  | 16 => ⟨S16x128x8x128, .f32⟩
  | 17 => ⟨S16x8x128x128, .f32⟩
  | 18 => ⟨S16x128x8x128, .f32⟩
  | 19 => ⟨S16x8x128x128, .f32⟩
  | 20 => ⟨S16x128x8x128, .f32⟩
  | 21 => ⟨S16x8x128x128, .f32⟩
  | 22 => ⟨S16x128x8x128, .f32⟩
  | 23 => ⟨S16x8x128x128, .f32⟩
  | 24 => ⟨S16x8x128x128, .f32⟩
  | 25 => ⟨S16x8x128x128, .f32⟩
  | 26 => ⟨S_, .f32⟩
  | 27 => ⟨S8x128x128, .f32⟩
  | 28 => ⟨S_, .f32⟩
  | 29 => ⟨S2048x1024, .f32⟩
  | 30 => ⟨S_, .i32⟩
  | 31 => ⟨S16x8x128x128, .f32⟩
  | 32 => ⟨S16x8x128x128, .f32⟩
  | 33 => ⟨S16x8x128x128, .f32⟩
  | 34 => ⟨S16x8x128x128, .f32⟩
  | 35 => ⟨S16x8x128x128, .f32⟩
  | 36 => ⟨S16x8x128x128, .f32⟩
  | 37 => ⟨S16x8x128x128, .f32⟩
  | 38 => ⟨S16x8x128x128, .f32⟩
  | 39 => ⟨S16x8x128x128, .f32⟩
  | 40 => ⟨S_, .i32⟩
  | 41 => ⟨S8x128x128, .f32⟩
  | 42 => ⟨S2048x1024, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x8x128x128, .f32⟩
  | 58 => ⟨S8x128x128, .f32⟩
  | 59 => ⟨S_, .i32⟩
  | 60 => ⟨S_, .i32⟩
  | 61 => ⟨S_, .i32⟩
  | 62 => ⟨S1x8x128x128, .f32⟩
  | 63 => ⟨S8x128x128, .f32⟩
  | 64 => ⟨S_, .i32⟩
  | 65 => ⟨S_, .i32⟩
  | 66 => ⟨S_, .i32⟩
  | 67 => ⟨S1x8x128x128, .f32⟩
  | 68 => ⟨S8x128x128, .f32⟩
  | 69 => ⟨S_, .i32⟩
  | 70 => ⟨S_, .i32⟩
  | 71 => ⟨S_, .i32⟩
  | 72 => ⟨S1x8x128x128, .f32⟩
  | 73 => ⟨S8x128x128, .f32⟩
  | 74 => ⟨S_, .i32⟩
  | 75 => ⟨S_, .i32⟩
  | 76 => ⟨S_, .i32⟩
  | 77 => ⟨S1x8x128x128, .f32⟩
  | 78 => ⟨S8x128x128, .f32⟩
  | 79 => ⟨S_, .i32⟩
  | 80 => ⟨S_, .i32⟩
  | 81 => ⟨S_, .i32⟩
  | 82 => ⟨S1x8x128x128, .f32⟩
  | 83 => ⟨S8x128x128, .f32⟩
  | 84 => ⟨S_, .i32⟩
  | 85 => ⟨S_, .i32⟩
  | 86 => ⟨S_, .i32⟩
  | 87 => ⟨S1x8x128x128, .f32⟩
  | 88 => ⟨S8x128x128, .f32⟩
  | 89 => ⟨S_, .i32⟩
  | 90 => ⟨S_, .i32⟩
  | 91 => ⟨S_, .i32⟩
  | 92 => ⟨S1x8x128x128, .f32⟩
  | 93 => ⟨S8x128x128, .f32⟩
  | 94 => ⟨S_, .i32⟩
  | 95 => ⟨S_, .i32⟩
  | 96 => ⟨S_, .i32⟩
  | 97 => ⟨S1x8x128x128, .f32⟩
  | 98 => ⟨S8x128x128, .f32⟩
  | 99 => ⟨S128, .i32⟩
  | 100 => ⟨S128x1, .i32⟩
  | 101 => ⟨S1x128, .i32⟩
  | 102 => ⟨S128x128, .i32⟩
  | 103 => ⟨S128x128, .i32⟩
  | 104 => ⟨S128x128, .i1⟩
  | 105 => ⟨S128x1, .i32⟩
  | 106 => ⟨S1x128, .i32⟩
  | 107 => ⟨S128x128, .i32⟩
  | 108 => ⟨S128x128, .i32⟩
  | 109 => ⟨S128x128, .i1⟩
  | 110 => ⟨S8x128x128, .f32⟩
  | 111 => ⟨S8x128x128, .f32⟩
  | 112 => ⟨S_, .f32⟩
  | 113 => ⟨S_, .f32⟩
  | 114 => ⟨S8x128x128, .i1⟩
  | 115 => ⟨S8x128x128, .f32⟩
  | 116 => ⟨S8x128x128, .f32⟩
  | 117 => ⟨S_, .f32⟩
  | 118 => ⟨S8x128x128, .f32⟩
  | 119 => ⟨S8x128x128, .f32⟩
  | 120 => ⟨S_, .f32⟩
  | 121 => ⟨S8x128, .f32⟩
  | 122 => ⟨S8x1x128, .f32⟩
  | 123 => ⟨S8x128x128, .f32⟩
  | 124 => ⟨S8x128x128, .f32⟩
  | 125 => ⟨S8x128x128, .f32⟩
  | 126 => ⟨S8x128x128, .f32⟩
  | 127 => ⟨S8x128x128, .f32⟩
  | _ => ⟨S2048x1024, .f32⟩

abbrev hbmTy0_1 (i : Nat) : BufTy := match i % 128 with
  | 0 => ⟨S8x128x128, .f32⟩
  | 1 => ⟨S8x128x128, .f32⟩
  | 2 => ⟨S_, .f32⟩
  | 3 => ⟨S_, .f32⟩
  | 4 => ⟨S8x128x128, .i1⟩
  | 5 => ⟨S8x128x128, .f32⟩
  | 6 => ⟨S8x128x128, .f32⟩
  | 7 => ⟨S_, .f32⟩
  | 8 => ⟨S8x128x128, .f32⟩
  | 9 => ⟨S8x128x128, .f32⟩
  | 10 => ⟨S8x128x128, .f32⟩
  | 11 => ⟨S8x128x128, .f32⟩
  | 12 => ⟨S8x128x256, .f32⟩
  | 13 => ⟨S8x128x256, .f32⟩
  | 14 => ⟨S8x128x128, .f32⟩
  | 15 => ⟨S8x128x128, .f32⟩
  | 16 => ⟨S8x128x128, .f32⟩
  | 17 => ⟨S8x128x128, .f32⟩
  | 18 => ⟨S8x128x128, .f32⟩
  | 19 => ⟨S8x128x128, .f32⟩
  | 20 => ⟨S8x128x128, .f32⟩
  | 21 => ⟨S8x128x128, .f32⟩
  | 22 => ⟨S8x128x128, .f32⟩
  | 23 => ⟨S8x128x128, .f32⟩
  | 24 => ⟨S8x128x128, .f32⟩
  | 25 => ⟨S8x1x128, .f32⟩
  | 26 => ⟨S8x128x128, .f32⟩
  | 27 => ⟨S8x128x128, .f32⟩
  | 28 => ⟨S8x128x128, .f32⟩
  | 29 => ⟨S8x128x128, .f32⟩
  | 30 => ⟨S8x128x128, .f32⟩
  | 31 => ⟨S8x128x128, .f32⟩
  | 32 => ⟨S8x128x128, .f32⟩
  | 33 => ⟨S8x128x128, .f32⟩
  | 34 => ⟨S8x128x128, .f32⟩
  | 35 => ⟨S_, .f32⟩
  | 36 => ⟨S8x128, .f32⟩
  | 37 => ⟨S8x1x128, .f32⟩
  | 38 => ⟨S8x128x128, .f32⟩
  | 39 => ⟨S8x128x128, .f32⟩
  | 40 => ⟨S8x1x128, .f32⟩
  | 41 => ⟨S8x128x128, .f32⟩
  | 42 => ⟨S8x128x128, .f32⟩
  | 43 => ⟨S8x128x128, .f32⟩
  | 44 => ⟨S8x128x128, .f32⟩
  | 45 => ⟨S8x128x128, .f32⟩
  | 46 => ⟨S8x128x128, .f32⟩
  | 47 => ⟨S8x128x128, .f32⟩
  | 48 => ⟨S8x128x128, .f32⟩
  | 49 => ⟨S8x128x128, .f32⟩
  | 50 => ⟨S8x128x128, .f32⟩
  | 51 => ⟨S8x128x128, .f32⟩
  | 52 => ⟨S8x128x128, .f32⟩
  | 53 => ⟨S8x128x128, .f32⟩
  | 54 => ⟨S8x128x128, .f32⟩
  | 55 => ⟨S8x128x128, .f32⟩
  | 56 => ⟨S8x128x128, .f32⟩
  | 57 => ⟨S8x128x128, .f32⟩
  | 58 => ⟨S8x128x128, .f32⟩
  | 59 => ⟨S8x128x128, .f32⟩
  | 60 => ⟨S8x128x128, .f32⟩
  | 61 => ⟨S8x128x128, .f32⟩
  | 62 => ⟨S_, .f32⟩
  | 63 => ⟨S8x128x256, .f32⟩
  | 64 => ⟨S_, .f32⟩
  | 65 => ⟨S8x128x256, .f32⟩
  | 66 => ⟨S8x128x256, .f32⟩
  | 67 => ⟨S8x128x128, .f32⟩
  | 68 => ⟨S8x128x256, .f32⟩
  | 69 => ⟨S8x256x128, .f32⟩
  | 70 => ⟨S8x128x128, .f32⟩
  | 71 => ⟨S8x128x128, .f32⟩
  | 72 => ⟨S_, .f32⟩
  | 73 => ⟨S8x128x128, .f32⟩
  | 74 => ⟨S8x128x128, .f32⟩
  | 75 => ⟨S8x128x128, .f32⟩
  | 76 => ⟨S8x128x128, .f32⟩
  | 77 => ⟨S8x128x128, .f32⟩
  | 78 => ⟨S8x128x128, .f32⟩
  | 79 => ⟨S8x128x128, .f32⟩
  | 80 => ⟨S8x128x128, .f32⟩
  | 81 => ⟨S8x128x128, .f32⟩
  | 82 => ⟨S_, .f32⟩
  | 83 => ⟨S8x128x128, .f32⟩
  | 84 => ⟨S8x128x128, .f32⟩
  | 85 => ⟨S8x128x128, .f32⟩
  | 86 => ⟨S8x128x128, .f32⟩
  | 87 => ⟨S8x128x128, .f32⟩
  | 88 => ⟨S8x128x128, .f32⟩
  | 89 => ⟨S8x128x128, .f32⟩
  | 90 => ⟨S8x128x128, .f32⟩
  | 91 => ⟨S8x128x128, .f32⟩
  | 92 => ⟨S8x128x128, .f32⟩
  | 93 => ⟨S8x128x128, .f32⟩
  | 94 => ⟨S8x128x128, .f32⟩
  | 95 => ⟨S8x128x128, .f32⟩
  | 96 => ⟨S8x128x128, .f32⟩
  | 97 => ⟨S8x128x128, .f32⟩
  | 98 => ⟨S8x128x128, .f32⟩
  | 99 => ⟨S8x128x128, .f32⟩
  | 100 => ⟨S_, .f32⟩
  | 101 => ⟨S8x128, .f32⟩
  | 102 => ⟨S8x1x128, .f32⟩
  | 103 => ⟨S8x128x128, .f32⟩
  | 104 => ⟨S8x1x128, .f32⟩
  | 105 => ⟨S8x128x128, .f32⟩
  | 106 => ⟨S_, .f32⟩
  | 107 => ⟨S8x128, .f32⟩
  | 108 => ⟨S8x128x128, .f32⟩
  | 109 => ⟨S8x128x128, .f32⟩
  | 110 => ⟨S_, .f32⟩
  | 111 => ⟨S8x128x128, .f32⟩
  | 112 => ⟨S8x128x128, .f32⟩
  | 113 => ⟨S8x128x128, .f32⟩
  | 114 => ⟨S8x128x128, .f32⟩
  | 115 => ⟨S8x128x128, .f32⟩
  | 116 => ⟨S8x128x128, .f32⟩
  | 117 => ⟨S128x8x128, .f32⟩
  | 118 => ⟨S128x1024, .f32⟩
  | 119 => ⟨S128x8x128, .f32⟩
  | 120 => ⟨S128x1024, .f32⟩
  | 121 => ⟨S128x8x128, .f32⟩
  | 122 => ⟨S128x1024, .f32⟩
  | 123 => ⟨S128x8x128, .f32⟩
  | 124 => ⟨S128x1024, .f32⟩
  | 125 => ⟨S128x8x128, .f32⟩
  | 126 => ⟨S128x1024, .f32⟩
  | 127 => ⟨S128x8x128, .f32⟩
  | _ => ⟨S2048x1024, .f32⟩

abbrev hbmTy0_2 (i : Nat) : BufTy := match i % 128 with
  | 0 => ⟨S128x1024, .f32⟩
  | 1 => ⟨S1920x1024, .f32⟩
  | 2 => ⟨S2048x1024, .f32⟩
  | 3 => ⟨S1920x1024, .f32⟩
  | 4 => ⟨S2048x1024, .f32⟩
  | 5 => ⟨S1920x1024, .f32⟩
  | 6 => ⟨S2048x1024, .f32⟩
  | 7 => ⟨S1920x1024, .f32⟩
  | 8 => ⟨S2048x1024, .f32⟩
  | 9 => ⟨S1920x1024, .f32⟩
  | 10 => ⟨S2048x1024, .f32⟩
  | 11 => ⟨S1920x1024, .f32⟩
  | 12 => ⟨S2048x1024, .f32⟩
  | 13 => ⟨S_, .i32⟩
  | 14 => ⟨S_, .i32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_c : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev main_v19_6 : Ref sig .tc := ⟨.hbm, 37, rfl⟩
abbrev main_v19_7 : Ref sig .tc := ⟨.hbm, 38, rfl⟩
abbrev main_v19_8 : Ref sig .tc := ⟨.hbm, 39, rfl⟩
abbrev main_v19_9 : Ref sig .tc := ⟨.hbm, 40, rfl⟩
abbrev main_v19_10 : Ref sig .tc := ⟨.hbm, 41, rfl⟩
abbrev main_v19_11 : Ref sig .tc := ⟨.hbm, 42, rfl⟩
abbrev main_v19_12 : Ref sig .tc := ⟨.hbm, 43, rfl⟩
abbrev main_v19_13 : Ref sig .tc := ⟨.hbm, 44, rfl⟩
abbrev main_v19_14 : Ref sig .tc := ⟨.hbm, 45, rfl⟩
abbrev main_v19_15 : Ref sig .tc := ⟨.hbm, 46, rfl⟩
abbrev main_v19_16 : Ref sig .tc := ⟨.hbm, 47, rfl⟩
abbrev main_while0c_c_17 : Ref sig .tc := ⟨.hbm, 48, rfl⟩
abbrev main_while0c_v20 : Ref sig .tc := ⟨.hbm, 49, rfl⟩
abbrev main_while0b_c_17 : Ref sig .tc := ⟨.hbm, 50, rfl⟩
abbrev main_while0b_v20 : Ref sig .tc := ⟨.hbm, 51, rfl⟩
abbrev main_while0b_c_18 : Ref sig .tc := ⟨.hbm, 52, rfl⟩
abbrev main_while0b_v21 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_c_1 : Ref sig .tc := ⟨.hbm, 56, rfl⟩
abbrev main_while0b_call0_v0 : Ref sig .tc := ⟨.hbm, 57, rfl⟩
abbrev main_while0b_v22 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_c_1 : Ref sig .tc := ⟨.hbm, 61, rfl⟩
abbrev main_while0b_call1_v0 : Ref sig .tc := ⟨.hbm, 62, rfl⟩
abbrev main_while0b_v23 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_c_1 : Ref sig .tc := ⟨.hbm, 66, rfl⟩
abbrev main_while0b_call2_v0 : Ref sig .tc := ⟨.hbm, 67, rfl⟩
abbrev main_while0b_v24 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_c_1 : Ref sig .tc := ⟨.hbm, 71, rfl⟩
abbrev main_while0b_call3_v0 : Ref sig .tc := ⟨.hbm, 72, rfl⟩
abbrev main_while0b_v25 : Ref sig .tc := ⟨.hbm, 73, rfl⟩
abbrev main_while0b_call4_c : Ref sig .tc := ⟨.hbm, 74, rfl⟩
abbrev main_while0b_call4_c_0 : Ref sig .tc := ⟨.hbm, 75, rfl⟩
abbrev main_while0b_call4_c_1 : Ref sig .tc := ⟨.hbm, 76, rfl⟩
abbrev main_while0b_call4_v0 : Ref sig .tc := ⟨.hbm, 77, rfl⟩
abbrev main_while0b_v26 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_c_1 : Ref sig .tc := ⟨.hbm, 81, rfl⟩
abbrev main_while0b_call5_v0 : Ref sig .tc := ⟨.hbm, 82, rfl⟩
abbrev main_while0b_v27 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_v0 : Ref sig .tc := ⟨.hbm, 87, rfl⟩
abbrev main_while0b_v28 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_call7_v0 : Ref sig .tc := ⟨.hbm, 92, rfl⟩
abbrev main_while0b_v29 : Ref sig .tc := ⟨.hbm, 93, rfl⟩
abbrev main_while0b_call8_c : Ref sig .tc := ⟨.hbm, 94, rfl⟩
abbrev main_while0b_call8_c_0 : Ref sig .tc := ⟨.hbm, 95, rfl⟩
abbrev main_while0b_call8_c_1 : Ref sig .tc := ⟨.hbm, 96, rfl⟩
abbrev main_while0b_call8_v0 : Ref sig .tc := ⟨.hbm, 97, rfl⟩
abbrev main_while0b_v30 : Ref sig .tc := ⟨.hbm, 98, rfl⟩
abbrev main_while0b_v31 : Ref sig .tc := ⟨.hbm, 99, rfl⟩
abbrev main_while0b_v32 : Ref sig .tc := ⟨.hbm, 100, rfl⟩
abbrev main_while0b_v33 : Ref sig .tc := ⟨.hbm, 101, rfl⟩
abbrev main_while0b_v34 : Ref sig .tc := ⟨.hbm, 102, rfl⟩
abbrev main_while0b_v35 : Ref sig .tc := ⟨.hbm, 103, rfl⟩
abbrev main_while0b_v36 : Ref sig .tc := ⟨.hbm, 104, rfl⟩
abbrev main_while0b_v37 : Ref sig .tc := ⟨.hbm, 105, rfl⟩
abbrev main_while0b_v38 : Ref sig .tc := ⟨.hbm, 106, rfl⟩
abbrev main_while0b_v39 : Ref sig .tc := ⟨.hbm, 107, rfl⟩
abbrev main_while0b_v40 : Ref sig .tc := ⟨.hbm, 108, rfl⟩
abbrev main_while0b_v41 : Ref sig .tc := ⟨.hbm, 109, rfl⟩
abbrev main_while0b_v42 : Ref sig .tc := ⟨.hbm, 110, rfl⟩
abbrev main_while0b_v43 : Ref sig .tc := ⟨.hbm, 111, rfl⟩
abbrev main_while0b_cst_19 : Ref sig .tc := ⟨.hbm, 112, rfl⟩
abbrev main_while0b_call9_v0 : Ref sig .tc := ⟨.hbm, 113, rfl⟩
abbrev main_while0b_v44_1 : Ref sig .tc := ⟨.hbm, 114, rfl⟩
abbrev main_while0b_call9_v2 : Ref sig .tc := ⟨.hbm, 115, rfl⟩
abbrev main_while0b_v44_0 : Ref sig .tc := ⟨.hbm, 116, rfl⟩
abbrev main_while0b_call9_cst : Ref sig .tc := ⟨.hbm, 117, rfl⟩
abbrev main_while0b_v44_2 : Ref sig .tc := ⟨.hbm, 118, rfl⟩
abbrev main_while0b_v45 : Ref sig .tc := ⟨.hbm, 119, rfl⟩
abbrev main_while0b_cst_20 : Ref sig .tc := ⟨.hbm, 120, rfl⟩
abbrev main_while0b_v46 : Ref sig .tc := ⟨.hbm, 121, rfl⟩
abbrev main_while0b_v47 : Ref sig .tc := ⟨.hbm, 122, rfl⟩
abbrev main_while0b_v48 : Ref sig .tc := ⟨.hbm, 123, rfl⟩
abbrev main_while0b_v49 : Ref sig .tc := ⟨.hbm, 124, rfl⟩
abbrev main_while0b_v50 : Ref sig .tc := ⟨.hbm, 125, rfl⟩
abbrev main_while0b_v51 : Ref sig .tc := ⟨.hbm, 126, rfl⟩
abbrev main_while0b_v52 : Ref sig .tc := ⟨.hbm, 127, rfl⟩
abbrev main_while0b_v53 : Ref sig .tc := ⟨.hbm, 128, rfl⟩
abbrev main_while0b_v54 : Ref sig .tc := ⟨.hbm, 129, rfl⟩
abbrev main_while0b_cst_21 : Ref sig .tc := ⟨.hbm, 130, rfl⟩
abbrev main_while0b_call10_v0 : Ref sig .tc := ⟨.hbm, 131, rfl⟩
abbrev main_while0b_v55_1 : Ref sig .tc := ⟨.hbm, 132, rfl⟩
abbrev main_while0b_call10_v2 : Ref sig .tc := ⟨.hbm, 133, rfl⟩
abbrev main_while0b_v55_0 : Ref sig .tc := ⟨.hbm, 134, rfl⟩
abbrev main_while0b_call10_cst : Ref sig .tc := ⟨.hbm, 135, rfl⟩
abbrev main_while0b_v55_2 : Ref sig .tc := ⟨.hbm, 136, rfl⟩
abbrev main_while0b_v56 : Ref sig .tc := ⟨.hbm, 137, rfl⟩
abbrev main_while0b_v57 : Ref sig .tc := ⟨.hbm, 138, rfl⟩
abbrev main_while0b_v58 : Ref sig .tc := ⟨.hbm, 139, rfl⟩
abbrev main_while0b_v59 : Ref sig .tc := ⟨.hbm, 140, rfl⟩
abbrev main_while0b_v60 : Ref sig .tc := ⟨.hbm, 141, rfl⟩
abbrev main_while0b_v61 : Ref sig .tc := ⟨.hbm, 142, rfl⟩
abbrev main_while0b_v62 : Ref sig .tc := ⟨.hbm, 143, rfl⟩
abbrev main_while0b_v63 : Ref sig .tc := ⟨.hbm, 144, rfl⟩
abbrev main_while0b_v64 : Ref sig .tc := ⟨.hbm, 145, rfl⟩
abbrev main_while0b_v65 : Ref sig .tc := ⟨.hbm, 146, rfl⟩
abbrev main_while0b_v66 : Ref sig .tc := ⟨.hbm, 147, rfl⟩
abbrev main_while0b_v67 : Ref sig .tc := ⟨.hbm, 148, rfl⟩
abbrev main_while0b_v68 : Ref sig .tc := ⟨.hbm, 149, rfl⟩
abbrev main_while0b_v69 : Ref sig .tc := ⟨.hbm, 150, rfl⟩
abbrev main_while0b_v70 : Ref sig .tc := ⟨.hbm, 151, rfl⟩
abbrev main_while0b_v71 : Ref sig .tc := ⟨.hbm, 152, rfl⟩
abbrev main_while0b_v72 : Ref sig .tc := ⟨.hbm, 153, rfl⟩
abbrev main_while0b_v73 : Ref sig .tc := ⟨.hbm, 154, rfl⟩
abbrev main_while0b_v74 : Ref sig .tc := ⟨.hbm, 155, rfl⟩
abbrev main_while0b_v75 : Ref sig .tc := ⟨.hbm, 156, rfl⟩
abbrev main_while0b_v76 : Ref sig .tc := ⟨.hbm, 157, rfl⟩
abbrev main_while0b_v77 : Ref sig .tc := ⟨.hbm, 158, rfl⟩
abbrev main_while0b_v78 : Ref sig .tc := ⟨.hbm, 159, rfl⟩
abbrev main_while0b_v79 : Ref sig .tc := ⟨.hbm, 160, rfl⟩
abbrev main_while0b_v80 : Ref sig .tc := ⟨.hbm, 161, rfl⟩
abbrev main_while0b_v81 : Ref sig .tc := ⟨.hbm, 162, rfl⟩
abbrev main_while0b_cst_22 : Ref sig .tc := ⟨.hbm, 163, rfl⟩
abbrev main_while0b_v82 : Ref sig .tc := ⟨.hbm, 164, rfl⟩
abbrev main_while0b_v83 : Ref sig .tc := ⟨.hbm, 165, rfl⟩
abbrev main_while0b_v84 : Ref sig .tc := ⟨.hbm, 166, rfl⟩
abbrev main_while0b_v85 : Ref sig .tc := ⟨.hbm, 167, rfl⟩
abbrev main_while0b_v86 : Ref sig .tc := ⟨.hbm, 168, rfl⟩
abbrev main_while0b_v87 : Ref sig .tc := ⟨.hbm, 169, rfl⟩
abbrev main_while0b_v88 : Ref sig .tc := ⟨.hbm, 170, rfl⟩
abbrev main_while0b_v89 : Ref sig .tc := ⟨.hbm, 171, rfl⟩
abbrev main_while0b_v90 : Ref sig .tc := ⟨.hbm, 172, rfl⟩
abbrev main_while0b_v91 : Ref sig .tc := ⟨.hbm, 173, rfl⟩
abbrev main_while0b_v92 : Ref sig .tc := ⟨.hbm, 174, rfl⟩
abbrev main_while0b_v93 : Ref sig .tc := ⟨.hbm, 175, rfl⟩
abbrev main_while0b_v94 : Ref sig .tc := ⟨.hbm, 176, rfl⟩
abbrev main_while0b_v95 : Ref sig .tc := ⟨.hbm, 177, rfl⟩
abbrev main_while0b_v96 : Ref sig .tc := ⟨.hbm, 178, rfl⟩
abbrev main_while0b_v97 : Ref sig .tc := ⟨.hbm, 179, rfl⟩
abbrev main_while0b_v98 : Ref sig .tc := ⟨.hbm, 180, rfl⟩
abbrev main_while0b_v99 : Ref sig .tc := ⟨.hbm, 181, rfl⟩
abbrev main_while0b_v100 : Ref sig .tc := ⟨.hbm, 182, rfl⟩
abbrev main_while0b_v101 : Ref sig .tc := ⟨.hbm, 183, rfl⟩
abbrev main_while0b_v102 : Ref sig .tc := ⟨.hbm, 184, rfl⟩
abbrev main_while0b_v103 : Ref sig .tc := ⟨.hbm, 185, rfl⟩
abbrev main_while0b_v104 : Ref sig .tc := ⟨.hbm, 186, rfl⟩
abbrev main_while0b_v105 : Ref sig .tc := ⟨.hbm, 187, rfl⟩
abbrev main_while0b_v106 : Ref sig .tc := ⟨.hbm, 188, rfl⟩
abbrev main_while0b_v107 : Ref sig .tc := ⟨.hbm, 189, rfl⟩
abbrev main_while0b_cst_23 : Ref sig .tc := ⟨.hbm, 190, rfl⟩
abbrev main_while0b_v108 : Ref sig .tc := ⟨.hbm, 191, rfl⟩
abbrev main_while0b_cst_24 : Ref sig .tc := ⟨.hbm, 192, rfl⟩
abbrev main_while0b_v109 : Ref sig .tc := ⟨.hbm, 193, rfl⟩
abbrev main_while0b_v110 : Ref sig .tc := ⟨.hbm, 194, rfl⟩
abbrev main_while0b_v111 : Ref sig .tc := ⟨.hbm, 195, rfl⟩
abbrev main_while0b_v112 : Ref sig .tc := ⟨.hbm, 196, rfl⟩
abbrev main_while0b_v113 : Ref sig .tc := ⟨.hbm, 197, rfl⟩
abbrev main_while0b_v114 : Ref sig .tc := ⟨.hbm, 198, rfl⟩
abbrev main_while0b_v115 : Ref sig .tc := ⟨.hbm, 199, rfl⟩
abbrev main_while0b_cst_25 : Ref sig .tc := ⟨.hbm, 200, rfl⟩
abbrev main_while0b_v116 : Ref sig .tc := ⟨.hbm, 201, rfl⟩
abbrev main_while0b_v117 : Ref sig .tc := ⟨.hbm, 202, rfl⟩
abbrev main_while0b_v118 : Ref sig .tc := ⟨.hbm, 203, rfl⟩
abbrev main_while0b_v119 : Ref sig .tc := ⟨.hbm, 204, rfl⟩
abbrev main_while0b_v120 : Ref sig .tc := ⟨.hbm, 205, rfl⟩
abbrev main_while0b_v121 : Ref sig .tc := ⟨.hbm, 206, rfl⟩
abbrev main_while0b_v122 : Ref sig .tc := ⟨.hbm, 207, rfl⟩
abbrev main_while0b_v123 : Ref sig .tc := ⟨.hbm, 208, rfl⟩
abbrev main_while0b_v124 : Ref sig .tc := ⟨.hbm, 209, rfl⟩
abbrev main_while0b_call11_cst : Ref sig .tc := ⟨.hbm, 210, rfl⟩
abbrev main_while0b_call11_v0 : Ref sig .tc := ⟨.hbm, 211, rfl⟩
abbrev main_while0b_v125 : Ref sig .tc := ⟨.hbm, 212, rfl⟩
abbrev main_while0b_v126 : Ref sig .tc := ⟨.hbm, 213, rfl⟩
abbrev main_while0b_v127 : Ref sig .tc := ⟨.hbm, 214, rfl⟩
abbrev main_while0b_v128 : Ref sig .tc := ⟨.hbm, 215, rfl⟩
abbrev main_while0b_v129 : Ref sig .tc := ⟨.hbm, 216, rfl⟩
abbrev main_while0b_v130 : Ref sig .tc := ⟨.hbm, 217, rfl⟩
abbrev main_while0b_v131 : Ref sig .tc := ⟨.hbm, 218, rfl⟩
abbrev main_while0b_v132 : Ref sig .tc := ⟨.hbm, 219, rfl⟩
abbrev main_while0b_v133 : Ref sig .tc := ⟨.hbm, 220, rfl⟩
abbrev main_while0b_v134 : Ref sig .tc := ⟨.hbm, 221, rfl⟩
abbrev main_while0b_v135 : Ref sig .tc := ⟨.hbm, 222, rfl⟩
abbrev main_while0b_v136 : Ref sig .tc := ⟨.hbm, 223, rfl⟩
abbrev main_while0b_v137 : Ref sig .tc := ⟨.hbm, 224, rfl⟩
abbrev main_while0b_v138 : Ref sig .tc := ⟨.hbm, 225, rfl⟩
abbrev main_while0b_v139 : Ref sig .tc := ⟨.hbm, 226, rfl⟩
abbrev main_while0b_v140 : Ref sig .tc := ⟨.hbm, 227, rfl⟩
abbrev main_while0b_cst_26 : Ref sig .tc := ⟨.hbm, 228, rfl⟩
abbrev main_while0b_v141 : Ref sig .tc := ⟨.hbm, 229, rfl⟩
abbrev main_while0b_v142 : Ref sig .tc := ⟨.hbm, 230, rfl⟩
abbrev main_while0b_v143 : Ref sig .tc := ⟨.hbm, 231, rfl⟩
abbrev main_while0b_v144 : Ref sig .tc := ⟨.hbm, 232, rfl⟩
abbrev main_while0b_v145 : Ref sig .tc := ⟨.hbm, 233, rfl⟩
abbrev main_while0b_cst_27 : Ref sig .tc := ⟨.hbm, 234, rfl⟩
abbrev main_while0b_v146 : Ref sig .tc := ⟨.hbm, 235, rfl⟩
abbrev main_while0b_v147 : Ref sig .tc := ⟨.hbm, 236, rfl⟩
abbrev main_while0b_v148 : Ref sig .tc := ⟨.hbm, 237, rfl⟩
abbrev main_while0b_call12_cst : Ref sig .tc := ⟨.hbm, 238, rfl⟩
abbrev main_while0b_call12_v0 : Ref sig .tc := ⟨.hbm, 239, rfl⟩
abbrev main_while0b_v149 : Ref sig .tc := ⟨.hbm, 240, rfl⟩
abbrev main_while0b_v150 : Ref sig .tc := ⟨.hbm, 241, rfl⟩
abbrev main_while0b_v151 : Ref sig .tc := ⟨.hbm, 242, rfl⟩
abbrev main_while0b_v152 : Ref sig .tc := ⟨.hbm, 243, rfl⟩
abbrev main_while0b_v153 : Ref sig .tc := ⟨.hbm, 244, rfl⟩
abbrev main_while0b_v154 : Ref sig .tc := ⟨.hbm, 245, rfl⟩
abbrev main_while0b_v155 : Ref sig .tc := ⟨.hbm, 246, rfl⟩
abbrev main_while0b_v156 : Ref sig .tc := ⟨.hbm, 247, rfl⟩
abbrev main_while0b_v157 : Ref sig .tc := ⟨.hbm, 248, rfl⟩
abbrev main_while0b_v158 : Ref sig .tc := ⟨.hbm, 249, rfl⟩
abbrev main_while0b_v159 : Ref sig .tc := ⟨.hbm, 250, rfl⟩
abbrev main_while0b_v160 : Ref sig .tc := ⟨.hbm, 251, rfl⟩
abbrev main_while0b_v161 : Ref sig .tc := ⟨.hbm, 252, rfl⟩
abbrev main_while0b_v162 : Ref sig .tc := ⟨.hbm, 253, rfl⟩
abbrev main_while0b_v163 : Ref sig .tc := ⟨.hbm, 254, rfl⟩
abbrev main_while0b_v164 : Ref sig .tc := ⟨.hbm, 255, rfl⟩
abbrev main_while0b_v165 : Ref sig .tc := ⟨.hbm, 256, rfl⟩
abbrev main_while0b_v166 : Ref sig .tc := ⟨.hbm, 257, rfl⟩
abbrev main_while0b_v167 : Ref sig .tc := ⟨.hbm, 258, rfl⟩
abbrev main_while0b_v168 : Ref sig .tc := ⟨.hbm, 259, rfl⟩
abbrev main_while0b_v169 : Ref sig .tc := ⟨.hbm, 260, rfl⟩
abbrev main_while0b_v170 : Ref sig .tc := ⟨.hbm, 261, rfl⟩
abbrev main_while0b_v171 : Ref sig .tc := ⟨.hbm, 262, rfl⟩
abbrev main_while0b_v172 : Ref sig .tc := ⟨.hbm, 263, rfl⟩
abbrev main_while0b_v173 : Ref sig .tc := ⟨.hbm, 264, rfl⟩
abbrev main_while0b_v174 : Ref sig .tc := ⟨.hbm, 265, rfl⟩
abbrev main_while0b_v175 : Ref sig .tc := ⟨.hbm, 266, rfl⟩
abbrev main_while0b_v176 : Ref sig .tc := ⟨.hbm, 267, rfl⟩
abbrev main_while0b_v177 : Ref sig .tc := ⟨.hbm, 268, rfl⟩
abbrev main_while0b_c_28 : Ref sig .tc := ⟨.hbm, 269, rfl⟩
abbrev main_while0b_v178 : Ref sig .tc := ⟨.hbm, 270, rfl⟩

abbrev nD : Nat := 1
abbrev τ : Topo := Topo.v7x

variable {F : FTy → Type} [FloatOps F]

abbrev main_while0_count : Scf.Loop 32 := ⟨0#32, 16#32, 1#32⟩
-- ==== DownDx.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S1024x1024 : Shape := ⟨2, ![1024, 1024]⟩

abbrev nBuf : Space → Nat
  | .hbm => 23
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S8192x2048, .bf16⟩
  | .hbm, ⟨22, _⟩ => ⟨S2048x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S2048x8192, .f32⟩
  | .hbm, ⟨26, _⟩ => ⟨S2048x8192, .i1⟩
  | .hbm, ⟨27, _⟩ => ⟨S_, .f32⟩
  | .hbm, ⟨28, _⟩ => ⟨S2048x8192, .f32⟩
  | .hbm, ⟨29, _⟩ => ⟨S2048x8192, .f32⟩
  | .hbm, ⟨30, _⟩ => ⟨S_, .f32⟩
  | .hbm, ⟨31, _⟩ => ⟨S2048x8192, .f32⟩
  | .hbm, ⟨32, _⟩ => ⟨S2048x8192, .f32⟩
  | .hbm, ⟨33, _⟩ => ⟨S2048x2048, .f32⟩
  | .hbm, ⟨34, _⟩ => ⟨S2048x8192, .f32⟩
  | .hbm, ⟨35, _⟩ => ⟨S2048x8192, .f32⟩
  | .hbm, ⟨36, _⟩ => ⟨S_, .f32⟩
  | .hbm, ⟨37, _⟩ => ⟨S2048x8192, .f32⟩
  | .hbm, ⟨38, _⟩ => ⟨S2048x8192, .f32⟩
  | .hbm, ⟨39, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== DownDw.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩
abbrev S2048x1024 : Shape := ⟨2, ![2048, 1024]⟩
abbrev S1024x1024 : Shape := ⟨2, ![1024, 1024]⟩

abbrev nBuf : Space → Nat
  | .hbm => 27
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .f32⟩
  | .hbm, ⟨25, _⟩ => ⟨S2048x8192, .bf16⟩
  | .hbm, ⟨26, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .f32⟩
  | .hbm, ⟨25, _⟩ => ⟨S2048x2048, .f32⟩
  | .hbm, ⟨26, _⟩ => ⟨S2048x2048, .f32⟩
  | .hbm, ⟨27, _⟩ => ⟨S2048x8192, .f32⟩
  | .hbm, ⟨28, _⟩ => ⟨S8192x2048, .f32⟩
  | .hbm, ⟨29, _⟩ => ⟨S8192x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== UpDw.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩
abbrev S2048x1024 : Shape := ⟨2, ![2048, 1024]⟩
abbrev S1024x1024 : Shape := ⟨2, ![1024, 1024]⟩

abbrev nBuf : Space → Nat
  | .hbm => 42
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S2048x8192, .f32⟩
  | .hbm, ⟨26, _⟩ => ⟨S2048x8192, .i1⟩
  | .hbm, ⟨27, _⟩ => ⟨S_, .f32⟩
  | .hbm, ⟨28, _⟩ => ⟨S2048x8192, .f32⟩
  | .hbm, ⟨29, _⟩ => ⟨S2048x8192, .f32⟩
  | .hbm, ⟨30, _⟩ => ⟨S_, .f32⟩
  | .hbm, ⟨31, _⟩ => ⟨S2048x8192, .f32⟩
  | .hbm, ⟨32, _⟩ => ⟨S2048x8192, .f32⟩
  | .hbm, ⟨33, _⟩ => ⟨S2048x2048, .f32⟩
  | .hbm, ⟨34, _⟩ => ⟨S2048x8192, .f32⟩
  | .hbm, ⟨35, _⟩ => ⟨S2048x8192, .f32⟩
  | .hbm, ⟨36, _⟩ => ⟨S_, .f32⟩
  | .hbm, ⟨37, _⟩ => ⟨S2048x8192, .f32⟩
  | .hbm, ⟨38, _⟩ => ⟨S2048x8192, .f32⟩
  | .hbm, ⟨39, _⟩ => ⟨S2048x2048, .bf16⟩
  | .hbm, ⟨40, _⟩ => ⟨S2048x8192, .bf16⟩
  | .hbm, ⟨41, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S2048x8192, .f32⟩
  | .hbm, ⟨26, _⟩ => ⟨S2048x8192, .i1⟩
  | .hbm, ⟨27, _⟩ => ⟨S_, .f32⟩
  | .hbm, ⟨28, _⟩ => ⟨S2048x8192, .f32⟩
  | .hbm, ⟨29, _⟩ => ⟨S2048x8192, .f32⟩
  | .hbm, ⟨30, _⟩ => ⟨S_, .f32⟩
  | .hbm, ⟨31, _⟩ => ⟨S2048x8192, .f32⟩
  | .hbm, ⟨32, _⟩ => ⟨S2048x8192, .f32⟩
  | .hbm, ⟨33, _⟩ => ⟨S2048x2048, .f32⟩
  | .hbm, ⟨34, _⟩ => ⟨S2048x2048, .f32⟩
  | .hbm, ⟨35, _⟩ => ⟨S2048x8192, .f32⟩
  | .hbm, ⟨36, _⟩ => ⟨S2048x8192, .f32⟩
  | .hbm, ⟨37, _⟩ => ⟨S_, .f32⟩
  | .hbm, ⟨38, _⟩ => ⟨S2048x8192, .f32⟩
  | .hbm, ⟨39, _⟩ => ⟨S2048x8192, .f32⟩
  | .hbm, ⟨40, _⟩ => ⟨S8192x2048, .f32⟩
  | .hbm, ⟨41, _⟩ => ⟨S2048x8192, .f32⟩
  | .hbm, ⟨42, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== UpDx.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 43
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S2048x8192, .f32⟩
  | .hbm, ⟨26, _⟩ => ⟨S2048x8192, .i1⟩
  | .hbm, ⟨27, _⟩ => ⟨S_, .f32⟩
  | .hbm, ⟨28, _⟩ => ⟨S2048x8192, .f32⟩
  | .hbm, ⟨29, _⟩ => ⟨S2048x8192, .f32⟩
  | .hbm, ⟨30, _⟩ => ⟨S_, .f32⟩
  | .hbm, ⟨31, _⟩ => ⟨S2048x8192, .f32⟩
  | .hbm, ⟨32, _⟩ => ⟨S2048x8192, .f32⟩
  | .hbm, ⟨33, _⟩ => ⟨S2048x2048, .f32⟩
  | .hbm, ⟨34, _⟩ => ⟨S2048x8192, .f32⟩
  | .hbm, ⟨35, _⟩ => ⟨S2048x8192, .f32⟩
  | .hbm, ⟨36, _⟩ => ⟨S_, .f32⟩
  | .hbm, ⟨37, _⟩ => ⟨S2048x8192, .f32⟩
  | .hbm, ⟨38, _⟩ => ⟨S2048x8192, .f32⟩
  | .hbm, ⟨39, _⟩ => ⟨S2048x8192, .bf16⟩
  | .hbm, ⟨40, _⟩ => ⟨S2048x8192, .bf16⟩
  | .hbm, ⟨41, _⟩ => ⟨S2048x2048, .f32⟩
  | .hbm, ⟨42, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_27 : BitVec 32 := 0#32
  let v55 : BitVec 1 := Scalar.cmpi .eq arg0 c0_i32_27
  let v56 : BitVec 32 := Scalar.extui v55
  let c0_i32_28 : BitVec 32 := 0#32
  let v57 : BitVec 1 := Scalar.cmpi .ne v56 c0_i32_28
  v57

def k0_cond4 (i : grid0.Coords) : BitVec 1 :=
  let arg0 : BitVec 32 := BitVec.ofNat 32 (i 0).val
  let c0_i32_29 : BitVec 32 := 0#32
  let v58 : BitVec 1 := Scalar.cmpi .ne arg0 c0_i32_29
  let v59 : BitVec 32 := Scalar.extui v58
  let c0_i32_30 : BitVec 32 := 0#32
  let v60 : BitVec 1 := Scalar.cmpi .ne v59 c0_i32_30
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== UpDxReferenceIdeal.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x8192, .f32⟩
  | .hbm, ⟨25, _⟩ => ⟨S_, .f32⟩
  | .hbm, ⟨26, _⟩ => ⟨S2048x8192, .f32⟩
  | .hbm, ⟨27, _⟩ => ⟨S2048x8192, .f32⟩
  | .hbm, ⟨28, _⟩ => ⟨S_, .f32⟩
  | .hbm, ⟨29, _⟩ => ⟨S2048x8192, .f32⟩
  | .hbm, ⟨30, _⟩ => ⟨S2048x8192, .i1⟩
  | .hbm, ⟨31, _⟩ => ⟨S_, .f32⟩
  | .hbm, ⟨32, _⟩ => ⟨S2048x8192, .f32⟩
  | .hbm, ⟨33, _⟩ => ⟨S2048x8192, .f32⟩
  | .hbm, ⟨34, _⟩ => ⟨S_, .f32⟩
  | .hbm, ⟨35, _⟩ => ⟨S2048x8192, .f32⟩
  | .hbm, ⟨36, _⟩ => ⟨S2048x8192, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x8192, .f32⟩
  | .hbm, ⟨41, _⟩ => ⟨S2048x8192, .f32⟩
  | .hbm, ⟨42, _⟩ => ⟨S_, .f32⟩
  | .hbm, ⟨43, _⟩ => ⟨S2048x8192, .f32⟩
  | .hbm, ⟨44, _⟩ => ⟨S2048x8192, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== InDw.lean ====
abbrev S2048x2048 : Shape := ⟨2, ![2048, 2048]⟩
abbrev S1x2048 : Shape := ⟨2, ![1, 2048]⟩
abbrev S7680x2048 : Shape := ⟨2, ![7680, 2048]⟩
abbrev S2048x7680 : Shape := ⟨2, ![2048, 7680]⟩
abbrev S_ : Shape := ⟨0, ![]⟩
abbrev S2048 : Shape := ⟨1, ![2048]⟩
abbrev S2048x1 : Shape := ⟨2, ![2048, 1]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 22
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7680x2048, .f32⟩
  | .hbm, ⟨3, _⟩ => ⟨S2048x7680, .f32⟩
  | .hbm, ⟨4, _⟩ => ⟨S2048x7680, .bf16⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S7680x2048, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2048x2048 : Shape := ⟨2, ![2048, 2048]⟩
abbrev S1x2048 : Shape := ⟨2, ![1, 2048]⟩
abbrev S7680x2048 : Shape := ⟨2, ![7680, 2048]⟩
abbrev S2048x7680 : Shape := ⟨2, ![2048, 7680]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7680x2048, .f32⟩
  | .hbm, ⟨3, _⟩ => ⟨S2048x7680, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x7680, .f32⟩
  | .hbm, ⟨20, _⟩ => ⟨S2048x7680, .f32⟩
  | .hbm, ⟨21, _⟩ => ⟨S7680x2048, .f32⟩
  | .hbm, ⟨22, _⟩ => ⟨S2048x7680, .f32⟩
  | .hbm, ⟨23, _⟩ => ⟨S7680x2048, .f32⟩
  | .hbm, ⟨24, _⟩ => ⟨S7680x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InDx.lean ====
abbrev S2048x2048 : Shape := ⟨2, ![2048, 2048]⟩
abbrev S1x2048 : Shape := ⟨2, ![1, 2048]⟩
abbrev S7680x2048 : Shape := ⟨2, ![7680, 2048]⟩
abbrev S2048x7680 : Shape := ⟨2, ![2048, 7680]⟩
abbrev S512x768 : Shape := ⟨2, ![512, 768]⟩
abbrev S768x2048 : Shape := ⟨2, ![768, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7680x2048, .f32⟩
  | .hbm, ⟨3, _⟩ => ⟨S2048x7680, .f32⟩
  | .hbm, ⟨4, _⟩ => ⟨S2048x2048, .f32⟩
  | .hbm, ⟨5, _⟩ => ⟨S2048x7680, .bf16⟩
  | .hbm, ⟨6, _⟩ => ⟨S7680x2048, .bf16⟩
  | .hbm, ⟨7, _⟩ => ⟨S2048x2048, .f32⟩
  | .hbm, ⟨8, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S768x2048, .bf16⟩
  | .local _ .vmem, ⟨3, _⟩ => ⟨S768x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_27 : BitVec 32 := 0#32
  let v55 : BitVec 1 := Scalar.cmpi .eq arg0 c0_i32_27
  let v56 : BitVec 32 := Scalar.extui v55
  let c0_i32_28 : BitVec 32 := 0#32
  let v57 : BitVec 1 := Scalar.cmpi .ne v56 c0_i32_28
  v57

def k0_cond4 (i : grid0.Coords) : BitVec 1 :=
  let arg0 : BitVec 32 := BitVec.ofNat 32 (i 0).val
  let c0_i32_29 : BitVec 32 := 0#32
  let v58 : BitVec 1 := Scalar.cmpi .ne arg0 c0_i32_29
  let v59 : BitVec 32 := Scalar.extui v58
  let c0_i32_30 : BitVec 32 := 0#32
  let v60 : BitVec 1 := Scalar.cmpi .ne v59 c0_i32_30
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InDxReferenceIdeal.lean ====
abbrev S2048x2048 : Shape := ⟨2, ![2048, 2048]⟩
abbrev S1x2048 : Shape := ⟨2, ![1, 2048]⟩
abbrev S7680x2048 : Shape := ⟨2, ![7680, 2048]⟩
abbrev S2048x7680 : Shape := ⟨2, ![2048, 7680]⟩
abbrev S_ : Shape := ⟨0, ![]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7680x2048, .f32⟩
  | .hbm, ⟨3, _⟩ => ⟨S2048x7680, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x7680, .f32⟩
  | .hbm, ⟨25, _⟩ => ⟨S2048x7680, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InFwd.lean ====
abbrev S2048x2048 : Shape := ⟨2, ![2048, 2048]⟩
abbrev S1x2048 : Shape := ⟨2, ![1, 2048]⟩
abbrev S7680x2048 : Shape := ⟨2, ![7680, 2048]⟩
abbrev S_ : Shape := ⟨0, ![]⟩
abbrev S2048 : Shape := ⟨1, ![2048]⟩
abbrev S2048x1 : Shape := ⟨2, ![2048, 1]⟩
abbrev S2048x7680 : Shape := ⟨2, ![2048, 7680]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 21
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7680x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S7680x2048, .bf16⟩
  | .hbm, ⟨20, _⟩ => ⟨S2048x7680, .f32⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .f32⟩
  | .local _ .vmem, ⟨5, _⟩ => ⟨S1024x1536, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdReferenceIdeal.lean ====
abbrev S2048x2048 : Shape := ⟨2, ![2048, 2048]⟩
abbrev S1x2048 : Shape := ⟨2, ![1, 2048]⟩
abbrev S7680x2048 : Shape := ⟨2, ![7680, 2048]⟩
abbrev S_ : Shape := ⟨0, ![]⟩
abbrev S2048 : Shape := ⟨1, ![2048]⟩
abbrev S2048x1 : Shape := ⟨2, ![2048, 1]⟩
abbrev S2048x7680 : Shape := ⟨2, ![2048, 7680]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7680x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x7680, .f32⟩
  | .hbm, ⟨19, _⟩ => ⟨S2048x7680, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OutFwd.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UpFwd.lean ====
abbrev S2048x2048 : Shape := ⟨2, ![2048, 2048]⟩
abbrev S1x2048 : Shape := ⟨2, ![1, 2048]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 22
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S2048x8192, .bf16⟩
  | .hbm, ⟨20, _⟩ => ⟨S2048x8192, .f32⟩
  | .hbm, ⟨21, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFwdReferenceIdeal.lean ====
abbrev S2048x2048 : Shape := ⟨2, ![2048, 2048]⟩
abbrev S1x2048 : Shape := ⟨2, ![1, 2048]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S_, .f32⟩
  | .hbm, ⟨20, _⟩ => ⟨S2048x8192, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== DownFwd.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 27
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .f32⟩
  | .hbm, ⟨24, _⟩ => ⟨S2048x8192, .bf16⟩
  | .hbm, ⟨25, _⟩ => ⟨S8192x2048, .bf16⟩
  | .hbm, ⟨26, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdReferenceIdeal.lean ====
abbrev S2048x2048 : Shape := ⟨2, ![2048, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .f32⟩
  | .hbm, ⟨24, _⟩ => ⟨S2048x2048, .f32⟩
  | .hbm, ⟨25, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== XaBwd.lean ====
abbrev S2048x512 : Shape := ⟨2, ![2048, 512]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x384 : Shape := ⟨2, ![256, 384]⟩

abbrev nBuf : Space → Nat
  | .hbm => 7
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256x512, .f32⟩
  | .hbm, ⟨3, _⟩ => ⟨S2048x512, .f32⟩
  | .hbm, ⟨4, _⟩ => ⟨S2048x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v310 : BitVec 1 := Scalar.cmpi .eq arg0 c0_i32
  let v311 : BitVec 32 := Scalar.extui v310
  let c0_i32_88 : BitVec 32 := 0#32
  let v312 : BitVec 1 := Scalar.cmpi .ne v311 c0_i32_88
  v312

def k0_cond2 (i : grid0.Coords) : BitVec 1 :=
  let arg0 : BitVec 32 := BitVec.ofNat 32 (i 0).val
  let c0_i32 : BitVec 32 := 0#32
  let v310 : BitVec 1 := Scalar.cmpi .eq arg0 c0_i32
  let v_true : BitVec 1 := 1#1
  let v313 : BitVec 1 := Scalar.xori v310 v_true
  let v314 : BitVec 32 := Scalar.extui v313
  let c0_i32_89 : BitVec 32 := 0#32
  let v315 : BitVec 1 := Scalar.cmpi .ne v314 c0_i32_89
  v315

def k0_cond3 (i : grid0.Coords) : BitVec 1 :=
  let arg0 : BitVec 32 := BitVec.ofNat 32 (i 0).val
  let c0_i32 : BitVec 32 := 0#32
  let v310 : BitVec 1 := Scalar.cmpi .eq arg0 c0_i32
  let v316 : BitVec 32 := Scalar.extui v310
  let c0_i32_90 : BitVec 32 := 0#32
  let v317 : BitVec 1 := Scalar.cmpi .ne v316 c0_i32_90
  v317

def k0_cond4 (i : grid0.Coords) : BitVec 1 :=
  let arg0 : BitVec 32 := BitVec.ofNat 32 (i 0).val
  let c0_i32 : BitVec 32 := 0#32
  let v310 : BitVec 1 := Scalar.cmpi .eq arg0 c0_i32
  let true_91 : BitVec 1 := 1#1
  let v318 : BitVec 1 := Scalar.xori v310 true_91
  let v319 : BitVec 32 := Scalar.extui v318
  let c0_i32_92 : BitVec 32 := 0#32
  let v320 : BitVec 1 := Scalar.cmpi .ne v319 c0_i32_92
  v320

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== XaBwdReferenceIdeal.lean ====
abbrev S2048x512 : Shape := ⟨2, ![2048, 512]⟩
abbrev S256x512 : Shape := ⟨2, ![256, 512]⟩
abbrev S2048x4x128 : Shape := ⟨3, ![2048, 4, 128]⟩
abbrev S256x4x128 : Shape := ⟨3, ![256, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256x512, .f32⟩
  | .hbm, ⟨3, _⟩ => ⟨S2048x512, .f32⟩
  | .hbm, ⟨4, _⟩ => ⟨S2048x4x128, .f32⟩
  | .hbm, ⟨5, _⟩ => ⟨S256x4x128, .f32⟩
  | .hbm, ⟨6, _⟩ => ⟨S256x4x128, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S4x2048x256, .f32⟩
  | .hbm, ⟨15, _⟩ => ⟨S4x2048x256, .i1⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .i1⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x128x2048, .f32⟩
  | .hbm, ⟨50, _⟩ => ⟨S2048x4x128, .f32⟩
  | .hbm, ⟨51, _⟩ => ⟨S2048x512, .f32⟩
  | .hbm, ⟨52, _⟩ => ⟨S2048x4x128, .f32⟩
  | .hbm, ⟨53, _⟩ => ⟨S4x128x2048, .f32⟩
  | .hbm, ⟨54, _⟩ => ⟨S4x2048x256, .f32⟩
  | .hbm, ⟨55, _⟩ => ⟨S4x128x256, .f32⟩
  | .hbm, ⟨56, _⟩ => ⟨S256x4x128, .f32⟩
  | .hbm, ⟨57, _⟩ => ⟨S4x2048x256, .f32⟩
  | .hbm, ⟨58, _⟩ => ⟨S4x2048x256, .f32⟩
  | .hbm, ⟨59, _⟩ => ⟨S4x2048x256, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S4x2048x1, .f32⟩
  | .hbm, ⟨64, _⟩ => ⟨S4x2048x256, .f32⟩
  | .hbm, ⟨65, _⟩ => ⟨S4x2048x256, .f32⟩
  | .hbm, ⟨66, _⟩ => ⟨S_, .f32⟩
  | .hbm, ⟨67, _⟩ => ⟨S4x2048, .f32⟩
  | .hbm, ⟨68, _⟩ => ⟨S4x2048x256, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048x256, .f32⟩
  | .hbm, ⟨73, _⟩ => ⟨S4x2048x256, .f32⟩
  | .hbm, ⟨74, _⟩ => ⟨S4x256x128, .f32⟩
  | .hbm, ⟨75, _⟩ => ⟨S256x4x128, .f32⟩
  | .hbm, ⟨76, _⟩ => ⟨S4x2048x128, .f32⟩
  | .hbm, ⟨77, _⟩ => ⟨S2048x4x128, .f32⟩
  | .hbm, ⟨78, _⟩ => ⟨S256x512, .f32⟩
  | .hbm, ⟨79, _⟩ => ⟨S256x512, .f32⟩
  | .hbm, ⟨80, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Proof.Mat.lean ====
/-
  The mathematics of one chunk of the gated delta rule's backward pass, in real 128 × 128 matrices: the vocabulary both
  programs are read in (an array of extended reals HOLDS a matrix of reals, head by head), with no program in sight.
-/
module

public import Mathlib.Data.Matrix.Mul
public import Mathlib.Analysis.SpecialFunctions.Exp
public import Mathlib.Data.EReal.Operations
public import Idealize.ShloMosaic.Lib.Pointwise

@[expose] public section

noncomputable section

open Idealize.ShloMosaic

namespace Delta

open Matrix

/-- A 128 × 128 matrix of reals. -/
abbrev Mat : Type := Matrix (Fin 128) (Fin 128) ℝ

/-- Entrywise exponential. -/
def ex (X : Mat) : Mat := fun i j => Real.exp (X i j)
/-- Entrywise product. -/
def had (X Y : Mat) : Mat := fun i j => X i j * Y i j
/-- The sum of every column, repeated in every row. -/
def colSum (X : Mat) : Mat := fun _ j => ∑ i, X i j
/-- The entries on and below the diagonal, zero above it. -/
def low (X : Mat) : Mat := fun i j => if j ≤ i then X i j else 0
/-- The entries strictly below the diagonal, zero elsewhere. -/
def slow (X : Mat) : Mat := fun i j => if j < i then X i j else 0

/-- The three-axis array `x` holds the matrix `X h` of reals on head `h`. -/
def Rep {φ : FTy} (x : FVec Ideal ⟨3, ![8, 128, 128]⟩ φ) (X : Fin 8 → Mat) : Prop :=
  ∀ h i j, x (ix3 h i j) = ((X h i j : ℝ) : EReal)

/-- The array `x`, 256 lanes wide, holds `X h` in its left half and `Y h` in its right half on head `h`. -/
def Rep2 {φ : FTy} (x : FVec Ideal ⟨3, ![8, 128, 256]⟩ φ) (X Y : Fin 8 → Mat) : Prop :=
  ∀ h i, (∀ j : Fin 128, x (ix3 h i ⟨j.val, by omega⟩) = ((X h i j : ℝ) : EReal))
    ∧ ∀ j : Fin 128, x (ix3 h i ⟨128 + j.val, by omega⟩) = ((Y h i j : ℝ) : EReal)

/-- The array `x` of one row a head holds the (constant) columns of `X h`, which has equal rows. -/
def RepRow {φ : FTy} (x : FVec Ideal ⟨3, ![8, 1, 128]⟩ φ) (X : Fin 8 → Mat) : Prop :=
  ∀ h (i : Fin 128) j, x (ix3 h 0 j) = ((X h i j : ℝ) : EReal)

/-- The array `x`, the heads' 128 lanes side by side, holds the matrix `X h` of reals in head `h`'s lanes. -/
def RepB {φ : FTy} (x : FVec Ideal ⟨2, ![128, 1024]⟩ φ) (X : Fin 8 → Mat) : Prop :=
  ∀ (h : Fin 8) (i j : Fin 128), x (ix2 i ⟨128 * h.val + j.val, by omega⟩) = ((X h i j : ℝ) : EReal)

/-- A finite sum of reals, read in the extended reals, is the sum of the reals. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- A sum of products of reals, read in the extended reals. -/
theorem coe_dot {n : ℕ} (f g : Fin n → ℝ) : ∑ k, ((f k : ℝ) : EReal) * ((g k : ℝ) : EReal) = ((∑ k, f k * g k : ℝ) : EReal) := by
  rw [← coe_sum]; exact Finset.sum_congr rfl fun k _ => (EReal.coe_mul ..).symm

/-- A sum over 256 lanes is the sum over the left half and over the right half. -/
theorem sum_halves (f : Fin 256 → EReal) :
    ∑ k, f k = (∑ k : Fin 128, f ⟨k.val, by omega⟩) + ∑ k : Fin 128, f ⟨128 + k.val, by omega⟩ := by
  exact Fin.sum_univ_add (a := 128) (b := 128) f

section elementwise

variable {x y : FVec Ideal ⟨3, ![8, 128, 128]⟩ .f32} {X Y : Fin 8 → Mat}

theorem Rep.mul (hx : Rep x X) (hy : Rep y Y) : Rep (mulf x y) (fun h => had (X h) (Y h)) := by
  intro h i j; pointwise []; rw [hx, hy]; exact (EReal.coe_mul ..).symm

theorem Rep.add (hx : Rep x X) (hy : Rep y Y) : Rep (addf x y) (fun h => X h + Y h) := by
  intro h i j; pointwise []; rw [hx, hy]; exact (EReal.coe_add ..).symm

theorem Rep.sub (hx : Rep x X) (hy : Rep y Y) : Rep (subf x y) (fun h => X h - Y h) := by
  intro h i j; pointwise []; rw [hx, hy]; exact (EReal.coe_sub ..).symm

theorem Rep.exp (hx : Rep x X) : Rep (exp x) (fun h => ex (X h)) := by
  intro h i j; pointwise []; rw [hx]; rfl

theorem Rep.hexp (hx : Rep x X) : Rep (Host.exp x) (fun h => ex (X h)) := by
  intro h i j; pointwise []; rw [hx]; rfl

theorem Rep.hneg (hx : Rep x X) : Rep (Host.negf x) (fun h => -X h) := by
  intro h i j; pointwise []; rw [hx]; exact (EReal.coe_neg _).symm

theorem Rep.trunc (hx : Rep x X) (hw) : Rep (truncf .bf16 x hw) X := by
  intro h i j; pointwise []; exact hx h i j

/-- Equal matrices: what an array holds may be restated. -/
theorem Rep.of_eq {φ : FTy} {x : FVec Ideal ⟨3, ![8, 128, 128]⟩ φ} {X Y : Fin 8 → Mat} (hx : Rep x X) (e : ∀ h, X h = Y h) : Rep x Y := by
  intro h i j; rw [hx, e]

end elementwise

section masks

/-- A word that counts fewer than 128 is its own integer. -/
theorem toInt_idx (i : Fin 128) : (BitVec.ofNat 32 i.val).toInt = (i.val : ℤ) := by
  have := i.isLt
  rw [BitVec.toInt_eq_toNat_of_lt] <;> simp only [BitVec.toNat_ofNat] <;> omega

/-- The comparison of two indices, as integers, is the comparison of the indices. -/
theorem sge_idx (i j : Fin 128) :
    IntOp.cmpi .sge (BitVec.ofNat 32 i.val) (BitVec.ofNat 32 j.val) = if j ≤ i then 1#1 else 0#1 := by
  simp only [IntOp.cmpi, BitVec.sle_eq_decide, toInt_idx]
  by_cases h : j ≤ i
  · rw [if_pos h, decide_eq_true (by exact_mod_cast h)]; rfl
  · rw [if_neg h, decide_eq_false (by exact_mod_cast h)]; rfl

theorem sgt_idx (i j : Fin 128) :
    IntOp.cmpi .sgt (BitVec.ofNat 32 i.val) (BitVec.ofNat 32 j.val) = if j < i then 1#1 else 0#1 := by
  simp only [IntOp.cmpi, BitVec.slt_eq_decide, toInt_idx]
  by_cases h : j < i
  · rw [if_pos h, decide_eq_true (by exact_mod_cast h)]; rfl
  · rw [if_neg h, decide_eq_false (by exact_mod_cast h)]; rfl

/-- The mask `m` is set exactly on and below the diagonal, on every head. -/
def Low (m : IVec ⟨3, ![8, 128, 128]⟩ 1) : Prop := ∀ h (i j : Fin 128), m (ix3 h i j) = if j ≤ i then 1#1 else 0#1
/-- The mask `m` is set exactly below the diagonal, on every head. -/
def SLow (m : IVec ⟨3, ![8, 128, 128]⟩ 1) : Prop := ∀ h (i j : Fin 128), m (ix3 h i j) = if j < i then 1#1 else 0#1

variable {m : IVec ⟨3, ![8, 128, 128]⟩ 1} {x z : FVec Ideal ⟨3, ![8, 128, 128]⟩ .f32} {X : Fin 8 → Mat}

theorem Rep.low (hm : Low m) (hx : Rep x X) (hz : Rep z fun _ => 0) : Rep (select m x z) (fun h => low (X h)) := by
  intro h i j; pointwise []; rw [hm]
  by_cases c : j ≤ i <;> simp [Delta.low, c, hx h i j, hz h i j, Scalar.select]

theorem Rep.slow (hm : SLow m) (hx : Rep x X) (hz : Rep z fun _ => 0) : Rep (select m x z) (fun h => slow (X h)) := by
  intro h i j; pointwise []; rw [hm]
  by_cases c : j < i <;> simp [Delta.slow, c, hx h i j, hz h i j, Scalar.select]

end masks

/-- What one head of one chunk of the backward pass reads: the chunk's `q`, `k`, `v`, its log gates `g` and their running
    sums `c`, its write strengths `b` (each repeated along the lanes), the state `S` before the chunk, the inverse `P` of
    the chunk's triangular system, the gradient `dy` of the chunk's output and the gradient `D` of the state after it. -/
structure Chunk where
  (q k v g b c S P dy D : Mat)

namespace Chunk

variable (x : Chunk)

/-- The decay between two tokens of the chunk, zero above the diagonal. -/
def decay : Mat := fun i j => if j ≤ i then Real.exp (x.c i j - x.c j i) else 0
/-- The keys times the write strengths. -/
def kb : Mat := had x.k x.b
/-- The products of the scaled keys with the keys. -/
def kk : Mat := x.kb * x.kᵀ
/-- The system's first right-hand side: the scaled values. -/
def r1 : Mat := had x.v x.b
/-- The system's second right-hand side: the scaled keys, decayed from the chunk's start. -/
def r2 : Mat := had x.kb (ex x.c)
/-- The system's first solution. -/
def u : Mat := x.P * x.r1
/-- The system's second solution. -/
def w : Mat := x.P * x.r2
/-- The products of the queries with the keys. -/
def qk : Mat := x.q * x.kᵀ
/-- The attention of the chunk's tokens to one another. -/
def attn : Mat := had x.qk x.decay
/-- The values the chunk writes. -/
def vn : Mat := x.u - x.w * x.S
/-- The queries decayed from the chunk's start. -/
def qg : Mat := had x.q (ex x.c)
/-- The decay from each token to the chunk's end. -/
def kw : Mat := ex (colSum x.g - x.c)
/-- The keys decayed to the chunk's end. -/
def kx : Mat := had x.k x.kw
/-- The gradient of the decayed keys. -/
def vd : Mat := x.vn * x.Dᵀ
/-- That gradient's share of the decay. -/
def kd : Mat := had (had x.k x.vd) x.kw
/-- The gradient of the attention. -/
def dyv : Mat := x.dy * x.vnᵀ
/-- The gradient of the written values. -/
def dvn : Mat := x.kx * x.D + x.attnᵀ * x.dy
/-- The gradient of the decayed queries. -/
def dyS : Mat := x.dy * x.Sᵀ
/-- The gradient of the system's second solution. -/
def dw : Mat := -x.dvn * x.Sᵀ
/-- The gradient of the state before the chunk. -/
def dS : Mat := had x.D (ex (colSum x.g)) + x.qgᵀ * x.dy + x.wᵀ * -x.dvn
/-- The gradient of the products of queries and keys. -/
def dA : Mat := had x.dyv x.decay
/-- The gradient of `q`. -/
def dq : Mat := had x.dyS (ex x.c) + x.dA * x.k
/-- The gradient of the first right-hand side: the transposed system solved for the first solution's gradient. -/
def z1 : Mat := x.Pᵀ * x.dvn
/-- The gradient of the second right-hand side. -/
def z2 : Mat := x.Pᵀ * x.dw
/-- The gradient of the system's matrix, below its diagonal. -/
def dlow : Mat := slow (-(x.z1 * x.uᵀ + x.z2 * x.wᵀ))
/-- The gradient of the products of scaled keys and keys. -/
def dL : Mat := had x.dlow x.decay
/-- The gradient of the scaled keys. -/
def dkb : Mat := had x.z2 (ex x.c) + x.dL * x.k
/-- The gradient of the write strengths. -/
def db : Mat := had x.v x.z1 + had x.k x.dkb
/-- The gradient of `k`. -/
def dk : Mat := had x.vd x.kw + x.dAᵀ * x.q + x.dLᵀ * x.kb + had x.dkb x.b
/-- The gradient of `v`. -/
def dv : Mat := had x.z1 x.b
/-- The gradient of the log gates through their sum over the chunk. -/
def dg : Mat := colSum x.kd + had (colSum (had x.S x.D)) (ex (colSum x.g))
/-- The gradient of the differences of running sums. -/
def ddiff : Mat := low (had (had x.qk x.dyv + had x.kk x.dlow) x.decay)
/-- The gradient of the running sums. -/
def dc : Mat := -x.kd + had (had x.q x.dyS) (ex x.c) + had (had x.kb x.z2) (ex x.c) + x.ddiff - x.ddiffᵀ

/-- The matrix gradient computed from the gradients `[dvn, dw]` and the right-hand sides, the inverse applied on both sides
    afterwards, is the matrix gradient computed from the two solved systems: products of real matrices associate. -/
theorem low_eq : -((x.Pᵀ * (x.dvn * x.r1ᵀ + x.dw * x.r2ᵀ)) * x.Pᵀ) = -(x.z1 * x.uᵀ + x.z2 * x.wᵀ) := by
  simp only [z1, z2, u, w, Matrix.transpose_mul, Matrix.mul_add, Matrix.add_mul, Matrix.mul_assoc]

end Chunk

end Delta

end
-- ==== Proof.Data.lean ====
/-
  The whole backward scan in real matrices: the arrays cut into 16 chunks of 128 tokens and 8 heads of 128 lanes, the
  chunks taken last to first, the gradient of the state handed from each chunk to the one before it.
-/
module

public import proofs.«01_k».proof.Proof.Mat

@[expose] public section

noncomputable section

open Idealize.ShloMosaic

namespace Delta

/-- The chunk that step `t` of the backward scan takes: the last one first. -/
def back (t : Fin 16) : Fin 16 := ⟨15 - t.val, by omega⟩
/-- Token `i` of step `t`'s chunk, among all tokens. -/
def row (t : Fin 16) (i : Fin 128) : Fin 2048 := ⟨128 * (15 - t.val) + i.val, by omega⟩
/-- Lane `j` of head `h`, among all lanes. -/
def lane (h : Fin 8) (j : Fin 128) : Fin 1024 := ⟨128 * h.val + j.val, by omega⟩
/-- Lane `j` of head `h` of the values, whose lanes come after the 2048 lanes of queries and keys. -/
def vlane (h : Fin 8) (j : Fin 128) : Fin 3072 := ⟨2048 + (128 * h.val + j.val), by omega⟩

theorem row_surj (r : Fin 2048) : ∃ t i, row t i = r :=
  ⟨⟨15 - r.val / 128, by omega⟩, ⟨r.val % 128, by omega⟩, Fin.ext (by simp only [row]; omega)⟩

theorem lane_surj (l : Fin 1024) : ∃ h j, lane h j = l :=
  ⟨⟨l.val / 128, by omega⟩, ⟨l.val % 128, by omega⟩, Fin.ext (by simp only [lane]; omega)⟩

/-- What the two programs are given, as reals: the queries, keys, log gates, write strengths, running sums and the output's
    gradient; the values; each chunk's state before it and the inverse of its system. -/
structure Data where
  (q k g b c dy : Fin 2048 → Fin 1024 → ℝ)
  v : Fin 2048 → Fin 3072 → ℝ
  (S P : Fin 8 → Fin 16 → Fin 128 → Fin 128 → ℝ)

namespace Data

variable (x : Data)

/-- What step `t` works on in head `h`, where `D` is the gradient of the states after its chunk. -/
def chunk (t : Fin 16) (D : Fin 8 → Mat) (h : Fin 8) : Chunk where
  q i j := x.q (row t i) (lane h j)
  k i j := x.k (row t i) (lane h j)
  v i j := x.v (row t i) (vlane h j)
  g i j := x.g (row t i) (lane h j)
  b i j := x.b (row t i) (lane h j)
  c i j := x.c (row t i) (lane h j)
  S i j := x.S h (back t) i j
  P i j := x.P h (back t) i j
  dy i j := x.dy (row t i) (lane h j)
  D := D h

/-- The gradient of the states before `t` steps' chunks: zero before the first step, then what each step hands on. -/
def D : ℕ → Fin 8 → Mat
  | 0 => fun _ => 0
  | t + 1 => fun h => if ht : t < 16 then (x.chunk ⟨t, ht⟩ (D t) h).dS else 0

/-- Step `t`'s chunk in head `h`. -/
def at_ (t : Fin 16) (h : Fin 8) : Chunk := x.chunk t (x.D t.val) h

theorem D_succ (t : Fin 16) : x.D (t.val + 1) = fun h => (x.at_ t h).dS := by
  funext h; simp only [D, t.isLt, dite_true]; rfl

/-- The arrays hold the reals `x`. -/
structure Holds (a0 a1 a3 a4 a5 a8 : FVec Ideal ⟨2, ![2048, 1024]⟩ .f32) (a2 : FVec Ideal ⟨2, ![2048, 3072]⟩ .f32)
    (a6 a7 : FVec Ideal ⟨4, ![8, 16, 128, 128]⟩ .f32) : Prop where
  q : ∀ r l, a0 (ix2 r l) = (x.q r l : EReal)
  k : ∀ r l, a1 (ix2 r l) = (x.k r l : EReal)
  v : ∀ r l, a2 (ix2 r l) = (x.v r l : EReal)
  g : ∀ r l, a3 (ix2 r l) = (x.g r l : EReal)
  b : ∀ r l, a4 (ix2 r l) = (x.b r l : EReal)
  c : ∀ r l, a5 (ix2 r l) = (x.c r l : EReal)
  S : ∀ h n i j, a6 (ix4 h n i j) = (x.S h n i j : EReal)
  P : ∀ h n i j, a7 (ix4 h n i j) = (x.P h n i j : EReal)
  dy : ∀ r l, a8 (ix2 r l) = (x.dy r l : EReal)

end Data

/-- The array `y` holds the matrices `G t h`, one a step and head, at the tokens and lanes they belong to. -/
def Whole (y : FVec Ideal ⟨2, ![2048, 1024]⟩ .f32) (G : Fin 16 → Fin 8 → Mat) : Prop :=
  ∀ t h i j, y (ix2 (row t i) (lane h j)) = ((G t h i j : ℝ) : EReal)

/-- Two arrays that hold the same matrices are equal. -/
theorem Whole.eq {y z : FVec Ideal ⟨2, ![2048, 1024]⟩ .f32} {G : Fin 16 → Fin 8 → Mat} (hy : Whole y G) (hz : Whole z G) :
    y = z := by
  funext i
  obtain ⟨t, a, ht⟩ := row_surj (i 0)
  obtain ⟨h, b, hb⟩ := lane_surj (i 1)
  have e : i = ix2 (row t a) (lane h b) := by
    funext d; match d with
    | ⟨0, _⟩ => exact ht.symm
    | ⟨1, _⟩ => exact hb.symm
  rw [e, hy, hz]

end Delta

end
-- ==== Proof.Finite.lean ====
/-
  What the precondition says: `finite` is one at arguments none of whose entries is infinite, and real arrays hold such
  arguments.
-/
module

public import proofs.«01_k».proof.Pre_finite
public import proofs.«01_k».proof.Proof.Data
public import Idealize.ShloMosaic.Lib.ReduceAll
public import Idealize.ShloMosaic.Lib.Pointwise
public import Idealize.ShloMosaic.Lib.Decide

@[expose] public section

noncomputable section

open Idealize.ShloMosaic

namespace Cert.Pre_finite

/-- The shape relations the predicate's operations take. -/
instance facts : Facts where
  bcast_S_S2048x1024 := by decide
  reducesTo_S2048x1024_S_d0_1 := by decide
  h_S_ := by decide
  bcast_S_S2048x3072 := by decide
  reducesTo_S2048x3072_S_d0_1 := by decide
  bcast_S_S8x16x128x128 := by decide
  reducesTo_S8x16x128x128_S_d0_1_2_3 := by decide

instance : Subsingleton S_.Idx := ⟨fun a b => funext fun i => i.elim0⟩

/-- An extended real whose absolute value is less than infinity is a real number. -/
theorem real_of_abs_lt {x : EReal} (h : max x (-x) < ⊤) : x = (x.toReal : EReal) := by
  refine (EReal.coe_toReal ?_ ?_).symm
  · rintro rfl; simp at h
  · rintro rfl; simp at h

/-- Where the comparison of an array's absolute value with infinity is one, the entry is a real number. -/
theorem real_of_cmp {s : Shape} (a : FVec Ideal s .f32) (h : S_.BroadcastsInDim s (![] : Fin 0 → Fin s.rank)) (i : s.Idx)
    (e : cmpf (F := Ideal) .olt (Host.absf a) (broadcastInDim s ![] h (constant (F := Ideal) S_ .f32 0x7F800000#32)) i = 1#1) :
    a i = ((a i : EReal).toReal : EReal) := by
  refine real_of_abs_lt ?_
  have t : Ideal.ofBits FTy.f32 0x7F800000#32 = ⊤ := by simp [Ideal.ofBits, Ideal.ieee]
  have e' : Ideal.cmp .olt (max (a i : EReal) (-(a i : EReal))) (Ideal.ofBits FTy.f32 0x7F800000#32) = 1 := e
  rw [t] at e'
  exact (Ideal.cmp_olt_eq_one _ _).1 e'

/-- Arguments at which the predicate is one hold real numbers only. -/
theorem reals (a0 a1 : FVec Ideal S2048x1024 .f32) (a2 : FVec Ideal S2048x3072 .f32) (a3 a4 a5 : FVec Ideal S2048x1024 .f32)
    (a6 a7 : FVec Ideal S8x16x128x128 .f32) (a8 : FVec Ideal S2048x1024 .f32)
    (e : fn a0 a1 a2 a3 a4 a5 a6 a7 a8 = fun _ => 1#1) :
    (∀ i, a0 i = ((a0 i : EReal).toReal : EReal)) ∧ (∀ i, a1 i = ((a1 i : EReal).toReal : EReal))
    ∧ (∀ i, a2 i = ((a2 i : EReal).toReal : EReal)) ∧ (∀ i, a3 i = ((a3 i : EReal).toReal : EReal))
    ∧ (∀ i, a4 i = ((a4 i : EReal).toReal : EReal)) ∧ (∀ i, a5 i = ((a5 i : EReal).toReal : EReal))
    ∧ (∀ i, a6 i = ((a6 i : EReal).toReal : EReal)) ∧ (∀ i, a7 i = ((a7 i : EReal).toReal : EReal))
    ∧ ∀ i, a8 i = ((a8 i : EReal).toReal : EReal) := by
  have z := congrFun e (fun i => i.elim0)
  obtain ⟨z, e8⟩ := IntOp.andi_eq_one.1 z
  obtain ⟨z, e7⟩ := IntOp.andi_eq_one.1 z
  obtain ⟨z, e6⟩ := IntOp.andi_eq_one.1 z
  obtain ⟨z, e5⟩ := IntOp.andi_eq_one.1 z
  obtain ⟨z, e4⟩ := IntOp.andi_eq_one.1 z
  obtain ⟨z, e3⟩ := IntOp.andi_eq_one.1 z
  obtain ⟨z, e2⟩ := IntOp.andi_eq_one.1 z
  obtain ⟨e0, e1⟩ := IntOp.andi_eq_one.1 z
  exact ⟨fun i => real_of_cmp a0 _ i (Host.reduce_andi_all _ _ _ _ _ e0 i),
    fun i => real_of_cmp a1 _ i (Host.reduce_andi_all _ _ _ _ _ e1 i),
    fun i => real_of_cmp a2 _ i (Host.reduce_andi_all _ _ _ _ _ e2 i),
    fun i => real_of_cmp a3 _ i (Host.reduce_andi_all _ _ _ _ _ e3 i),
    fun i => real_of_cmp a4 _ i (Host.reduce_andi_all _ _ _ _ _ e4 i),
    fun i => real_of_cmp a5 _ i (Host.reduce_andi_all _ _ _ _ _ e5 i),
    fun i => real_of_cmp a6 _ i (Host.reduce_andi_all _ _ _ _ _ e6 i),
    fun i => real_of_cmp a7 _ i (Host.reduce_andi_all _ _ _ _ _ e7 i),
    fun i => real_of_cmp a8 _ i (Host.reduce_andi_all _ _ _ _ _ e8 i)⟩

/-- The real arrays such arguments hold. -/
theorem data (a0 a1 : FVec Ideal S2048x1024 .f32) (a2 : FVec Ideal S2048x3072 .f32) (a3 a4 a5 : FVec Ideal S2048x1024 .f32)
    (a6 a7 : FVec Ideal S8x16x128x128 .f32) (a8 : FVec Ideal S2048x1024 .f32)
    (e : fn a0 a1 a2 a3 a4 a5 a6 a7 a8 = fun _ => 1#1) :
    ∃ x : Delta.Data, x.Holds a0 a1 a3 a4 a5 a8 a2 a6 a7 := by
  obtain ⟨h0, h1, h2, h3, h4, h5, h6, h7, h8⟩ := reals _ _ _ _ _ _ _ _ _ e
  exact ⟨{ q := fun r l => (a0 (ix2 r l) : EReal).toReal, k := fun r l => (a1 (ix2 r l) : EReal).toReal
           v := fun r l => (a2 (ix2 r l) : EReal).toReal, g := fun r l => (a3 (ix2 r l) : EReal).toReal
           b := fun r l => (a4 (ix2 r l) : EReal).toReal, c := fun r l => (a5 (ix2 r l) : EReal).toReal
           S := fun h n i j => (a6 (ix4 h n i j) : EReal).toReal, P := fun h n i j => (a7 (ix4 h n i j) : EReal).toReal
           dy := fun r l => (a8 (ix2 r l) : EReal).toReal },
    { q := fun _ _ => h0 _, k := fun _ _ => h1 _, v := fun _ _ => h2 _, g := fun _ _ => h3 _, b := fun _ _ => h4 _
      c := fun _ _ => h5 _, S := fun _ _ _ _ => h6 _, P := fun _ _ _ _ => h7 _, dy := fun _ _ => h8 _ }⟩

end Cert.Pre_finite

end
-- ==== Proof.UpDxRead.lean ====
/-
  What one point of the grid of the MLP's input gradient leaves in its accumulator and in its two blocks: the accumulator takes
  the product of the point's blocks; the last point of a row of blocks also writes the row's gradient and adds to the norm
  weight's.
-/
module

public import proofs.«01_k».proof.Proof.Gen.UpDxIdeal
public import proofs.«01_k».proof.Proof.Gen.UpDxIdeal.Frame
public import Idealize.ShloMosaic.Lib.Pipeline.Value

@[expose] public section

set_option maxRecDepth 16384

noncomputable section

open Idealize.ShloMosaic Idealize.ShloMosaic.TcCoe Idealize.SL.Sem

namespace Cert.UpDxIdeal.Point

open Cert.UpDxIdeal Cert.UpDxIdeal.Gen

variable {F : FTy → Type} [FloatOps F]

/-- Zero offsets, however spelt. -/
theorem hz2 : (![0, 0] : Fin 2 → ℕ) = fun _ => 0 := by decide

/-- What the first point of a row leaves in the accumulator. -/
theorem sout0_A_0_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : cond0_0 i) (hc1 : ¬cond0_1 i)
    (x0 : Vec F S512x1024 .bf16) (x1 : Vec F S2048x1024 .bf16) (x2 : Vec F S512x2048 .f32) (x3 : Vec F S1x2048 .f32) (x4 : Vec F S512x2048 .f32) :
    sout0_A_0 c i a2 h2 a3 h3 a4 h4 a5 h5 a6 h6 a7 h7 a8 h8 a9 h9 hc0 hc1 x0 x1 x2 x3 x4 = k0_pay2 k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

/-- What a point inside a row leaves in the accumulator. -/
theorem sout0_B_0_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : ¬cond0_1 i)
    (x0 : Vec F S512x1024 .bf16) (x1 : Vec F S2048x1024 .bf16) (x2 : Vec F S512x2048 .f32) (x3 : Vec F S1x2048 .f32) (x4 : Vec F S512x2048 .f32) (xs : Vec F S512x2048 .f32) :
    sout0_B_0 c i a2 h2 a3 h3 a4 h4 a5 h5 a6 h6 a7 h7 a8 h8 a9 h9 hc0 hc1 x0 x1 x2 x3 x4 xs = k0_pay2 xs x0 x1 := by
  unfold sout0_B_0
  rw [View.read_writes_eq_canon _ _ _ (scover0_B_0 c i a2 h2 a3 h3 a4 h4 a5 h5 a6 h6 a7 h7 a8 h8 a9 h9 hc0 hc1 x0 x1 x2 x3 x4 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

/-- What the last point of the first row leaves in the accumulator. -/
theorem sout0_C_0_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : cond0_2 i) (hc3 : ¬cond0_3 i)
    (x0 : Vec F S512x1024 .bf16) (x1 : Vec F S2048x1024 .bf16) (x2 : Vec F S512x2048 .f32) (x3 : Vec F S1x2048 .f32) (x4 : Vec F S512x2048 .f32) (xs : Vec F S512x2048 .f32) :
    sout0_C_0 c i a2 h2 a3 h3 a4 h4 a5 h5 a6 h6 a7 h7 a8 h8 a9 h9 hc0 hc1 hc2 hc3 x0 x1 x2 x3 x4 xs = k0_pay2 xs x0 x1 := by
  unfold sout0_C_0
  rw [View.read_writes_eq_canon _ _ _ (scover0_C_0 c i a2 h2 a3 h3 a4 h4 a5 h5 a6 h6 a7 h7 a8 h8 a9 h9 hc0 hc1 hc2 hc3 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

/-- What the last point of a later row leaves in the accumulator. -/
theorem sout0_D_0_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : ¬cond0_2 i) (hc3 : cond0_3 i)
    (x0 : Vec F S512x1024 .bf16) (x1 : Vec F S2048x1024 .bf16) (x2 : Vec F S512x2048 .f32) (x3 : Vec F S1x2048 .f32) (x4 : Vec F S512x2048 .f32) (xo : Vec F S1x2048 .f32) (xs : Vec F S512x2048 .f32) :
    sout0_D_0 c i a2 h2 a3 h3 a4 h4 a5 h5 a6 h6 a7 h7 a8 h8 a9 h9 hc0 hc1 hc2 hc3 x0 x1 x2 x3 x4 xo xs = k0_pay2 xs x0 x1 := by
  unfold sout0_D_0
  rw [View.read_writes_eq_canon _ _ _ (scover0_D_0 c i a2 h2 a3 h3 a4 h4 a5 h5 a6 h6 a7 h7 a8 h8 a9 h9 hc0 hc1 hc2 hc3 x0 x1 x2 x3 x4 xo xs)]
  unfold kernelRun0_D
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

/-- What the last point of the first row leaves in the row's gradient. -/
theorem out0_C_5_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : cond0_2 i) (hc3 : ¬cond0_3 i)
    (x0 : Vec F S512x1024 .bf16) (x1 : Vec F S2048x1024 .bf16) (x2 : Vec F S512x2048 .f32) (x3 : Vec F S1x2048 .f32) (x4 : Vec F S512x2048 .f32) (xs : Vec F S512x2048 .f32) :
    out0_C_5 c i a2 h2 a3 h3 a4 h4 a5 h5 a6 h6 a7 h7 a8 h8 a9 h9 hc0 hc1 hc2 hc3 x0 x1 x2 x3 x4 xs = k0_pay7 x2 x3 (k0_pay2 xs x0 x1) x4 := by
  unfold out0_C_5
  rw [View.read_writes_eq_canon _ _ _ (cover0_C_5 c i a2 h2 a3 h3 a4 h4 a5 h5 a6 h6 a7 h7 a8 h8 a9 h9 hc0 hc1 hc2 hc3 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

/-- What the last point of a later row leaves in the row's gradient. -/
theorem out0_D_5_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : ¬cond0_2 i) (hc3 : cond0_3 i)
    (x0 : Vec F S512x1024 .bf16) (x1 : Vec F S2048x1024 .bf16) (x2 : Vec F S512x2048 .f32) (x3 : Vec F S1x2048 .f32) (x4 : Vec F S512x2048 .f32) (xo : Vec F S1x2048 .f32) (xs : Vec F S512x2048 .f32) :
    out0_D_5 c i a2 h2 a3 h3 a4 h4 a5 h5 a6 h6 a7 h7 a8 h8 a9 h9 hc0 hc1 hc2 hc3 x0 x1 x2 x3 x4 xo xs = k0_pay7 x2 x3 (k0_pay2 xs x0 x1) x4 := by
  unfold out0_D_5
  rw [View.read_writes_eq_canon _ _ _ (cover0_D_5 c i a2 h2 a3 h3 a4 h4 a5 h5 a6 h6 a7 h7 a8 h8 a9 h9 hc0 hc1 hc2 hc3 x0 x1 x2 x3 x4 xo xs)]
  unfold kernelRun0_D
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

/-- What the last point of the first row leaves in the norm weight's gradient. -/
theorem out0_C_6_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : cond0_2 i) (hc3 : ¬cond0_3 i)
    (x0 : Vec F S512x1024 .bf16) (x1 : Vec F S2048x1024 .bf16) (x2 : Vec F S512x2048 .f32) (x3 : Vec F S1x2048 .f32) (x4 : Vec F S512x2048 .f32) (xs : Vec F S512x2048 .f32) :
    out0_C_6 c i a2 h2 a3 h3 a4 h4 a5 h5 a6 h6 a7 h7 a8 h8 a9 h9 hc0 hc1 hc2 hc3 x0 x1 x2 x3 x4 xs = k0_pay6 x2 (k0_pay2 xs x0 x1) := by
  unfold out0_C_6
  rw [View.read_writes_eq_canon _ _ _ (cover0_C_6 c i a2 h2 a3 h3 a4 h4 a5 h5 a6 h6 a7 h7 a8 h8 a9 h9 hc0 hc1 hc2 hc3 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

/-- What the last point of a later row leaves in the norm weight's gradient. -/
theorem out0_D_6_eq (c : Dev nD) (i : grid0.Coords) (a2 : Memref sig .tc .vmem S512x1024 .bf16) (h2 : a2.IsWhole) (a3 : Memref sig .tc .vmem S2048x1024 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : ¬cond0_2 i) (hc3 : cond0_3 i)
    (x0 : Vec F S512x1024 .bf16) (x1 : Vec F S2048x1024 .bf16) (x2 : Vec F S512x2048 .f32) (x3 : Vec F S1x2048 .f32) (x4 : Vec F S512x2048 .f32) (xo : Vec F S1x2048 .f32) (xs : Vec F S512x2048 .f32) :
    out0_D_6 c i a2 h2 a3 h3 a4 h4 a5 h5 a6 h6 a7 h7 a8 h8 a9 h9 hc0 hc1 hc2 hc3 x0 x1 x2 x3 x4 xo xs = k0_pay3 (k0_pay6 x2 (k0_pay2 xs x0 x1)) xo := by
  unfold out0_D_6
  rw [View.read_writes_eq_canon _ _ _ (cover0_D_6 c i a2 h2 a3 h3 a4 h4 a5 h5 a6 h6 a7 h7 a8 h8 a9 h9 hc0 hc1 hc2 hc3 x0 x1 x2 x3 x4 xo xs)]
  unfold kernelRun0_D
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x1024) hz2, View.ld_unit_zero (S := S2048x1024) hz2, View.ld_unit_zero (S := S512x2048) hz2, View.ld_unit_zero (S := S1x2048) hz2, shapeCast_self]

end Cert.UpDxIdeal.Point

end
-- ==== Proof.UpDxRow.lean ====
/-
  The gradient of the norm, row by row, over the extended reals: what the kernel computes of a row of tokens from the gradient
  of the row's normed tokens, and what the reference computes, each read at an index. The two are the same function of the row.
-/
module

public import proofs.«01_k».proof.Proof.UpDxRead
public import proofs.«01_k».proof.Proof.Gen.UpDxReferenceIdeal
public import proofs.«01_k».proof.Proof.Gen.UpDxReferenceIdeal.Run
public import proofs.«01_k».proof.Proof.Gen.UpDxReferenceIdeal.Read
public import Idealize.ShloMosaic.Lib.Pointwise

@[expose] public section

set_option maxRecDepth 16384

noncomputable section

open Idealize.ShloMosaic Idealize.ShloMosaic.TcCoe Idealize.SL.Sem

namespace Cert.UpDxIdeal.Row

open Cert.UpDxIdeal Cert.UpDxIdeal.Gen

/-- The width of a row, the norm's small constant and minus one half, as the programs' constants. -/
abbrev width : EReal := Ideal.ofBits .f32 0x45000000#32
abbrev eps : EReal := Ideal.ofBits .f32 0x358637BD#32
abbrev half : EReal := Ideal.ofBits .f32 0xBF000000#32

/-- A row's mean square, with the norm's small constant added. -/
def msq (X : Fin 2048 → EReal) : EReal := Ideal.div (∑ k, X k * X k) width + eps

/-- The reciprocal of its root. -/
def invRoot (X : Fin 2048 → EReal) : EReal := Ideal.rsqrt (msq X)

/-- The gradient of the row's mean square, from the row, the norm's weights and the gradient of the normed row. -/
def slant (X W D : Fin 2048 → EReal) : EReal :=
  Ideal.div ((∑ k, X k * (D k * W k)) * (half * Ideal.div (invRoot X) (msq X))) width

/-- The gradient of the row: the residual's part and the norm's. -/
def grad (X W D Y : Fin 2048 → EReal) (j : Fin 2048) : EReal :=
  Y j + D j * W j * invRoot X + X j * slant X W D + slant X W D * X j

/-- The row's share of the gradient of the norm's weights. -/
def share (X D : Fin 2048 → EReal) (j : Fin 2048) : EReal := X j * invRoot X * D j

theorem pay1 (i : Fin 512) (j : Fin 2048) : (k0_pay1 : FVec Ideal S512x2048 .f32) (ix2 i j) = 0 := by
  unfold k0_pay1
  pointwise []

theorem pay2 (s : Vec Ideal S512x2048 .f32) (x : Vec Ideal S512x1024 .bf16) (y : Vec Ideal S2048x1024 .bf16) (i : Fin 512) (j : Fin 2048) :
    k0_pay2 s x y (ix2 i j) = s (ix2 i j) + ∑ k : Fin 1024, x (ix2 i k) * y (ix2 j k) := by
  unfold k0_pay2
  pointwise []

theorem pay3 (a b : Vec Ideal S1x2048 .f32) (j : Fin 2048) : k0_pay3 a b (ix2 0 j) = b (ix2 0 j) + a (ix2 0 j) := by
  unfold k0_pay3
  pointwise []

theorem pay4 (x : Vec Ideal S512x2048 .f32) (i : Fin 512) : k0_pay4 x (ix2 i 0) = msq (fun k => x (ix2 i k)) := by
  unfold k0_pay4 msq
  pointwise []

theorem pay5 (x : Vec Ideal S512x2048 .f32) (i : Fin 512) : k0_pay5 x (ix2 i 0) = invRoot (fun k => x (ix2 i k)) := by
  unfold k0_pay5 invRoot
  pointwise []
  rw [pay4]

theorem pay6 (x d : Vec Ideal S512x2048 .f32) (j : Fin 2048) :
    k0_pay6 x d (ix2 0 j) = ∑ i : Fin 512, share (fun k => x (ix2 i k)) (fun k => d (ix2 i k)) j := by
  unfold k0_pay6 share
  pointwise []
  simp only [pay5]

theorem pay7 (x : Vec Ideal S512x2048 .f32) (w : Vec Ideal S1x2048 .f32) (d y : Vec Ideal S512x2048 .f32) (i : Fin 512) (j : Fin 2048) :
    k0_pay7 x w d y (ix2 i j)
      = grad (fun k => x (ix2 i k)) (fun k => w (ix2 0 k)) (fun k => d (ix2 i k)) (fun k => y (ix2 i k)) j := by
  unfold k0_pay7 grad slant
  pointwise []
  simp only [Fin.sum_univ_one, pay5, pay4]

end Cert.UpDxIdeal.Row

namespace Cert.UpDxReferenceIdeal.Row

open Cert.UpDxReferenceIdeal Cert.UpDxReferenceIdeal.Gen Cert.UpDxReferenceIdeal.Read
open Cert.UpDxIdeal.Row (msq invRoot slant grad share)

variable (x0 : Vec Ideal S2048x2048 .f32) (x1 : Vec Ideal S1x2048 .f32) (x2 : Vec Ideal S2048x8192 .f32)
  (x3 : Vec Ideal S8192x2048 .f32) (x4 : Vec Ideal S2048x2048 .f32)

theorem v6 (i : Fin 2048) : val_main_v6 (F := Ideal) x0 (ix2 i 0) = msq (fun k => x0 (ix2 i k)) := by
  unfold val_main_v6 val_main_v5 val_main_v4 val_main_v3 val_main_v2 val_main_v1 val_main_v0 val_main_cst val_main_cst_0 val_main_cst_1 msq
  pointwise []

theorem v7 (i : Fin 2048) : val_main_v7 (F := Ideal) x0 (ix2 i 0) = invRoot (fun k => x0 (ix2 i k)) := by
  unfold val_main_v7 invRoot
  pointwise []
  rw [v6]

/-- The gradient of the normed tokens. -/
theorem v30 (i j : Fin 2048) : val_main_v30 (F := Ideal) x0 x1 x2 x3 x4 (ix2 i j)
    = ∑ k : Fin 8192, val_main_v29 (F := Ideal) x0 x1 x2 x3 x4 (ix2 i k) * x2 (ix2 j k) := by
  unfold val_main_v30
  pointwise []

theorem v33 (j : Fin 2048) : val_main_v33 (F := Ideal) x0 x1 x2 x3 x4 (ix2 0 j)
    = ∑ i : Fin 2048, share (fun k => x0 (ix2 i k)) (fun k => val_main_v30 (F := Ideal) x0 x1 x2 x3 x4 (ix2 i k)) j := by
  unfold val_main_v33 val_main_v32 val_main_v31 val_main_v12 val_main_v11 val_main_cst_7 share
  pointwise []
  simp only [v7]

theorem v46 (i j : Fin 2048) : val_main_v46 (F := Ideal) x0 x1 x2 x3 x4 (ix2 i j)
    = slant (fun k => x0 (ix2 i k)) (fun k => x1 (ix2 0 k)) (fun k => val_main_v30 (F := Ideal) x0 x1 x2 x3 x4 (ix2 i k)) := by
  unfold val_main_v46 val_main_v45 val_main_v44 val_main_v43 val_main_v42 val_main_v38 val_main_v37 val_main_v36 val_main_v35 val_main_v34
    val_main_v10 val_main_v9 val_main_v8 val_main_cst_8 val_main_cst_9 val_main_cst_10 val_main_cst_2 slant
  pointwise []
  simp only [Fin.sum_univ_one, v7, v6]

theorem v50 (i j : Fin 2048) : val_main_v50 (F := Ideal) x0 x1 x2 x3 x4 (ix2 i j)
    = grad (fun k => x0 (ix2 i k)) (fun k => x1 (ix2 0 k)) (fun k => val_main_v30 (F := Ideal) x0 x1 x2 x3 x4 (ix2 i k)) (fun k => x4 (ix2 i k)) j := by
  unfold val_main_v50 val_main_v49 val_main_v48 val_main_v47 val_main_v41 val_main_v40 val_main_v39 val_main_v35 val_main_v34 grad
  pointwise []
  simp only [v46, v7]

end Cert.UpDxReferenceIdeal.Row

end
-- ==== Proof.UpDx.lean ====
/-
  The gradient through the MLP's first matrix and its norm: the grid goes over four blocks of 512 rows, and inside each over
  eight blocks of the hidden layer, whose products it adds up in an accumulator. At the last block of a row of blocks it turns
  the accumulator into the rows' gradient, and adds the rows' share to the gradient of the norm's weights. The reference's sums
  are the same, not cut into blocks.
-/
module

public import proofs.«01_k».proof.Defs
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxReferenceIdeal
public import proofs.«01_k».proof.Proof.Gen.UpDxReferenceIdeal.Run
public import proofs.«01_k».proof.Proof.Gen.UpDxReferenceIdeal.Read
public import proofs.«01_k».proof.Proof.UpDxRead
public import proofs.«01_k».proof.Proof.UpDxRow
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.UpDxIdeal.Whole

open Cert.UpDxIdeal Cert.UpDxIdeal.Gen Cert.UpDxIdeal.Value Cert.UpDxIdeal.Point Cert.UpDxIdeal.Row

variable (m : (ℓ : Loc nD τ sig) → Buf (Elt Ideal) ℓ)

theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)

/-- The hidden layer's gradient at the region's entry. -/
def da (c : Dev nD) : Vec Ideal S2048x8192 .bf16 := V m c main_v25

/-- The first weight matrix at the region's entry. -/
def w1 (c : Dev nD) : Vec Ideal S2048x8192 .bf16 := V m c main_v26

/-- The tokens, the norm's weights and the output's gradient at the region's entry. -/
def tok (c : Dev nD) : Vec Ideal S2048x2048 .f32 := V m c main_arg0
def wn (c : Dev nD) : Vec Ideal S1x2048 .f32 := V m c main_arg1
def dy (c : Dev nD) : Vec Ideal S2048x2048 .f32 := V m c main_arg4

/-- Row `i` of the `I`-th block of rows, and column `k` of the `b`-th block of the hidden layer. -/
def row (I : ℕ) (i : Fin 512) : Fin 2048 := ⟨I % 4 * 512 + i.val, by omega⟩
def col (b : ℕ) (k : Fin 1024) : Fin 8192 := ⟨b % 8 * 1024 + k.val, by omega⟩

/-- The gradient of the normed tokens, whole and of one block of the hidden layer. -/
def prod (c : Dev nD) (R C : Fin 2048) : EReal := ∑ K : Fin 8192, da m c (ix2 R K) * w1 m c (ix2 C K)
def part (c : Dev nD) (R C : Fin 2048) (b : ℕ) : EReal := ∑ k : Fin 1024, da m c (ix2 R (col b k)) * w1 m c (ix2 C (col b k))

theorem sum_cols (f : Fin 8192 → EReal) : ∑ b ∈ Finset.range 8, ∑ k : Fin 1024, f (col b k) = ∑ K, f K := by
  rw [Finset.sum_range, ← Fintype.sum_prod_type' (f := fun (b : Fin 8) (k : Fin 1024) => f (col b.val k))]
  refine Fintype.sum_equiv (finProdFinEquiv : Fin 8 × Fin 1024 ≃ Fin 8192) _ _ (fun p => congrArg f (Fin.ext ?_))
  show p.1.val % 8 * 1024 + p.2.val = p.2.val + 1024 * p.1.val
  omega

theorem sum_rows (f : Fin 2048 → EReal) : ∑ I ∈ Finset.range 4, ∑ i : Fin 512, f (row I i) = ∑ R, f R := by
  rw [Finset.sum_range, ← Fintype.sum_prod_type' (f := fun (I : Fin 4) (i : Fin 512) => f (row I.val i))]
  refine Fintype.sum_equiv (finProdFinEquiv : Fin 4 × Fin 512 ≃ Fin 2048) _ _ (fun p => congrArg f (Fin.ext ?_))
  show p.1.val % 4 * 512 + p.2.val = p.2.val + 512 * p.1.val
  omega

theorem bound (t : Fin cfg0.N) : t.val < 32 := lt_of_lt_of_eq t.isLt N_0

/-- The block of the hidden layer's gradient, read at an index. -/
theorem left (c : Dev nD) (t : Fin cfg0.N) (i : Fin 512) (k : Fin 1024) :
    (iblk m c 0 t : Vec Ideal S512x1024 .bf16) (ix2 i k) = da m c (ix2 (row (t.val / 8) i) (col (t.val % 8) k)) := by
  unfold iblk
  rw [View.read_apply]
  show V m c main_v25 _ = V m c main_v25 _
  congr 1
  funext a
  apply Fin.ext
  match a with
  | ⟨0, _⟩ =>
    show win0_0.index t 0 * 512 + 1 * i.val = t.val / 8 % 4 * 512 + i.val
    rw [(idx0 t).1]
    have := bound t
    omega
  | ⟨1, _⟩ =>
    show win0_0.index t 1 * 1024 + 1 * k.val = t.val % 8 % 8 * 1024 + k.val
    rw [(idx0 t).2]
    omega

/-- The block of the first weight matrix, read at an index. -/
theorem right (c : Dev nD) (t : Fin cfg0.N) (j : Fin 2048) (k : Fin 1024) :
    (iblk m c 1 t : Vec Ideal S2048x1024 .bf16) (ix2 j k) = w1 m c (ix2 j (col (t.val % 8) k)) := by
  unfold iblk
  rw [View.read_apply]
  show V m c main_v26 _ = V m c main_v26 _
  congr 1
  funext a
  apply Fin.ext
  match a with
  | ⟨0, _⟩ => show win0_1.index t 0 * 2048 + 1 * j.val = j.val; rw [(idx1 t).1]; omega
  | ⟨1, _⟩ =>
    show win0_1.index t 1 * 1024 + 1 * k.val = t.val % 8 % 8 * 1024 + k.val
    rw [(idx1 t).2]
    omega

/-- The block of the tokens, read at an index. -/
theorem tokens (c : Dev nD) (t : Fin cfg0.N) (i : Fin 512) (k : Fin 2048) :
    (iblk m c 2 t : Vec Ideal S512x2048 .f32) (ix2 i k) = tok m c (ix2 (row (t.val / 8) i) k) := by
  unfold iblk
  rw [View.read_apply]
  show V m c main_arg0 _ = V m c main_arg0 _
  congr 1
  funext a
  apply Fin.ext
  match a with
  | ⟨0, _⟩ =>
    show win0_2.index t 0 * 512 + 1 * i.val = t.val / 8 % 4 * 512 + i.val
    rw [(idx2 t).1]
    have := bound t
    omega
  | ⟨1, _⟩ => show win0_2.index t 1 * 2048 + 1 * k.val = k.val; rw [(idx2 t).2]; omega

/-- The norm's weights, read at an index. -/
theorem weights (c : Dev nD) (t : Fin cfg0.N) (i : Fin 1) (k : Fin 2048) :
    (iblk m c 3 t : Vec Ideal S1x2048 .f32) (ix2 i k) = wn m c (ix2 i k) := by
  unfold iblk
  rw [View.read_apply]
  show V m c main_arg1 _ = V m c main_arg1 _
  congr 1
  funext a
  apply Fin.ext
  match a with
  | ⟨0, _⟩ => show win0_3.index t 0 * 1 + 1 * i.val = i.val; rw [(idx3 t).1]; omega
  | ⟨1, _⟩ => show win0_3.index t 1 * 2048 + 1 * k.val = k.val; rw [(idx3 t).2]; omega

/-- The block of the output's gradient, read at an index. -/
theorem outgrad (c : Dev nD) (t : Fin cfg0.N) (i : Fin 512) (k : Fin 2048) :
    (iblk m c 4 t : Vec Ideal S512x2048 .f32) (ix2 i k) = dy m c (ix2 (row (t.val / 8) i) k) := by
  unfold iblk
  rw [View.read_apply]
  show V m c main_arg4 _ = V m c main_arg4 _
  congr 1
  funext a
  apply Fin.ext
  match a with
  | ⟨0, _⟩ =>
    show win0_4.index t 0 * 512 + 1 * i.val = t.val / 8 % 4 * 512 + i.val
    rw [(idx4 t).1]
    have := bound t
    omega
  | ⟨1, _⟩ => show win0_4.index t 1 * 2048 + 1 * k.val = k.val; rw [(idx4 t).2]; omega

/-- An index of a single row. -/
theorem one_row (idx : S1x2048.Idx) : idx = ix2 0 (idx 1) := by
  funext a
  apply Fin.ext
  match a with
  | ⟨0, _⟩ =>
    have h : (idx 0).val < 1 := (idx 0).isLt
    show (idx 0).val = 0
    omega
  | ⟨1, _⟩ => rfl

/-- The point before. -/
theorem before (t : Fin cfg0.N) : t.val - 1 < cfg0.N := Nat.lt_of_le_of_lt (Nat.sub_le _ _) t.isLt

/-- What the first point of a row of blocks leaves in the accumulator. -/
theorem acc_first (c : Dev nD) (t : Fin cfg0.N) (h0 : t.val % 8 = 0) :
    (outsAt0 m c t.val t.isLt).2.2 = k0_pay2 k0_pay1 (iblk m c 0 t) (iblk m c 1 t) := by
  simp only [outsAt0_A m c t h0 (show ¬t.val % 8 = 7 by omega)]
  rw [sout0_A_0_eq]

/-- What any other point leaves in the accumulator. -/
theorem acc_next (c : Dev nD) (t : Fin cfg0.N) (h0 : ¬t.val % 8 = 0) :
    (outsAt0 m c t.val t.isLt).2.2 = k0_pay2 (outsAt0 m c (t.val - 1) (before t)).2.2 (iblk m c 0 t) (iblk m c 1 t) := by
  by_cases h1 : t.val % 8 = 7
  · by_cases h2 : t.val < 8
    · simp only [outsAt0_C m c t h0 h1 h2 (show ¬8 ≤ t.val by omega)]
      rw [sout0_C_0_eq]
    · simp only [outsAt0_D m c t h0 h1 h2 (show 8 ≤ t.val by omega)]
      rw [sout0_D_0_eq]
  · simp only [outsAt0_B m c t h0 h1]
    rw [sout0_B_0_eq]

/-- The rows' gradient, at the last point of a row of blocks. -/
theorem rows_last (c : Dev nD) (t : Fin cfg0.N) (h1 : t.val % 8 = 7) :
    (outsAt0 m c t.val t.isLt).1 = k0_pay7 (iblk m c 2 t) (iblk m c 3 t) (outsAt0 m c t.val t.isLt).2.2 (iblk m c 4 t) := by
  rw [acc_next m c t (by omega)]
  by_cases h2 : t.val < 8
  · simp only [outsAt0_C m c t (show ¬t.val % 8 = 0 by omega) h1 h2 (show ¬8 ≤ t.val by omega)]
    rw [out0_C_5_eq]
  · simp only [outsAt0_D m c t (show ¬t.val % 8 = 0 by omega) h1 h2 (show 8 ≤ t.val by omega)]
    rw [out0_D_5_eq]

/-- The gradient of the norm's weights, at the last point of the first row of blocks. -/
theorem sum_first (c : Dev nD) (t : Fin cfg0.N) (h1 : t.val % 8 = 7) (h2 : t.val < 8) :
    (outsAt0 m c t.val t.isLt).2.1 = k0_pay6 (iblk m c 2 t) (outsAt0 m c t.val t.isLt).2.2 := by
  rw [acc_next m c t (by omega)]
  simp only [outsAt0_C m c t (show ¬t.val % 8 = 0 by omega) h1 h2 (show ¬8 ≤ t.val by omega)]
  rw [out0_C_6_eq]

/-- … at the last point of a later row of blocks … -/
theorem sum_next (c : Dev nD) (t : Fin cfg0.N) (h1 : t.val % 8 = 7) (h2 : ¬t.val < 8) :
    (outsAt0 m c t.val t.isLt).2.1
      = k0_pay3 (k0_pay6 (iblk m c 2 t) (outsAt0 m c t.val t.isLt).2.2) (outsAt0 m c (t.val - 1) (before t)).2.1 := by
  rw [acc_next m c t (by omega)]
  simp only [outsAt0_D m c t (show ¬t.val % 8 = 0 by omega) h1 h2 (show 8 ≤ t.val by omega)]
  rw [out0_D_6_eq]

/-- … and at any other point, which leaves it alone. -/
theorem sum_idle (c : Dev nD) (t : Fin cfg0.N) (h1 : ¬t.val % 8 = 7) :
    (outsAt0 m c t.val t.isLt).2.1 = (outsAt0 m c (t.val - 1) (before t)).2.1 := by
  by_cases h0 : t.val % 8 = 0
  · simp only [outsAt0_A m c t h0 h1]
    rfl
  · simp only [outsAt0_B m c t h0 h1]
    rfl

/-- The accumulator after any point: the products of the row's blocks so far. -/
theorem acc (c : Dev nD) (n : ℕ) (hn : n < cfg0.N) (i : Fin 512) (j : Fin 2048) :
    (outsAt0 m c n hn).2.2 (ix2 i j) = ∑ b ∈ Finset.range (n % 8 + 1), part m c (row (n / 8) i) j b := by
  induction n with
  | zero =>
    refine (congrFun (acc_first m c ⟨0, hn⟩ rfl) (ix2 i j)).trans ?_
    rw [pay2, pay1, zero_add]
    simp only [left, right]
    exact (Finset.sum_range_one (part m c (row (0 / 8) i) j)).symm
  | succ n ih =>
    by_cases h0 : (n + 1) % 8 = 0
    · refine (congrFun (acc_first m c ⟨n + 1, hn⟩ h0) (ix2 i j)).trans ?_
      rw [pay2, pay1, zero_add]
      simp only [left, right]
      rw [h0]
      exact (Finset.sum_range_one (part m c (row ((n + 1) / 8) i) j)).symm
    · refine (congrFun (acc_next m c ⟨n + 1, hn⟩ h0) (ix2 i j)).trans ?_
      rw [pay2]
      simp only [left, right]
      rw [Finset.sum_range_succ]
      refine congrArg₂ (· + ·) ?_ rfl
      refine (ih (Nat.lt_of_succ_lt hn)).trans ?_
      rw [show n % 8 + 1 = (n + 1) % 8 by omega, show n / 8 = (n + 1) / 8 by omega]

/-- … and after the last point of a row of blocks: the whole product. -/
theorem acc_last (c : Dev nD) (t : Fin cfg0.N) (h1 : t.val % 8 = 7) (i : Fin 512) (j : Fin 2048) :
    (outsAt0 m c t.val t.isLt).2.2 (ix2 i j) = prod m c (row (t.val / 8) i) j := by
  rw [acc, h1]
  exact sum_cols (fun K => da m c (ix2 (row (t.val / 8) i) K) * w1 m c (ix2 j K))

/-- A row's share of the gradient of the norm's weights. -/
def rowShare (c : Dev nD) (j : Fin 2048) (R : Fin 2048) : EReal := share (fun k => tok m c (ix2 R k)) (prod m c R) j

/-- The share of a block of rows. -/
theorem block_share (c : Dev nD) (t : Fin cfg0.N) (h1 : t.val % 8 = 7) (j : Fin 2048) :
    k0_pay6 (iblk m c 2 t) (outsAt0 m c t.val t.isLt).2.2 (ix2 0 j) = ∑ i : Fin 512, rowShare m c j (row (t.val / 8) i) := by
  rw [pay6]
  simp only [tokens, acc_last m c t h1]
  rfl

/-- The gradient of the norm's weights after any point past the first row of blocks. -/
theorem sums (c : Dev nD) (n : ℕ) (hn : n < cfg0.N) (h7 : 7 ≤ n) (j : Fin 2048) :
    (outsAt0 m c n hn).2.1 (ix2 0 j) = ∑ I ∈ Finset.range ((n + 1) / 8), ∑ i : Fin 512, rowShare m c j (row I i) := by
  induction n with
  | zero => omega
  | succ n ih =>
    by_cases h1 : (n + 1) % 8 = 7
    · by_cases h2 : n + 1 < 8
      · refine (congrFun (sum_first m c ⟨n + 1, hn⟩ h1 h2) (ix2 0 j)).trans ((block_share m c ⟨n + 1, hn⟩ h1 j).trans ?_)
        rw [show (n + 1 + 1) / 8 = 1 by omega, show (n + 1) / 8 = 0 by omega]
        exact (Finset.sum_range_one (fun I => ∑ i : Fin 512, rowShare m c j (row I i))).symm
      · refine (congrFun (sum_next m c ⟨n + 1, hn⟩ h1 h2) (ix2 0 j)).trans ?_
        rw [pay3, block_share m c ⟨n + 1, hn⟩ h1 j, show (n + 1 + 1) / 8 = (n + 1) / 8 + 1 by omega, Finset.sum_range_succ]
        exact congrArg₂ (· + ·) (ih (Nat.lt_of_succ_lt hn) (by omega)) rfl
    · refine (congrFun (sum_idle m c ⟨n + 1, hn⟩ h1) (ix2 0 j)).trans ?_
      refine (ih (Nat.lt_of_succ_lt hn) (by omega)).trans ?_
      rw [show (n + 1 + 1) / 8 = (n + 1) / 8 by omega]

/-- The rows' gradient, read at an index. -/
theorem result5 (c : Dev nD) (R j : Fin 2048) :
    (G5 m c : Vec Ideal S2048x2048 .f32) (ix2 R j)
      = grad (fun k => tok m c (ix2 R k)) (fun k => wn m c (ix2 0 k)) (prod m c R) (fun k => dy m c (ix2 R k)) j := by
  have hp : pt5Of (ix2 R j : S2048x2048.Idx) = 8 * (R.val / 512) + 7 := by
    show 8 * (1 * (R.val / 512 - 0) + 1 * (j.val / 2048 - 0)) + 7 = _
    omega
  have hn : 8 * (R.val / 512) + 7 < cfg0.N := lt_of_lt_of_eq (by omega : _ < 32) N_0.symm
  have hl : loc5Of (ix2 R j : S2048x2048.Idx) = ix2 (⟨R.val % 512, Nat.mod_lt _ (by decide)⟩ : Fin 512) j := by
    funext a; apply Fin.ext
    match a with
    | ⟨0, _⟩ => rfl
    | ⟨1, _⟩ => show j.val % 2048 = j.val; omega
  have hr : row ((8 * (R.val / 512) + 7) / 8) (⟨R.val % 512, Nat.mod_lt _ (by decide)⟩ : Fin 512) = R := by
    apply Fin.ext
    show (8 * (R.val / 512) + 7) / 8 % 4 * 512 + R.val % 512 = R.val
    omega
  unfold G5
  rw [dif_pos (by rw [hp]; exact hn), hl, fold0_congr m c _ _ (8 * (R.val / 512) + 7) (by omega) hp, ← outsAt0_sweep m c _ hn]
  refine (congrFun (rows_last m c ⟨_, hn⟩ (by show (8 * (R.val / 512) + 7) % 8 = 7; omega)) _).trans ?_
  rw [pay7]
  simp only [tokens, weights, outgrad, acc_last m c ⟨_, hn⟩ (show (8 * (R.val / 512) + 7) % 8 = 7 by omega), hr]

/-- The gradient of the norm's weights, read at an index. -/
theorem result6 (c : Dev nD) (j : Fin 2048) :
    (G6 m c : Vec Ideal S1x2048 .f32) (ix2 0 j) = ∑ R : Fin 2048, rowShare m c j R := by
  have hn : 31 < cfg0.N := lt_of_lt_of_eq (by decide) N_0.symm
  rw [G6_last, ← outsAt0_sweep m c 31 hn]
  exact (sums m c 31 hn (by decide) j).trans (sum_rows (rowShare m c j))

end Cert.UpDxIdeal.Whole

namespace Cert.Proof.UpDx

open Cert.UpDxIdeal.Whole
open Cert.UpDxReferenceIdeal.Read

/-- The reference reshapes the output's gradient to its own shape. -/
theorem reshape_eq (x : Vec Ideal Cert.UpDxReferenceIdeal.S2048x2048 .f32) : val_main_v25 (F := Ideal) x = x := by
  funext idx
  obtain ⟨i, j, rfl⟩ : ∃ (i j : Fin 2048), idx = ix2 i j := ⟨idx 0, idx 1, eq_ix2 idx⟩
  rw [val_main_v25_apply]
  refine congrArg x ?_
  funext a
  apply Fin.ext
  match a with
  | ⟨0, _⟩ => show (i.val * 2048 + j.val) / 2048 = i.val; omega
  | ⟨1, _⟩ => show (i.val * 2048 + j.val) % 2048 = j.val; omega

/-- The gradient of the hidden layer the host hands the call is the reference's. -/
theorem da_eq (m : (ℓ : Loc Cert.UpDxIdeal.nD Cert.UpDxIdeal.τ Cert.UpDxIdeal.sig) → Buf (Elt Ideal) ℓ) (c : Dev Cert.UpDxIdeal.nD) :
    da m c = truncf (F := Ideal) .bf16 (val_main_v29 (F := Ideal) (m ((c.tc : Thread Cert.UpDxIdeal.nD Cert.UpDxIdeal.τ).loc Cert.UpDxIdeal.main_arg0))
      (m ((c.tc : Thread Cert.UpDxIdeal.nD Cert.UpDxIdeal.τ).loc Cert.UpDxIdeal.main_arg1))
      (m ((c.tc : Thread Cert.UpDxIdeal.nD Cert.UpDxIdeal.τ).loc Cert.UpDxIdeal.main_arg2))
      (m ((c.tc : Thread Cert.UpDxIdeal.nD Cert.UpDxIdeal.τ).loc Cert.UpDxIdeal.main_arg3))
      (m ((c.tc : Thread Cert.UpDxIdeal.nD Cert.UpDxIdeal.τ).loc Cert.UpDxIdeal.main_arg4))) Cert.UpDxIdeal.Gen.bitsLt_bf16_f32 := by
  unfold da val_main_v29 val_main_v27 val_main_v26
  rw [reshape_eq]
  entry_read
  rfl

/-- The first weight matrix the host hands the call is the argument. -/
theorem w1_eq (m : (ℓ : Loc Cert.UpDxIdeal.nD Cert.UpDxIdeal.τ Cert.UpDxIdeal.sig) → Buf (Elt Ideal) ℓ) (c : Dev Cert.UpDxIdeal.nD) (i : Fin 2048) (k : Fin 8192) :
    w1 m c (ix2 i k) = (m ((c.tc : Thread Cert.UpDxIdeal.nD Cert.UpDxIdeal.τ).loc Cert.UpDxIdeal.main_arg2)) (ix2 i k) := by
  unfold w1
  entry_read
  rfl

/-- The gradient of the normed tokens is the reference's. -/
theorem prod_eq (m : (ℓ : Loc Cert.UpDxIdeal.nD Cert.UpDxIdeal.τ Cert.UpDxIdeal.sig) → Buf (Elt Ideal) ℓ) (c : Dev Cert.UpDxIdeal.nD) (R : Fin 2048) :
    prod m c R = fun k => val_main_v30 (F := Ideal) (m ((c.tc : Thread Cert.UpDxIdeal.nD Cert.UpDxIdeal.τ).loc Cert.UpDxIdeal.main_arg0))
      (m ((c.tc : Thread Cert.UpDxIdeal.nD Cert.UpDxIdeal.τ).loc Cert.UpDxIdeal.main_arg1))
      (m ((c.tc : Thread Cert.UpDxIdeal.nD Cert.UpDxIdeal.τ).loc Cert.UpDxIdeal.main_arg2))
      (m ((c.tc : Thread Cert.UpDxIdeal.nD Cert.UpDxIdeal.τ).loc Cert.UpDxIdeal.main_arg3))
      (m ((c.tc : Thread Cert.UpDxIdeal.nD Cert.UpDxIdeal.τ).loc Cert.UpDxIdeal.main_arg4)) (ix2 R k) := by
  funext k
  rw [Cert.UpDxReferenceIdeal.Row.v30]
  unfold prod
  simp only [w1_eq, da_eq]
  rfl

/-- `Cert.quiescent_UpDxReferenceIdeal`: the reference ends, keeps its arguments and leaves no semaphore counted. -/
theorem frame_reference : Cert.quiescent_UpDxReferenceIdeal := fun m ρ _ =>
  (θ_run Cert.UpDxReferenceIdeal.defs _ _).mono
    (fun r h => ⟨fun c => (h c).2.2, sem_eq_zero_of_no_sems (by decide) r.2⟩)
    (Cert.UpDxReferenceIdeal.Value.run (F := Ideal) m ρ)

/-- `Cert.algebraic_UpDxIdeal_UpDxReferenceIdeal`: from memories whose arguments agree, the call's two results are the
    reference's. -/
theorem algebraic : Cert.algebraic_UpDxIdeal_UpDxReferenceIdeal := by
  intro m ρ m' ρ' _ hagree
  refine ⟨fun c => Cert.UpDxIdeal.Value.G5 m c, fun c => Cert.UpDxIdeal.Value.G6 m c, Cert.UpDxIdeal.Value.run m ρ, ?_⟩
  refine (θ_run Cert.UpDxReferenceIdeal.defs _ _).mono (fun r h c => ?_) (Cert.UpDxReferenceIdeal.Value.run (F := Ideal) m' ρ')
  obtain ⟨e0, e1, e2, e3, e4⟩ := hagree c
  obtain ⟨h0, h1, hk⟩ := h c
  refine ⟨(h0.trans (val_main_v50_eq m' c)).trans ?_, (h1.trans (val_main_v33_eq _ _ _ _ _)).trans ?_, hk⟩
  · rw [e0, e1, e2, e3, e4]
    refine funext fun idx => ?_
    obtain ⟨i, j, rfl⟩ : ∃ (i j : Fin 2048), idx = ix2 i j := ⟨idx 0, idx 1, eq_ix2 idx⟩
    refine Eq.trans ?_ (result5 m c i j).symm
    rw [prod_eq]
    unfold tok wn dy
    rw [Cert.UpDxIdeal.Gen.V_main_arg0, Cert.UpDxIdeal.Gen.V_main_arg1, Cert.UpDxIdeal.Gen.V_main_arg4]
    exact Cert.UpDxReferenceIdeal.Row.v50 _ _ _ _ _ i j
  · rw [e0, e1, e2, e3, e4]
    refine funext fun idx => ?_
    obtain ⟨j, rfl⟩ : ∃ (j : Fin 2048), idx = ix2 0 j := ⟨idx 1, one_row idx⟩
    refine Eq.trans ?_ (result6 m c j).symm
    unfold rowShare
    simp only [prod_eq]
    unfold tok
    rw [Cert.UpDxIdeal.Gen.V_main_arg0]
    exact Cert.UpDxReferenceIdeal.Row.v33 _ _ _ _ _ j

end Cert.Proof.UpDx

end
-- ==== Proof.InDw.lean ====
/-
  The gradient of the input projection's matrix: every point of the grid writes one 1536 by 1024 block of the product of the
  gradient of the projected tokens, transposed, with the normed tokens, so the call's result is that product, as the reference's is.
-/
module

public import proofs.«01_k».proof.Defs
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.InDwIdeal.Whole

open Cert.InDwIdeal Cert.InDwIdeal.Gen Cert.InDwIdeal.Value

variable (m : (ℓ : Loc nD τ sig) → Buf (Elt Ideal) ℓ)

theorem idx0 : ∀ t : Fin cfg0.N, win0_0.index t 0 = 0 ∧ win0_0.index t 1 = t.val / 2 :=
  (by decide +kernel : ∀ t : Fin grid0.N, win0_0.index t 0 = 0 ∧ win0_0.index t 1 = t.val / 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- At the region's entry: the gradient of the projected tokens. -/
def lhs (c : Dev nD) : Vec Ideal S2048x7680 .bf16 := V m c main_v0

/-- At the region's entry: the normed tokens. -/
def rhs (c : Dev nD) : Vec Ideal S2048x2048 .bf16 := V m c main_v13

/-- The product, read at an index. -/
def prod (c : Dev nD) (i : Fin 7680) (j : Fin 2048) : EReal := ∑ k : Fin 2048, lhs m c (ix2 k i) * rhs m c (ix2 k j)

/-- An array of results after the run. -/
def out2 (c : Dev nD) : Vec Ideal S7680x2048 .bf16 := (dats m 0 c).arrAt 2 cfg0.N

/-- The grid point whose block holds row `i` and column `j` of the result. -/
def point (i : Fin 7680) (j : Fin 2048) : Fin cfg0.N :=
  ⟨i.val / 1536 * 2 + j.val / 1024, lt_of_lt_of_eq (by omega : _ < 10) N_0.symm⟩

/-- A row and a column, inside their block. -/
def offR (i : Fin 7680) : Fin 1536 := ⟨i.val % 1536, Nat.mod_lt _ (by decide)⟩
def offC (j : Fin 2048) : Fin 1024 := ⟨j.val % 1024, Nat.mod_lt _ (by decide)⟩

/-- Zero offsets, however spelt. -/
theorem hz2 : (![0, 0] : Fin 2 → ℕ) = fun _ => 0 := by decide

/-- What the body stores, read at an index. -/
theorem pay2 (x : Vec Ideal S2048x1536 .bf16) (y : Vec Ideal S2048x1024 .bf16) (i : Fin 1536) (j : Fin 1024) :
    (k0_pay1 x y : Vec Ideal S1536x1024 .bf16) (ix2 i j) = (∑ k : Fin 2048, x (ix2 k i) * y (ix2 k j)) := by
  unfold k0_pay1
  pointwise []

/-- The block of the left operand, read at an index. -/
theorem left (c : Dev nD) (i : Fin 7680) (j : Fin 2048) (k : Fin 2048) :
    (iblk m c 0 (point i j) : Vec Ideal S2048x1536 .bf16) (ix2 k (offR i)) = lhs m c (ix2 k i) := by
  unfold iblk
  rw [View.read_apply]
  show V m c main_v0 _ = V m c main_v0 _
  congr 1
  funext a
  apply Fin.ext
  match a with
  | ⟨0, _⟩ => show win0_0.index (point i j) 0 * 2048 + 1 * k.val = k.val; rw [(idx0 (point i j)).1]; omega
  | ⟨1, _⟩ =>
    show win0_0.index (point i j) 1 * 1536 + 1 * (i.val % 1536) = i.val
    rw [(idx0 (point i j)).2]
    show (i.val / 1536 * 2 + j.val / 1024) / 2 * 1536 + 1 * (i.val % 1536) = i.val
    omega

/-- The block of the right operand, read at an index. -/
theorem right (c : Dev nD) (i : Fin 7680) (j : Fin 2048) (k : Fin 2048) :
    (iblk m c 1 (point i j) : Vec Ideal S2048x1024 .bf16) (ix2 k (offC j)) = rhs m c (ix2 k j) := by
  unfold iblk
  rw [View.read_apply]
  show V m c main_v13 _ = V m c main_v13 _
  congr 1
  funext a
  apply Fin.ext
  match a with
  | ⟨0, _⟩ => show win0_1.index (point i j) 0 * 2048 + 1 * k.val = k.val; rw [(idx1 (point i j)).1]; omega
  | ⟨1, _⟩ =>
    show win0_1.index (point i j) 1 * 1024 + 1 * (j.val % 1024) = j.val
    rw [(idx1 (point i j)).2]
    show (i.val / 1536 * 2 + j.val / 1024) % 2 * 1024 + 1 * (j.val % 1024) = j.val
    omega

/-- The block of the result, read at an index. -/
theorem read2 (y : Buf (Elt Ideal) (((0 : Dev nD) : Thread nD τ).loc main_v14)) (i : Fin 7680) (j : Fin 2048) :
    (((cfg0.win 2).blk (point i j)).view.read (Elt Ideal) y : Vec Ideal S1536x1024 .bf16) (ix2 (offR i) (offC j)) = y (ix2 i j) := by
  rw [View.read_apply]
  show y _ = y _
  congr 1
  funext a
  apply Fin.ext
  match a with
  | ⟨0, _⟩ =>
    show win0_2.index (point i j) 0 * 1536 + 1 * (i.val % 1536) = i.val
    rw [(idx2 (point i j)).1]
    show (i.val / 1536 * 2 + j.val / 1024) / 2 * 1536 + 1 * (i.val % 1536) = i.val
    omega
  | ⟨1, _⟩ =>
    show win0_2.index (point i j) 1 * 1024 + 1 * (j.val % 1024) = j.val
    rw [(idx2 (point i j)).2]
    show (i.val / 1536 * 2 + j.val / 1024) % 2 * 1024 + 1 * (j.val % 1024) = j.val
    omega

/-- The result's array, read at an index. -/
theorem result2 (c : Dev nD) (i : Fin 7680) (j : Fin 2048) :
    out2 m c (ix2 i j) = prod m c i j := by
  have e := congrFun ((blocks2 m c (point i j) (flush0_2 _)).trans (flushed2 m c (point i j))) (ix2 (offR i) (offC j))
  refine ((read2 _ i j).symm.trans e).trans ?_
  show (out0_2 (iblk m c 0 (point i j)) (iblk m c 1 (point i j)) : Vec Ideal S1536x1024 .bf16) (ix2 (offR i) (offC j)) = _
  unfold out0_2
  rw [View.canon_unit_zero hz2, View.ld_unit_zero hz2, View.ld_unit_zero hz2]
  refine (pay2 _ _ _ _).trans ?_
  unfold prod
  simp only [left, right]

end Cert.InDwIdeal.Whole

namespace Cert.InDwReferenceIdeal.Row

open Cert.InDwReferenceIdeal Cert.InDwReferenceIdeal.Gen Cert.InDwReferenceIdeal.Read

/-- The result, read at an index. -/
theorem v17 (x0 : Vec Ideal S2048x2048 .f32) (x1 : Vec Ideal S1x2048 .f32) (x3 : Vec Ideal S2048x7680 .f32) (i : Fin 7680) (j : Fin 2048) :
    val_main_v17 (F := Ideal) x0 x1 x3 (ix2 i j) = ∑ k : Fin 2048, x3 (ix2 k i) * val_main_v11 (F := Ideal) x0 x1 (ix2 k j) := by
  unfold val_main_v17 val_main_v16 val_main_v15 val_main_v14
  pointwise []

end Cert.InDwReferenceIdeal.Row

namespace Cert.Proof.InDw

open Cert.InDwIdeal.Whole
open Cert.InDwReferenceIdeal.Read

/-- The gradient the host hands the call is the argument. -/
theorem lhs_eq (m : (ℓ : Loc Cert.InDwIdeal.nD Cert.InDwIdeal.τ Cert.InDwIdeal.sig) → Buf (Elt Ideal) ℓ) (c : Dev Cert.InDwIdeal.nD) (i : Fin 2048) (k : Fin 7680) :
    lhs m c (ix2 i k) = (m ((c.tc : Thread Cert.InDwIdeal.nD Cert.InDwIdeal.τ).loc Cert.InDwIdeal.main_arg3)) (ix2 i k) := by
  unfold lhs
  entry_read
  rfl

/-- The normed tokens the host hands the call are the reference's. -/
theorem rhs_eq (m : (ℓ : Loc Cert.InDwIdeal.nD Cert.InDwIdeal.τ Cert.InDwIdeal.sig) → Buf (Elt Ideal) ℓ) (c : Dev Cert.InDwIdeal.nD) :
    rhs m c = truncf (F := Ideal) .bf16 (val_main_v11 (F := Ideal) (m ((c.tc : Thread Cert.InDwIdeal.nD Cert.InDwIdeal.τ).loc Cert.InDwIdeal.main_arg0))
      (m ((c.tc : Thread Cert.InDwIdeal.nD Cert.InDwIdeal.τ).loc Cert.InDwIdeal.main_arg1))) Cert.InDwReferenceIdeal.Gen.bitsLt_bf16_f32 := by
  unfold rhs
  entry_read
  rfl

/-- `Cert.quiescent_InDwReferenceIdeal`: the reference ends, keeps its arguments and leaves no semaphore counted. -/
theorem frame_reference : Cert.quiescent_InDwReferenceIdeal := fun m ρ _ =>
  (θ_run Cert.InDwReferenceIdeal.defs _ _).mono
    (fun r h => ⟨fun c => (h c).2, sem_eq_zero_of_no_sems (by decide) r.2⟩)
    (Cert.InDwReferenceIdeal.Value.run (F := Ideal) m ρ)

/-- `Cert.algebraic_InDwIdeal_InDwReferenceIdeal`: from memories whose arguments agree, the call's result is the
    reference's. -/
theorem algebraic : Cert.algebraic_InDwIdeal_InDwReferenceIdeal := by
  intro m ρ m' ρ' _ hagree
  refine ⟨fun c => (Cert.InDwIdeal.Gen.dats m 0 c).arrAt 2 Cert.InDwIdeal.cfg0.N,
    Cert.InDwIdeal.Value.run_blocks m ρ, ?_⟩
  refine (θ_run Cert.InDwReferenceIdeal.defs _ _).mono (fun r h c => ?_) (Cert.InDwReferenceIdeal.Value.run (F := Ideal) m' ρ')
  obtain ⟨e0, e1, e2, e3⟩ := hagree c
  obtain ⟨h0, hk⟩ := h c
  refine ⟨(h0.trans (val_main_v17_eq _ _ _)).trans ?_, hk⟩
  rw [e0, e1, e3]
  refine funext fun idx => ?_
  obtain ⟨i, j, rfl⟩ : ∃ (i : Fin 7680) (j : Fin 2048), idx = ix2 i j := ⟨idx 0, idx 1, eq_ix2 idx⟩
  refine Eq.trans ?_ (result2 m c i j).symm
  unfold prod
  simp only [lhs_eq, rhs_eq]
  exact Cert.InDwReferenceIdeal.Row.v17 _ _ _ i j

end Cert.Proof.InDw

end
-- ==== Proof.InDxRead.lean ====
/-
  What one point of the grid of the input projection's input gradient leaves in its accumulator and in its two blocks: the accumulator takes
  the product of the point's blocks; the last point of a row of blocks also writes the row's gradient and adds to the norm
  weight's.
-/
module

public import proofs.«01_k».proof.Proof.Gen.InDxIdeal
public import proofs.«01_k».proof.Proof.Gen.InDxIdeal.Frame
public import Idealize.ShloMosaic.Lib.Pipeline.Value

@[expose] public section

set_option maxRecDepth 16384

noncomputable section

open Idealize.ShloMosaic Idealize.ShloMosaic.TcCoe Idealize.SL.Sem

namespace Cert.InDxIdeal.Point

open Cert.InDxIdeal Cert.InDxIdeal.Gen

variable {F : FTy → Type} [FloatOps F]

/-- Zero offsets, however spelt. -/
theorem hz2 : (![0, 0] : Fin 2 → ℕ) = fun _ => 0 := by decide

/-- What the first point of a row leaves in the accumulator. -/
theorem sout0_A_0_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : cond0_0 i) (hc1 : ¬cond0_1 i)
    (x0 : Vec F S512x768 .bf16) (x1 : Vec F S768x2048 .bf16) (x2 : Vec F S512x2048 .f32) (x3 : Vec F S1x2048 .f32) (x4 : Vec F S512x2048 .f32) :
    sout0_A_0 c i a2 h2 a3 h3 a4 h4 a5 h5 a6 h6 a7 h7 a8 h8 a9 h9 hc0 hc1 x0 x1 x2 x3 x4 = k0_pay2 k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

/-- What a point inside a row leaves in the accumulator. -/
theorem sout0_B_0_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : ¬cond0_1 i)
    (x0 : Vec F S512x768 .bf16) (x1 : Vec F S768x2048 .bf16) (x2 : Vec F S512x2048 .f32) (x3 : Vec F S1x2048 .f32) (x4 : Vec F S512x2048 .f32) (xs : Vec F S512x2048 .f32) :
    sout0_B_0 c i a2 h2 a3 h3 a4 h4 a5 h5 a6 h6 a7 h7 a8 h8 a9 h9 hc0 hc1 x0 x1 x2 x3 x4 xs = k0_pay2 xs x0 x1 := by
  unfold sout0_B_0
  rw [View.read_writes_eq_canon _ _ _ (scover0_B_0 c i a2 h2 a3 h3 a4 h4 a5 h5 a6 h6 a7 h7 a8 h8 a9 h9 hc0 hc1 x0 x1 x2 x3 x4 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

/-- What the last point of the first row leaves in the accumulator. -/
theorem sout0_C_0_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : cond0_2 i) (hc3 : ¬cond0_3 i)
    (x0 : Vec F S512x768 .bf16) (x1 : Vec F S768x2048 .bf16) (x2 : Vec F S512x2048 .f32) (x3 : Vec F S1x2048 .f32) (x4 : Vec F S512x2048 .f32) (xs : Vec F S512x2048 .f32) :
    sout0_C_0 c i a2 h2 a3 h3 a4 h4 a5 h5 a6 h6 a7 h7 a8 h8 a9 h9 hc0 hc1 hc2 hc3 x0 x1 x2 x3 x4 xs = k0_pay2 xs x0 x1 := by
  unfold sout0_C_0
  rw [View.read_writes_eq_canon _ _ _ (scover0_C_0 c i a2 h2 a3 h3 a4 h4 a5 h5 a6 h6 a7 h7 a8 h8 a9 h9 hc0 hc1 hc2 hc3 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

/-- What the last point of a later row leaves in the accumulator. -/
theorem sout0_D_0_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : ¬cond0_2 i) (hc3 : cond0_3 i)
    (x0 : Vec F S512x768 .bf16) (x1 : Vec F S768x2048 .bf16) (x2 : Vec F S512x2048 .f32) (x3 : Vec F S1x2048 .f32) (x4 : Vec F S512x2048 .f32) (xo : Vec F S1x2048 .f32) (xs : Vec F S512x2048 .f32) :
    sout0_D_0 c i a2 h2 a3 h3 a4 h4 a5 h5 a6 h6 a7 h7 a8 h8 a9 h9 hc0 hc1 hc2 hc3 x0 x1 x2 x3 x4 xo xs = k0_pay2 xs x0 x1 := by
  unfold sout0_D_0
  rw [View.read_writes_eq_canon _ _ _ (scover0_D_0 c i a2 h2 a3 h3 a4 h4 a5 h5 a6 h6 a7 h7 a8 h8 a9 h9 hc0 hc1 hc2 hc3 x0 x1 x2 x3 x4 xo xs)]
  unfold kernelRun0_D
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

/-- What the last point of the first row leaves in the row's gradient. -/
theorem out0_C_5_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : cond0_2 i) (hc3 : ¬cond0_3 i)
    (x0 : Vec F S512x768 .bf16) (x1 : Vec F S768x2048 .bf16) (x2 : Vec F S512x2048 .f32) (x3 : Vec F S1x2048 .f32) (x4 : Vec F S512x2048 .f32) (xs : Vec F S512x2048 .f32) :
    out0_C_5 c i a2 h2 a3 h3 a4 h4 a5 h5 a6 h6 a7 h7 a8 h8 a9 h9 hc0 hc1 hc2 hc3 x0 x1 x2 x3 x4 xs = k0_pay7 x2 x3 (k0_pay2 xs x0 x1) x4 := by
  unfold out0_C_5
  rw [View.read_writes_eq_canon _ _ _ (cover0_C_5 c i a2 h2 a3 h3 a4 h4 a5 h5 a6 h6 a7 h7 a8 h8 a9 h9 hc0 hc1 hc2 hc3 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

/-- What the last point of a later row leaves in the row's gradient. -/
theorem out0_D_5_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : ¬cond0_2 i) (hc3 : cond0_3 i)
    (x0 : Vec F S512x768 .bf16) (x1 : Vec F S768x2048 .bf16) (x2 : Vec F S512x2048 .f32) (x3 : Vec F S1x2048 .f32) (x4 : Vec F S512x2048 .f32) (xo : Vec F S1x2048 .f32) (xs : Vec F S512x2048 .f32) :
    out0_D_5 c i a2 h2 a3 h3 a4 h4 a5 h5 a6 h6 a7 h7 a8 h8 a9 h9 hc0 hc1 hc2 hc3 x0 x1 x2 x3 x4 xo xs = k0_pay7 x2 x3 (k0_pay2 xs x0 x1) x4 := by
  unfold out0_D_5
  rw [View.read_writes_eq_canon _ _ _ (cover0_D_5 c i a2 h2 a3 h3 a4 h4 a5 h5 a6 h6 a7 h7 a8 h8 a9 h9 hc0 hc1 hc2 hc3 x0 x1 x2 x3 x4 xo xs)]
  unfold kernelRun0_D
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

/-- What the last point of the first row leaves in the norm weight's gradient. -/
theorem out0_C_6_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : cond0_2 i) (hc3 : ¬cond0_3 i)
    (x0 : Vec F S512x768 .bf16) (x1 : Vec F S768x2048 .bf16) (x2 : Vec F S512x2048 .f32) (x3 : Vec F S1x2048 .f32) (x4 : Vec F S512x2048 .f32) (xs : Vec F S512x2048 .f32) :
    out0_C_6 c i a2 h2 a3 h3 a4 h4 a5 h5 a6 h6 a7 h7 a8 h8 a9 h9 hc0 hc1 hc2 hc3 x0 x1 x2 x3 x4 xs = k0_pay6 x2 (k0_pay2 xs x0 x1) := by
  unfold out0_C_6
  rw [View.read_writes_eq_canon _ _ _ (cover0_C_6 c i a2 h2 a3 h3 a4 h4 a5 h5 a6 h6 a7 h7 a8 h8 a9 h9 hc0 hc1 hc2 hc3 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

/-- What the last point of a later row leaves in the norm weight's gradient. -/
theorem out0_D_6_eq (c : Dev nD) (i : grid0.Coords) (a2 : Memref sig .tc .vmem S512x768 .bf16) (h2 : a2.IsWhole) (a3 : Memref sig .tc .vmem S768x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (a8 : Memref sig .tc .vmem S1x2048 .f32) (h8 : a8.IsWhole) (a9 : Memref sig .tc .vmem S512x2048 .f32) (h9 : a9.IsWhole) (hc0 : ¬cond0_0 i) (hc1 : cond0_1 i) (hc2 : ¬cond0_2 i) (hc3 : cond0_3 i)
    (x0 : Vec F S512x768 .bf16) (x1 : Vec F S768x2048 .bf16) (x2 : Vec F S512x2048 .f32) (x3 : Vec F S1x2048 .f32) (x4 : Vec F S512x2048 .f32) (xo : Vec F S1x2048 .f32) (xs : Vec F S512x2048 .f32) :
    out0_D_6 c i a2 h2 a3 h3 a4 h4 a5 h5 a6 h6 a7 h7 a8 h8 a9 h9 hc0 hc1 hc2 hc3 x0 x1 x2 x3 x4 xo xs = k0_pay3 (k0_pay6 x2 (k0_pay2 xs x0 x1)) xo := by
  unfold out0_D_6
  rw [View.read_writes_eq_canon _ _ _ (cover0_D_6 c i a2 h2 a3 h3 a4 h4 a5 h5 a6 h6 a7 h7 a8 h8 a9 h9 hc0 hc1 hc2 hc3 x0 x1 x2 x3 x4 xo xs)]
  unfold kernelRun0_D
  dsimp only
  sl_unfold_words
  rw [View.canon_unit_zero hz2]
  simp only [View.readAt_eq_ld, h2.read_unread, h3.read_unread, h4.read_unread, h5.read_unread, h6.read_unread, h7.read_unread, h8.read_unread, h9.read_unread, View.readCov_unit_zero (S := S512x2048) _ hz2, View.readCov_unit_zero (S := S1x2048) _ hz2, View.ld_unit_zero (S := S512x768) hz2, View.ld_unit_zero (S := S768x2048) hz2, View.ld_unit_zero (S := S512x2048) hz2, View.ld_unit_zero (S := S1x2048) hz2, shapeCast_self]

end Cert.InDxIdeal.Point

end
-- ==== Proof.InDx.lean ====
/-
  The gradient through the input projection and its norm: the grid goes over four blocks of 512 rows, and inside each over ten
  blocks of the projected columns, whose products it adds up in an accumulator. At the last block of a row of blocks it turns
  the accumulator into the rows' gradient, and adds the rows' share to the gradient of the norm's weights, both as in the MLP's
  (Proof/UpDxRow.lean). The reference's sums are the same, not cut into blocks.
-/
module

public import proofs.«01_k».proof.Defs
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.InDxRead
public import proofs.«01_k».proof.Proof.UpDxRow
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.InDxIdeal.Row

open Cert.InDxIdeal Cert.InDxIdeal.Gen
open Cert.UpDxIdeal.Row (msq invRoot slant grad share)

theorem pay1 (i : Fin 512) (j : Fin 2048) : (k0_pay1 : FVec Ideal S512x2048 .f32) (ix2 i j) = 0 :=
  Cert.UpDxIdeal.Row.pay1 i j

theorem pay2 (s : Vec Ideal S512x2048 .f32) (x : Vec Ideal S512x768 .bf16) (y : Vec Ideal S768x2048 .bf16) (i : Fin 512) (j : Fin 2048) :
    k0_pay2 s x y (ix2 i j) = s (ix2 i j) + ∑ k : Fin 768, x (ix2 i k) * y (ix2 k j) := by
  unfold k0_pay2
  pointwise []

theorem pay3 (a b : Vec Ideal S1x2048 .f32) (j : Fin 2048) : k0_pay3 a b (ix2 0 j) = b (ix2 0 j) + a (ix2 0 j) :=
  Cert.UpDxIdeal.Row.pay3 a b j

theorem pay6 (x d : Vec Ideal S512x2048 .f32) (j : Fin 2048) :
    k0_pay6 x d (ix2 0 j) = ∑ i : Fin 512, share (fun k => x (ix2 i k)) (fun k => d (ix2 i k)) j :=
  Cert.UpDxIdeal.Row.pay6 x d j

theorem pay7 (x : Vec Ideal S512x2048 .f32) (w : Vec Ideal S1x2048 .f32) (d y : Vec Ideal S512x2048 .f32) (i : Fin 512) (j : Fin 2048) :
    k0_pay7 x w d y (ix2 i j)
      = grad (fun k => x (ix2 i k)) (fun k => w (ix2 0 k)) (fun k => d (ix2 i k)) (fun k => y (ix2 i k)) j :=
  Cert.UpDxIdeal.Row.pay7 x w d y i j

end Cert.InDxIdeal.Row

namespace Cert.InDxReferenceIdeal.Row

open Cert.InDxReferenceIdeal Cert.InDxReferenceIdeal.Gen Cert.InDxReferenceIdeal.Read
open Cert.UpDxIdeal.Row (msq invRoot slant grad share)

variable (x0 : Vec Ideal S2048x2048 .f32) (x1 : Vec Ideal S1x2048 .f32) (x2 : Vec Ideal S7680x2048 .f32)
  (x3 : Vec Ideal S2048x7680 .f32) (x4 : Vec Ideal S2048x2048 .f32)

theorem v6 (i : Fin 2048) : val_main_v6 (F := Ideal) x0 (ix2 i 0) = msq (fun k => x0 (ix2 i k)) :=
  Cert.UpDxReferenceIdeal.Row.v6 x0 i

theorem v7 (i : Fin 2048) : val_main_v7 (F := Ideal) x0 (ix2 i 0) = invRoot (fun k => x0 (ix2 i k)) :=
  Cert.UpDxReferenceIdeal.Row.v7 x0 i

/-- The gradient of the normed tokens. -/
theorem v17 (i j : Fin 2048) : val_main_v17 (F := Ideal) x2 x3 (ix2 i j) = ∑ k : Fin 7680, x3 (ix2 i k) * x2 (ix2 k j) := by
  unfold val_main_v17 val_main_v15
  pointwise []

theorem v20 (j : Fin 2048) : val_main_v20 (F := Ideal) x0 x2 x3 (ix2 0 j)
    = ∑ i : Fin 2048, share (fun k => x0 (ix2 i k)) (fun k => val_main_v17 (F := Ideal) x2 x3 (ix2 i k)) j := by
  unfold val_main_v20 val_main_v19 val_main_v18 val_main_v12 val_main_v11 val_main_cst_3 share
  pointwise []
  simp only [v7]

theorem v33 (i j : Fin 2048) : val_main_v33 (F := Ideal) x0 x1 x2 x3 (ix2 i j)
    = slant (fun k => x0 (ix2 i k)) (fun k => x1 (ix2 0 k)) (fun k => val_main_v17 (F := Ideal) x2 x3 (ix2 i k)) := by
  unfold val_main_v33 val_main_v32 val_main_v31 val_main_v30 val_main_v29 val_main_v25 val_main_v24 val_main_v23 val_main_v22 val_main_v21
    val_main_v10 val_main_v9 val_main_v8 val_main_cst_4 val_main_cst_5 val_main_cst_6 val_main_cst_2 slant
  pointwise []
  simp only [Fin.sum_univ_one, v7, v6]

theorem v37 (i j : Fin 2048) : val_main_v37 (F := Ideal) x0 x1 x2 x3 x4 (ix2 i j)
    = grad (fun k => x0 (ix2 i k)) (fun k => x1 (ix2 0 k)) (fun k => val_main_v17 (F := Ideal) x2 x3 (ix2 i k)) (fun k => x4 (ix2 i k)) j := by
  unfold val_main_v37 val_main_v36 val_main_v35 val_main_v34 val_main_v28 val_main_v27 val_main_v26 val_main_v22 val_main_v21 grad
  pointwise []
  simp only [v33, v7]

end Cert.InDxReferenceIdeal.Row

namespace Cert.InDxIdeal.Whole

open Cert.InDxIdeal Cert.InDxIdeal.Gen Cert.InDxIdeal.Value Cert.InDxIdeal.Point Cert.InDxIdeal.Row
open Cert.UpDxIdeal.Row (msq invRoot slant grad share)

variable (m : (ℓ : Loc nD τ sig) → Buf (Elt Ideal) ℓ)

theorem idx0 : ∀ t : Fin cfg0.N, win0_0.index t 0 = t.val / 10 ∧ win0_0.index t 1 = t.val % 10 :=
  (by decide +kernel : ∀ t : Fin grid0.N, win0_0.index t 0 = t.val / 10 ∧ win0_0.index t 1 = t.val % 10)
theorem idx1 : ∀ t : Fin cfg0.N, win0_1.index t 0 = t.val % 10 ∧ win0_1.index t 1 = 0 :=
  (by decide +kernel : ∀ t : Fin grid0.N, win0_1.index t 0 = t.val % 10 ∧ win0_1.index t 1 = 0)
theorem idx2 : ∀ t : Fin cfg0.N, win0_2.index t 0 = t.val / 10 ∧ win0_2.index t 1 = 0 :=
  (by decide +kernel : ∀ t : Fin grid0.N, win0_2.index t 0 = t.val / 10 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 10 ∧ win0_4.index t 1 = 0 :=
  (by decide +kernel : ∀ t : Fin grid0.N, win0_4.index t 0 = t.val / 10 ∧ win0_4.index t 1 = 0)

/-- The projected tokens' gradient at the region's entry. -/
def da (c : Dev nD) : Vec Ideal S2048x7680 .bf16 := V m c main_v0

/-- The matrix at the region's entry. -/
def mat (c : Dev nD) : Vec Ideal S7680x2048 .bf16 := V m c main_v1

/-- The tokens, the norm's weights and the residual's gradient at the region's entry. -/
def tok (c : Dev nD) : Vec Ideal S2048x2048 .f32 := V m c main_arg0
def wn (c : Dev nD) : Vec Ideal S1x2048 .f32 := V m c main_arg1
def dy (c : Dev nD) : Vec Ideal S2048x2048 .f32 := V m c main_arg4

/-- Row `i` of the `I`-th block of rows, and column `k` of the `b`-th block of the projected columns. -/
def row (I : ℕ) (i : Fin 512) : Fin 2048 := ⟨I % 4 * 512 + i.val, by omega⟩
def col (b : ℕ) (k : Fin 768) : Fin 7680 := ⟨b % 10 * 768 + k.val, by omega⟩

/-- The gradient of the normed tokens, whole and of one block of the projected columns. -/
def prod (c : Dev nD) (R C : Fin 2048) : EReal := ∑ K : Fin 7680, da m c (ix2 R K) * mat m c (ix2 K C)
def part (c : Dev nD) (R C : Fin 2048) (b : ℕ) : EReal := ∑ k : Fin 768, da m c (ix2 R (col b k)) * mat m c (ix2 (col b k) C)

theorem sum_cols (f : Fin 7680 → EReal) : ∑ b ∈ Finset.range 10, ∑ k : Fin 768, f (col b k) = ∑ K, f K := by
  rw [Finset.sum_range, ← Fintype.sum_prod_type' (f := fun (b : Fin 10) (k : Fin 768) => f (col b.val k))]
  refine Fintype.sum_equiv (finProdFinEquiv : Fin 10 × Fin 768 ≃ Fin 7680) _ _ (fun p => congrArg f (Fin.ext ?_))
  show p.1.val % 10 * 768 + p.2.val = p.2.val + 768 * p.1.val
  omega

theorem sum_rows (f : Fin 2048 → EReal) : ∑ I ∈ Finset.range 4, ∑ i : Fin 512, f (row I i) = ∑ R, f R := by
  rw [Finset.sum_range, ← Fintype.sum_prod_type' (f := fun (I : Fin 4) (i : Fin 512) => f (row I.val i))]
  refine Fintype.sum_equiv (finProdFinEquiv : Fin 4 × Fin 512 ≃ Fin 2048) _ _ (fun p => congrArg f (Fin.ext ?_))
  show p.1.val % 4 * 512 + p.2.val = p.2.val + 512 * p.1.val
  omega

theorem bound (t : Fin cfg0.N) : t.val < 40 := lt_of_lt_of_eq t.isLt N_0

/-- The block of the projected tokens' gradient, read at an index. -/
theorem left (c : Dev nD) (t : Fin cfg0.N) (i : Fin 512) (k : Fin 768) :
    (iblk m c 0 t : Vec Ideal S512x768 .bf16) (ix2 i k) = da m c (ix2 (row (t.val / 10) i) (col (t.val % 10) k)) := by
  unfold iblk
  rw [View.read_apply]
  show V m c main_v0 _ = V m c main_v0 _
  congr 1
  funext a
  apply Fin.ext
  match a with
  | ⟨0, _⟩ =>
    show win0_0.index t 0 * 512 + 1 * i.val = t.val / 10 % 4 * 512 + i.val
    rw [(idx0 t).1]
    have := bound t
    omega
  | ⟨1, _⟩ =>
    show win0_0.index t 1 * 768 + 1 * k.val = t.val % 10 % 10 * 768 + k.val
    rw [(idx0 t).2]
    omega

/-- The block of the matrix, read at an index. -/
theorem right (c : Dev nD) (t : Fin cfg0.N) (k : Fin 768) (j : Fin 2048) :
    (iblk m c 1 t : Vec Ideal S768x2048 .bf16) (ix2 k j) = mat m c (ix2 (col (t.val % 10) k) j) := by
  unfold iblk
  rw [View.read_apply]
  show V m c main_v1 _ = V m c main_v1 _
  congr 1
  funext a
  apply Fin.ext
  match a with
  | ⟨0, _⟩ =>
    show win0_1.index t 0 * 768 + 1 * k.val = t.val % 10 % 10 * 768 + k.val
    rw [(idx1 t).1]
    omega
  | ⟨1, _⟩ => show win0_1.index t 1 * 2048 + 1 * j.val = j.val; rw [(idx1 t).2]; omega

/-- The block of the tokens, read at an index. -/
theorem tokens (c : Dev nD) (t : Fin cfg0.N) (i : Fin 512) (k : Fin 2048) :
    (iblk m c 2 t : Vec Ideal S512x2048 .f32) (ix2 i k) = tok m c (ix2 (row (t.val / 10) i) k) := by
  unfold iblk
  rw [View.read_apply]
  show V m c main_arg0 _ = V m c main_arg0 _
  congr 1
  funext a
  apply Fin.ext
  match a with
  | ⟨0, _⟩ =>
    show win0_2.index t 0 * 512 + 1 * i.val = t.val / 10 % 4 * 512 + i.val
    rw [(idx2 t).1]
    have := bound t
    omega
  | ⟨1, _⟩ => show win0_2.index t 1 * 2048 + 1 * k.val = k.val; rw [(idx2 t).2]; omega

/-- The norm's weights, read at an index. -/
theorem weights (c : Dev nD) (t : Fin cfg0.N) (i : Fin 1) (k : Fin 2048) :
    (iblk m c 3 t : Vec Ideal S1x2048 .f32) (ix2 i k) = wn m c (ix2 i k) := by
  unfold iblk
  rw [View.read_apply]
  show V m c main_arg1 _ = V m c main_arg1 _
  congr 1
  funext a
  apply Fin.ext
  match a with
  | ⟨0, _⟩ => show win0_3.index t 0 * 1 + 1 * i.val = i.val; rw [(idx3 t).1]; omega
  | ⟨1, _⟩ => show win0_3.index t 1 * 2048 + 1 * k.val = k.val; rw [(idx3 t).2]; omega

/-- The block of the residual's gradient, read at an index. -/
theorem outgrad (c : Dev nD) (t : Fin cfg0.N) (i : Fin 512) (k : Fin 2048) :
    (iblk m c 4 t : Vec Ideal S512x2048 .f32) (ix2 i k) = dy m c (ix2 (row (t.val / 10) i) k) := by
  unfold iblk
  rw [View.read_apply]
  show V m c main_arg4 _ = V m c main_arg4 _
  congr 1
  funext a
  apply Fin.ext
  match a with
  | ⟨0, _⟩ =>
    show win0_4.index t 0 * 512 + 1 * i.val = t.val / 10 % 4 * 512 + i.val
    rw [(idx4 t).1]
    have := bound t
    omega
  | ⟨1, _⟩ => show win0_4.index t 1 * 2048 + 1 * k.val = k.val; rw [(idx4 t).2]; omega

/-- An index of a single row. -/
theorem one_row (idx : S1x2048.Idx) : idx = ix2 0 (idx 1) := by
  funext a
  apply Fin.ext
  match a with
  | ⟨0, _⟩ =>
    have h : (idx 0).val < 1 := (idx 0).isLt
    show (idx 0).val = 0
    omega
  | ⟨1, _⟩ => rfl

/-- The point before. -/
theorem before (t : Fin cfg0.N) : t.val - 1 < cfg0.N := Nat.lt_of_le_of_lt (Nat.sub_le _ _) t.isLt

/-- What the first point of a row of blocks leaves in the accumulator. -/
theorem acc_first (c : Dev nD) (t : Fin cfg0.N) (h0 : t.val % 10 = 0) :
    (outsAt0 m c t.val t.isLt).2.2 = k0_pay2 k0_pay1 (iblk m c 0 t) (iblk m c 1 t) := by
  simp only [outsAt0_A m c t h0 (show ¬t.val % 10 = 9 by omega)]
  rw [sout0_A_0_eq]

/-- What any other point leaves in the accumulator. -/
theorem acc_next (c : Dev nD) (t : Fin cfg0.N) (h0 : ¬t.val % 10 = 0) :
    (outsAt0 m c t.val t.isLt).2.2 = k0_pay2 (outsAt0 m c (t.val - 1) (before t)).2.2 (iblk m c 0 t) (iblk m c 1 t) := by
  by_cases h1 : t.val % 10 = 9
  · by_cases h2 : t.val < 10
    · simp only [outsAt0_C m c t h0 h1 h2 (show ¬10 ≤ t.val by omega)]
      rw [sout0_C_0_eq]
    · simp only [outsAt0_D m c t h0 h1 h2 (show 10 ≤ t.val by omega)]
      rw [sout0_D_0_eq]
  · simp only [outsAt0_B m c t h0 h1]
    rw [sout0_B_0_eq]

/-- The rows' gradient, at the last point of a row of blocks. -/
theorem rows_last (c : Dev nD) (t : Fin cfg0.N) (h1 : t.val % 10 = 9) :
    (outsAt0 m c t.val t.isLt).1 = k0_pay7 (iblk m c 2 t) (iblk m c 3 t) (outsAt0 m c t.val t.isLt).2.2 (iblk m c 4 t) := by
  rw [acc_next m c t (by omega)]
  by_cases h2 : t.val < 10
  · simp only [outsAt0_C m c t (show ¬t.val % 10 = 0 by omega) h1 h2 (show ¬10 ≤ t.val by omega)]
    rw [out0_C_5_eq]
  · simp only [outsAt0_D m c t (show ¬t.val % 10 = 0 by omega) h1 h2 (show 10 ≤ t.val by omega)]
    rw [out0_D_5_eq]

/-- The gradient of the norm's weights, at the last point of the first row of blocks. -/
theorem sum_first (c : Dev nD) (t : Fin cfg0.N) (h1 : t.val % 10 = 9) (h2 : t.val < 10) :
    (outsAt0 m c t.val t.isLt).2.1 = k0_pay6 (iblk m c 2 t) (outsAt0 m c t.val t.isLt).2.2 := by
  rw [acc_next m c t (by omega)]
  simp only [outsAt0_C m c t (show ¬t.val % 10 = 0 by omega) h1 h2 (show ¬10 ≤ t.val by omega)]
  rw [out0_C_6_eq]

/-- … at the last point of a later row of blocks … -/
theorem sum_next (c : Dev nD) (t : Fin cfg0.N) (h1 : t.val % 10 = 9) (h2 : ¬t.val < 10) :
    (outsAt0 m c t.val t.isLt).2.1
      = k0_pay3 (k0_pay6 (iblk m c 2 t) (outsAt0 m c t.val t.isLt).2.2) (outsAt0 m c (t.val - 1) (before t)).2.1 := by
  rw [acc_next m c t (by omega)]
  simp only [outsAt0_D m c t (show ¬t.val % 10 = 0 by omega) h1 h2 (show 10 ≤ t.val by omega)]
  rw [out0_D_6_eq]

/-- … and at any other point, which leaves it alone. -/
theorem sum_idle (c : Dev nD) (t : Fin cfg0.N) (h1 : ¬t.val % 10 = 9) :
    (outsAt0 m c t.val t.isLt).2.1 = (outsAt0 m c (t.val - 1) (before t)).2.1 := by
  by_cases h0 : t.val % 10 = 0
  · simp only [outsAt0_A m c t h0 h1]
    rfl
  · simp only [outsAt0_B m c t h0 h1]
    rfl

/-- The accumulator after any point: the products of the row's blocks so far. -/
theorem acc (c : Dev nD) (n : ℕ) (hn : n < cfg0.N) (i : Fin 512) (j : Fin 2048) :
    (outsAt0 m c n hn).2.2 (ix2 i j) = ∑ b ∈ Finset.range (n % 10 + 1), part m c (row (n / 10) i) j b := by
  induction n with
  | zero =>
    refine (congrFun (acc_first m c ⟨0, hn⟩ rfl) (ix2 i j)).trans ?_
    rw [pay2, pay1, zero_add]
    simp only [left, right]
    exact (Finset.sum_range_one (part m c (row (0 / 10) i) j)).symm
  | succ n ih =>
    by_cases h0 : (n + 1) % 10 = 0
    · refine (congrFun (acc_first m c ⟨n + 1, hn⟩ h0) (ix2 i j)).trans ?_
      rw [pay2, pay1, zero_add]
      simp only [left, right]
      rw [h0]
      exact (Finset.sum_range_one (part m c (row ((n + 1) / 10) i) j)).symm
    · refine (congrFun (acc_next m c ⟨n + 1, hn⟩ h0) (ix2 i j)).trans ?_
      rw [pay2]
      simp only [left, right]
      rw [Finset.sum_range_succ]
      refine congrArg₂ (· + ·) ?_ rfl
      refine (ih (Nat.lt_of_succ_lt hn)).trans ?_
      rw [show n % 10 + 1 = (n + 1) % 10 by omega, show n / 10 = (n + 1) / 10 by omega]

/-- … and after the last point of a row of blocks: the whole product. -/
theorem acc_last (c : Dev nD) (t : Fin cfg0.N) (h1 : t.val % 10 = 9) (i : Fin 512) (j : Fin 2048) :
    (outsAt0 m c t.val t.isLt).2.2 (ix2 i j) = prod m c (row (t.val / 10) i) j := by
  rw [acc, h1]
  exact sum_cols (fun K => da m c (ix2 (row (t.val / 10) i) K) * mat m c (ix2 K j))

/-- A row's share of the gradient of the norm's weights. -/
def rowShare (c : Dev nD) (j : Fin 2048) (R : Fin 2048) : EReal := share (fun k => tok m c (ix2 R k)) (prod m c R) j

/-- The share of a block of rows. -/
theorem block_share (c : Dev nD) (t : Fin cfg0.N) (h1 : t.val % 10 = 9) (j : Fin 2048) :
    k0_pay6 (iblk m c 2 t) (outsAt0 m c t.val t.isLt).2.2 (ix2 0 j) = ∑ i : Fin 512, rowShare m c j (row (t.val / 10) i) := by
  rw [pay6]
  simp only [tokens, acc_last m c t h1]
  rfl

/-- The gradient of the norm's weights after any point past the first row of blocks. -/
theorem sums (c : Dev nD) (n : ℕ) (hn : n < cfg0.N) (h9 : 9 ≤ n) (j : Fin 2048) :
    (outsAt0 m c n hn).2.1 (ix2 0 j) = ∑ I ∈ Finset.range ((n + 1) / 10), ∑ i : Fin 512, rowShare m c j (row I i) := by
  induction n with
  | zero => omega
  | succ n ih =>
    by_cases h1 : (n + 1) % 10 = 9
    · by_cases h2 : n + 1 < 10
      · refine (congrFun (sum_first m c ⟨n + 1, hn⟩ h1 h2) (ix2 0 j)).trans ((block_share m c ⟨n + 1, hn⟩ h1 j).trans ?_)
        rw [show (n + 1 + 1) / 10 = 1 by omega, show (n + 1) / 10 = 0 by omega]
        exact (Finset.sum_range_one (fun I => ∑ i : Fin 512, rowShare m c j (row I i))).symm
      · refine (congrFun (sum_next m c ⟨n + 1, hn⟩ h1 h2) (ix2 0 j)).trans ?_
        rw [pay3, block_share m c ⟨n + 1, hn⟩ h1 j, show (n + 1 + 1) / 10 = (n + 1) / 10 + 1 by omega, Finset.sum_range_succ]
        exact congrArg₂ (· + ·) (ih (Nat.lt_of_succ_lt hn) (by omega)) rfl
    · refine (congrFun (sum_idle m c ⟨n + 1, hn⟩ h1) (ix2 0 j)).trans ?_
      refine (ih (Nat.lt_of_succ_lt hn) (by omega)).trans ?_
      rw [show (n + 1 + 1) / 10 = (n + 1) / 10 by omega]

/-- The rows' gradient, read at an index. -/
theorem result5 (c : Dev nD) (R j : Fin 2048) :
    (G5 m c : Vec Ideal S2048x2048 .f32) (ix2 R j)
      = grad (fun k => tok m c (ix2 R k)) (fun k => wn m c (ix2 0 k)) (prod m c R) (fun k => dy m c (ix2 R k)) j := by
  have hp : pt5Of (ix2 R j : S2048x2048.Idx) = 10 * (R.val / 512) + 9 := by
    show 10 * (1 * (R.val / 512 - 0) + 1 * (j.val / 2048 - 0)) + 9 = _
    omega
  have hn : 10 * (R.val / 512) + 9 < cfg0.N := lt_of_lt_of_eq (by omega : _ < 40) N_0.symm
  have hl : loc5Of (ix2 R j : S2048x2048.Idx) = ix2 (⟨R.val % 512, Nat.mod_lt _ (by decide)⟩ : Fin 512) j := by
    funext a; apply Fin.ext
    match a with
    | ⟨0, _⟩ => rfl
    | ⟨1, _⟩ => show j.val % 2048 = j.val; omega
  have hr : row ((10 * (R.val / 512) + 9) / 10) (⟨R.val % 512, Nat.mod_lt _ (by decide)⟩ : Fin 512) = R := by
    apply Fin.ext
    show (10 * (R.val / 512) + 9) / 10 % 4 * 512 + R.val % 512 = R.val
    omega
  unfold G5
  rw [dif_pos (by rw [hp]; exact hn), hl, fold0_congr m c _ _ (10 * (R.val / 512) + 9) (by omega) hp, ← outsAt0_sweep m c _ hn]
  refine (congrFun (rows_last m c ⟨_, hn⟩ (by show (10 * (R.val / 512) + 9) % 10 = 9; omega)) _).trans ?_
  rw [pay7]
  simp only [tokens, weights, outgrad, acc_last m c ⟨_, hn⟩ (show (10 * (R.val / 512) + 9) % 10 = 9 by omega), hr]

/-- The gradient of the norm's weights, read at an index. -/
theorem result6 (c : Dev nD) (j : Fin 2048) :
    (G6 m c : Vec Ideal S1x2048 .f32) (ix2 0 j) = ∑ R : Fin 2048, rowShare m c j R := by
  have hn : 39 < cfg0.N := lt_of_lt_of_eq (by decide) N_0.symm
  rw [G6_last, ← outsAt0_sweep m c 39 hn]
  exact (sums m c 39 hn (by decide) j).trans (sum_rows (rowShare m c j))

end Cert.InDxIdeal.Whole

namespace Cert.Proof.InDx

open Cert.InDxIdeal.Whole
open Cert.InDxReferenceIdeal.Read

/-- The gradient the host hands the call is the argument. -/
theorem da_eq (m : (ℓ : Loc Cert.InDxIdeal.nD Cert.InDxIdeal.τ Cert.InDxIdeal.sig) → Buf (Elt Ideal) ℓ) (c : Dev Cert.InDxIdeal.nD) (i : Fin 2048) (k : Fin 7680) :
    da m c (ix2 i k) = (m ((c.tc : Thread Cert.InDxIdeal.nD Cert.InDxIdeal.τ).loc Cert.InDxIdeal.main_arg3)) (ix2 i k) := by
  unfold da
  entry_read
  rfl

/-- The matrix the host hands the call is the argument. -/
theorem mat_eq (m : (ℓ : Loc Cert.InDxIdeal.nD Cert.InDxIdeal.τ Cert.InDxIdeal.sig) → Buf (Elt Ideal) ℓ) (c : Dev Cert.InDxIdeal.nD) (k : Fin 7680) (j : Fin 2048) :
    mat m c (ix2 k j) = (m ((c.tc : Thread Cert.InDxIdeal.nD Cert.InDxIdeal.τ).loc Cert.InDxIdeal.main_arg2)) (ix2 k j) := by
  unfold mat
  entry_read
  rfl

/-- The gradient of the normed tokens is the reference's. -/
theorem prod_eq (m : (ℓ : Loc Cert.InDxIdeal.nD Cert.InDxIdeal.τ Cert.InDxIdeal.sig) → Buf (Elt Ideal) ℓ) (c : Dev Cert.InDxIdeal.nD) (R : Fin 2048) :
    prod m c R = fun k => val_main_v17 (F := Ideal) (m ((c.tc : Thread Cert.InDxIdeal.nD Cert.InDxIdeal.τ).loc Cert.InDxIdeal.main_arg2))
      (m ((c.tc : Thread Cert.InDxIdeal.nD Cert.InDxIdeal.τ).loc Cert.InDxIdeal.main_arg3)) (ix2 R k) := by
  funext k
  rw [Cert.InDxReferenceIdeal.Row.v17]
  unfold prod
  simp only [mat_eq, da_eq]

/-- `Cert.quiescent_InDxReferenceIdeal`: the reference ends, keeps its arguments and leaves no semaphore counted. -/
theorem frame_reference : Cert.quiescent_InDxReferenceIdeal := fun m ρ _ =>
  (θ_run Cert.InDxReferenceIdeal.defs _ _).mono
    (fun r h => ⟨fun c => (h c).2.2, sem_eq_zero_of_no_sems (by decide) r.2⟩)
    (Cert.InDxReferenceIdeal.Value.run (F := Ideal) m ρ)

/-- `Cert.algebraic_InDxIdeal_InDxReferenceIdeal`: from memories whose arguments agree, the call's two results are the
    reference's. -/
theorem algebraic : Cert.algebraic_InDxIdeal_InDxReferenceIdeal := by
  intro m ρ m' ρ' _ hagree
  refine ⟨fun c => Cert.InDxIdeal.Value.G5 m c, fun c => Cert.InDxIdeal.Value.G6 m c, Cert.InDxIdeal.Value.run m ρ, ?_⟩
  refine (θ_run Cert.InDxReferenceIdeal.defs _ _).mono (fun r h c => ?_) (Cert.InDxReferenceIdeal.Value.run (F := Ideal) m' ρ')
  obtain ⟨e0, e1, e2, e3, e4⟩ := hagree c
  obtain ⟨h0, h1, hk⟩ := h c
  refine ⟨(h0.trans (val_main_v37_eq m' c)).trans ?_, (h1.trans (val_main_v20_eq _ _ _)).trans ?_, hk⟩
  · rw [e0, e1, e2, e3, e4]
    refine funext fun idx => ?_
    obtain ⟨i, j, rfl⟩ : ∃ (i j : Fin 2048), idx = ix2 i j := ⟨idx 0, idx 1, eq_ix2 idx⟩
    refine Eq.trans ?_ (result5 m c i j).symm
    rw [prod_eq]
    unfold tok wn dy
    rw [Cert.InDxIdeal.Gen.V_main_arg0, Cert.InDxIdeal.Gen.V_main_arg1, Cert.InDxIdeal.Gen.V_main_arg4]
    exact Cert.InDxReferenceIdeal.Row.v37 _ _ _ _ _ i j
  · rw [e0, e2, e3]
    refine funext fun idx => ?_
    obtain ⟨j, rfl⟩ : ∃ (j : Fin 2048), idx = ix2 0 j := ⟨idx 1, one_row idx⟩
    refine Eq.trans ?_ (result6 m c j).symm
    unfold rowShare
    simp only [prod_eq]
    unfold tok
    rw [Cert.InDxIdeal.Gen.V_main_arg0]
    exact Cert.InDxReferenceIdeal.Row.v20 _ _ _ j

end Cert.Proof.InDx

end
-- ==== Proof.InFwd.lean ====
/-
  The input projection: every point of the grid writes one 1024 by 1536 block of the product of the normed tokens with the
  transposed matrix, so the call's result is that product, as the reference's is.
-/
module

public import proofs.«01_k».proof.Defs
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdIdeal.Value
public import proofs.«01_k».proof.Proof.Gen.InFwdReferenceIdeal
public import proofs.«01_k».proof.Proof.Gen.InFwdReferenceIdeal.Run
public import proofs.«01_k».proof.Proof.Gen.InFwdReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.InFwdIdeal.Whole

open Cert.InFwdIdeal Cert.InFwdIdeal.Gen Cert.InFwdIdeal.Value

variable (m : (ℓ : Loc nD τ sig) → Buf (Elt Ideal) ℓ)

theorem idx0 : ∀ t : Fin cfg0.N, win0_0.index t 0 = t.val / 5 ∧ win0_0.index t 1 = 0 :=
  (by decide +kernel : ∀ t : Fin grid0.N, win0_0.index t 0 = t.val / 5 ∧ win0_0.index t 1 = 0)
theorem idx1 : ∀ t : Fin cfg0.N, win0_1.index t 0 = t.val % 5 ∧ win0_1.index t 1 = 0 :=
  (by decide +kernel : ∀ t : Fin grid0.N, win0_1.index t 0 = t.val % 5 ∧ win0_1.index t 1 = 0)
theorem idx2 : ∀ t : Fin cfg0.N, win0_2.index t 0 = t.val / 5 ∧ win0_2.index t 1 = t.val % 5 :=
  (by decide +kernel : ∀ t : Fin grid0.N, win0_2.index t 0 = t.val / 5 ∧ win0_2.index t 1 = t.val % 5)

/-- At the region's entry: the normed tokens. -/
def lhs (c : Dev nD) : Vec Ideal S2048x2048 .bf16 := V m c main_v12

/-- At the region's entry: the matrix. -/
def rhs (c : Dev nD) : Vec Ideal S7680x2048 .bf16 := V m c main_v13

/-- The product, read at an index. -/
def prod (c : Dev nD) (i : Fin 2048) (j : Fin 7680) : EReal := ∑ k : Fin 2048, lhs m c (ix2 i k) * rhs m c (ix2 j k)

/-- An array of results after the run. -/
def out2 (c : Dev nD) : Vec Ideal S2048x7680 .f32 := (dats m 0 c).arrAt 2 cfg0.N

/-- The grid point whose block holds row `i` and column `j` of the result. -/
def point (i : Fin 2048) (j : Fin 7680) : Fin cfg0.N :=
  ⟨i.val / 1024 * 5 + j.val / 1536, lt_of_lt_of_eq (by omega : _ < 10) N_0.symm⟩

/-- A row and a column, inside their block. -/
def offR (i : Fin 2048) : Fin 1024 := ⟨i.val % 1024, Nat.mod_lt _ (by decide)⟩
def offC (j : Fin 7680) : Fin 1536 := ⟨j.val % 1536, Nat.mod_lt _ (by decide)⟩

/-- Zero offsets, however spelt. -/
theorem hz2 : (![0, 0] : Fin 2 → ℕ) = fun _ => 0 := by decide

/-- What the body stores, read at an index. -/
theorem pay2 (x : Vec Ideal S1024x2048 .bf16) (y : Vec Ideal S1536x2048 .bf16) (i : Fin 1024) (j : Fin 1536) :
    (k0_pay1 x y : Vec Ideal S1024x1536 .f32) (ix2 i j) = (∑ k : Fin 2048, x (ix2 i k) * y (ix2 j k)) := by
  unfold k0_pay1
  pointwise []

/-- The block of the left operand, read at an index. -/
theorem left (c : Dev nD) (i : Fin 2048) (j : Fin 7680) (k : Fin 2048) :
    (iblk m c 0 (point i j) : Vec Ideal S1024x2048 .bf16) (ix2 (offR i) k) = lhs m c (ix2 i k) := by
  unfold iblk
  rw [View.read_apply]
  show V m c main_v12 _ = V m c main_v12 _
  congr 1
  funext a
  apply Fin.ext
  match a with
  | ⟨0, _⟩ =>
    show win0_0.index (point i j) 0 * 1024 + 1 * (i.val % 1024) = i.val
    rw [(idx0 (point i j)).1]
    show (i.val / 1024 * 5 + j.val / 1536) / 5 * 1024 + 1 * (i.val % 1024) = i.val
    omega
  | ⟨1, _⟩ => show win0_0.index (point i j) 1 * 2048 + 1 * k.val = k.val; rw [(idx0 (point i j)).2]; omega

/-- The block of the right operand, read at an index. -/
theorem right (c : Dev nD) (i : Fin 2048) (j : Fin 7680) (k : Fin 2048) :
    (iblk m c 1 (point i j) : Vec Ideal S1536x2048 .bf16) (ix2 (offC j) k) = rhs m c (ix2 j k) := by
  unfold iblk
  rw [View.read_apply]
  show V m c main_v13 _ = V m c main_v13 _
  congr 1
  funext a
  apply Fin.ext
  match a with
  | ⟨0, _⟩ =>
    show win0_1.index (point i j) 0 * 1536 + 1 * (j.val % 1536) = j.val
    rw [(idx1 (point i j)).1]
    show (i.val / 1024 * 5 + j.val / 1536) % 5 * 1536 + 1 * (j.val % 1536) = j.val
    omega
  | ⟨1, _⟩ => show win0_1.index (point i j) 1 * 2048 + 1 * k.val = k.val; rw [(idx1 (point i j)).2]; omega

/-- The block of the result, read at an index. -/
theorem read2 (y : Buf (Elt Ideal) (((0 : Dev nD) : Thread nD τ).loc main_v14)) (i : Fin 2048) (j : Fin 7680) :
    (((cfg0.win 2).blk (point i j)).view.read (Elt Ideal) y : Vec Ideal S1024x1536 .f32) (ix2 (offR i) (offC j)) = y (ix2 i j) := by
  rw [View.read_apply]
  show y _ = y _
  congr 1
  funext a
  apply Fin.ext
  match a with
  | ⟨0, _⟩ =>
    show win0_2.index (point i j) 0 * 1024 + 1 * (i.val % 1024) = i.val
    rw [(idx2 (point i j)).1]
    show (i.val / 1024 * 5 + j.val / 1536) / 5 * 1024 + 1 * (i.val % 1024) = i.val
    omega
  | ⟨1, _⟩ =>
    show win0_2.index (point i j) 1 * 1536 + 1 * (j.val % 1536) = j.val
    rw [(idx2 (point i j)).2]
    show (i.val / 1024 * 5 + j.val / 1536) % 5 * 1536 + 1 * (j.val % 1536) = j.val
    omega

/-- The result's array, read at an index. -/
theorem result2 (c : Dev nD) (i : Fin 2048) (j : Fin 7680) :
    out2 m c (ix2 i j) = prod m c i j := by
  have e := congrFun ((blocks2 m c (point i j) (flush0_2 _)).trans (flushed2 m c (point i j))) (ix2 (offR i) (offC j))
  refine ((read2 _ i j).symm.trans e).trans ?_
  show (out0_2 (iblk m c 0 (point i j)) (iblk m c 1 (point i j)) : Vec Ideal S1024x1536 .f32) (ix2 (offR i) (offC j)) = _
  unfold out0_2
  rw [View.canon_unit_zero hz2, View.ld_unit_zero hz2, View.ld_unit_zero hz2]
  refine (pay2 _ _ _ _).trans ?_
  unfold prod
  simp only [left, right]

end Cert.InFwdIdeal.Whole

namespace Cert.InFwdReferenceIdeal.Row

open Cert.InFwdReferenceIdeal Cert.InFwdReferenceIdeal.Gen Cert.InFwdReferenceIdeal.Read

/-- The result, read at an index. -/
theorem v13 (x0 : Vec Ideal S2048x2048 .f32) (x1 : Vec Ideal S1x2048 .f32) (x2 : Vec Ideal S7680x2048 .f32) (i : Fin 2048) (j : Fin 7680) :
    val_main_v13 (F := Ideal) x0 x1 x2 (ix2 i j) = ∑ k : Fin 2048, val_main_v11 (F := Ideal) x0 x1 (ix2 i k) * x2 (ix2 j k) := by
  unfold val_main_v13 val_main_v12
  pointwise []

end Cert.InFwdReferenceIdeal.Row

namespace Cert.Proof.InFwd

open Cert.InFwdIdeal.Whole
open Cert.InFwdReferenceIdeal.Read

/-- The normed tokens the host hands the call are the reference's. -/
theorem lhs_eq (m : (ℓ : Loc Cert.InFwdIdeal.nD Cert.InFwdIdeal.τ Cert.InFwdIdeal.sig) → Buf (Elt Ideal) ℓ) (c : Dev Cert.InFwdIdeal.nD) :
    lhs m c = truncf (F := Ideal) .bf16 (val_main_v11 (F := Ideal) (m ((c.tc : Thread Cert.InFwdIdeal.nD Cert.InFwdIdeal.τ).loc Cert.InFwdIdeal.main_arg0))
      (m ((c.tc : Thread Cert.InFwdIdeal.nD Cert.InFwdIdeal.τ).loc Cert.InFwdIdeal.main_arg1))) Cert.InFwdIdeal.Gen.bitsLt_bf16_f32 := by
  unfold lhs
  entry_read
  rfl

/-- The matrix the host hands the call is the argument. -/
theorem rhs_eq (m : (ℓ : Loc Cert.InFwdIdeal.nD Cert.InFwdIdeal.τ Cert.InFwdIdeal.sig) → Buf (Elt Ideal) ℓ) (c : Dev Cert.InFwdIdeal.nD) (i : Fin 7680) (k : Fin 2048) :
    rhs m c (ix2 i k) = (m ((c.tc : Thread Cert.InFwdIdeal.nD Cert.InFwdIdeal.τ).loc Cert.InFwdIdeal.main_arg2)) (ix2 i k) := by
  unfold rhs
  entry_read
  rfl

/-- `Cert.quiescent_InFwdReferenceIdeal`: the reference ends, keeps its arguments and leaves no semaphore counted. -/
theorem frame_reference : Cert.quiescent_InFwdReferenceIdeal := fun m ρ _ =>
  (θ_run Cert.InFwdReferenceIdeal.defs _ _).mono
    (fun r h => ⟨fun c => (h c).2, sem_eq_zero_of_no_sems (by decide) r.2⟩)
    (Cert.InFwdReferenceIdeal.Value.run (F := Ideal) m ρ)

/-- `Cert.algebraic_InFwdIdeal_InFwdReferenceIdeal`: from memories whose arguments agree, the call's result is the
    reference's. -/
theorem algebraic : Cert.algebraic_InFwdIdeal_InFwdReferenceIdeal := by
  intro m ρ m' ρ' _ hagree
  refine ⟨fun c => (Cert.InFwdIdeal.Gen.dats m 0 c).arrAt 2 Cert.InFwdIdeal.cfg0.N,
    Cert.InFwdIdeal.Value.run_blocks m ρ, ?_⟩
  refine (θ_run Cert.InFwdReferenceIdeal.defs _ _).mono (fun r h c => ?_) (Cert.InFwdReferenceIdeal.Value.run (F := Ideal) m' ρ')
  obtain ⟨e0, e1, e2⟩ := hagree c
  obtain ⟨h0, hk⟩ := h c
  refine ⟨(h0.trans (val_main_v13_eq _ _ _)).trans ?_, hk⟩
  rw [e0, e1, e2]
  refine funext fun idx => ?_
  obtain ⟨i, j, rfl⟩ : ∃ (i : Fin 2048) (j : Fin 7680), idx = ix2 i j := ⟨idx 0, idx 1, eq_ix2 idx⟩
  refine Eq.trans ?_ (result2 m c i j).symm
  unfold prod
  simp only [lhs_eq, rhs_eq]
  exact Cert.InFwdReferenceIdeal.Row.v13 _ _ _ i j

end Cert.Proof.InFwd

end
-- ==== Proof.OutDw.lean ====
/-
  The gradient of the output projection's matrix: every point of the grid writes one 1024 by 1024 block of the product of the
  mixed tokens, transposed, with the gradient of the output, so the call's result is that product, as the reference's is.
-/
module

public import proofs.«01_k».proof.Defs
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.OutDwIdeal.Whole

open Cert.OutDwIdeal Cert.OutDwIdeal.Gen Cert.OutDwIdeal.Value

variable (m : (ℓ : Loc nD τ sig) → Buf (Elt Ideal) ℓ)

theorem idx0 : ∀ t : Fin cfg0.N, win0_0.index t 0 = 0 ∧ win0_0.index t 1 = t.val / 2 :=
  (by decide +kernel : ∀ t : Fin grid0.N, win0_0.index t 0 = 0 ∧ win0_0.index t 1 = t.val / 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- At the region's entry: the mixed tokens. -/
def lhs (c : Dev nD) : Vec Ideal S2048x2048 .bf16 := V m c main_v0

/-- At the region's entry: the gradient of the output. -/
def rhs (c : Dev nD) : Vec Ideal S2048x2048 .f32 := V m c main_arg3

/-- The product, read at an index. -/
def prod (c : Dev nD) (i : Fin 2048) (j : Fin 2048) : EReal := ∑ k : Fin 2048, lhs m c (ix2 k i) * rhs m c (ix2 k j)

/-- An array of results after the run. -/
def out2 (c : Dev nD) : Vec Ideal S2048x2048 .bf16 := (dats m 0 c).arrAt 2 cfg0.N

/-- The grid point whose block holds row `i` and column `j` of the result. -/
def point (i : Fin 2048) (j : Fin 2048) : Fin cfg0.N :=
  ⟨i.val / 1024 * 2 + j.val / 1024, lt_of_lt_of_eq (by omega : _ < 4) N_0.symm⟩

/-- A row and a column, inside their block. -/
def offR (i : Fin 2048) : Fin 1024 := ⟨i.val % 1024, Nat.mod_lt _ (by decide)⟩
def offC (j : Fin 2048) : Fin 1024 := ⟨j.val % 1024, Nat.mod_lt _ (by decide)⟩

/-- Zero offsets, however spelt. -/
theorem hz2 : (![0, 0] : Fin 2 → ℕ) = fun _ => 0 := by decide

/-- What the body stores, read at an index. -/
theorem pay2 (x : Vec Ideal S2048x1024 .bf16) (y : Vec Ideal S2048x1024 .f32) (i : Fin 1024) (j : Fin 1024) :
    (k0_pay1 x y : Vec Ideal S1024x1024 .bf16) (ix2 i j) = (∑ k : Fin 2048, x (ix2 k i) * y (ix2 k j)) := by
  unfold k0_pay1
  pointwise []

/-- The block of the left operand, read at an index. -/
theorem left (c : Dev nD) (i : Fin 2048) (j : Fin 2048) (k : Fin 2048) :
    (iblk m c 0 (point i j) : Vec Ideal S2048x1024 .bf16) (ix2 k (offR i)) = lhs m c (ix2 k i) := by
  unfold iblk
  rw [View.read_apply]
  show V m c main_v0 _ = V m c main_v0 _
  congr 1
  funext a
  apply Fin.ext
  match a with
  | ⟨0, _⟩ => show win0_0.index (point i j) 0 * 2048 + 1 * k.val = k.val; rw [(idx0 (point i j)).1]; omega
  | ⟨1, _⟩ =>
    show win0_0.index (point i j) 1 * 1024 + 1 * (i.val % 1024) = i.val
    rw [(idx0 (point i j)).2]
    show (i.val / 1024 * 2 + j.val / 1024) / 2 * 1024 + 1 * (i.val % 1024) = i.val
    omega

/-- The block of the right operand, read at an index. -/
theorem right (c : Dev nD) (i : Fin 2048) (j : Fin 2048) (k : Fin 2048) :
    (iblk m c 1 (point i j) : Vec Ideal S2048x1024 .f32) (ix2 k (offC j)) = rhs m c (ix2 k j) := by
  unfold iblk
  rw [View.read_apply]
  show V m c main_arg3 _ = V m c main_arg3 _
  congr 1
  funext a
  apply Fin.ext
  match a with
  | ⟨0, _⟩ => show win0_1.index (point i j) 0 * 2048 + 1 * k.val = k.val; rw [(idx1 (point i j)).1]; omega
  | ⟨1, _⟩ =>
    show win0_1.index (point i j) 1 * 1024 + 1 * (j.val % 1024) = j.val
    rw [(idx1 (point i j)).2]
    show (i.val / 1024 * 2 + j.val / 1024) % 2 * 1024 + 1 * (j.val % 1024) = j.val
    omega

/-- The block of the result, read at an index. -/
theorem read2 (y : Buf (Elt Ideal) (((0 : Dev nD) : Thread nD τ).loc main_v1)) (i : Fin 2048) (j : Fin 2048) :
    (((cfg0.win 2).blk (point i j)).view.read (Elt Ideal) y : Vec Ideal S1024x1024 .bf16) (ix2 (offR i) (offC j)) = y (ix2 i j) := by
  rw [View.read_apply]
  show y _ = y _
  congr 1
  funext a
  apply Fin.ext
  match a with
  | ⟨0, _⟩ =>
    show win0_2.index (point i j) 0 * 1024 + 1 * (i.val % 1024) = i.val
    rw [(idx2 (point i j)).1]
    show (i.val / 1024 * 2 + j.val / 1024) / 2 * 1024 + 1 * (i.val % 1024) = i.val
    omega
  | ⟨1, _⟩ =>
    show win0_2.index (point i j) 1 * 1024 + 1 * (j.val % 1024) = j.val
    rw [(idx2 (point i j)).2]
    show (i.val / 1024 * 2 + j.val / 1024) % 2 * 1024 + 1 * (j.val % 1024) = j.val
    omega

/-- The result's array, read at an index. -/
theorem result2 (c : Dev nD) (i : Fin 2048) (j : Fin 2048) :
    out2 m c (ix2 i j) = prod m c i j := by
  have e := congrFun ((blocks2 m c (point i j) (flush0_2 _)).trans (flushed2 m c (point i j))) (ix2 (offR i) (offC j))
  refine ((read2 _ i j).symm.trans e).trans ?_
  show (out0_2 (iblk m c 0 (point i j)) (iblk m c 1 (point i j)) : Vec Ideal S1024x1024 .bf16) (ix2 (offR i) (offC j)) = _
  unfold out0_2
  rw [View.canon_unit_zero hz2, View.ld_unit_zero hz2, View.ld_unit_zero hz2]
  refine (pay2 _ _ _ _).trans ?_
  unfold prod
  simp only [left, right]

end Cert.OutDwIdeal.Whole

namespace Cert.OutDwReferenceIdeal.Row

open Cert.OutDwReferenceIdeal Cert.OutDwReferenceIdeal.Gen Cert.OutDwReferenceIdeal.Read

/-- The result, read at an index. -/
theorem v4 (x1 x3 : Vec Ideal S2048x2048 .f32) (i : Fin 2048) (j : Fin 2048) :
    val_main_v4 (F := Ideal) x1 x3 (ix2 i j) = ∑ k : Fin 2048, x3 (ix2 k j) * x1 (ix2 k i) := by
  unfold val_main_v4 val_main_v3 val_main_v2
  pointwise []

end Cert.OutDwReferenceIdeal.Row

namespace Cert.Proof.OutDw

open Cert.OutDwIdeal.Whole
open Cert.OutDwReferenceIdeal.Read

/-- The mixed tokens the host hands the call are the argument. -/
theorem lhs_eq (m : (ℓ : Loc Cert.OutDwIdeal.nD Cert.OutDwIdeal.τ Cert.OutDwIdeal.sig) → Buf (Elt Ideal) ℓ) (c : Dev Cert.OutDwIdeal.nD) (i : Fin 2048) (k : Fin 2048) :
    lhs m c (ix2 i k) = (m ((c.tc : Thread Cert.OutDwIdeal.nD Cert.OutDwIdeal.τ).loc Cert.OutDwIdeal.main_arg1)) (ix2 i k) := by
  unfold lhs
  entry_read
  rfl

/-- The gradient of the output is the argument. -/
theorem rhs_eq (m : (ℓ : Loc Cert.OutDwIdeal.nD Cert.OutDwIdeal.τ Cert.OutDwIdeal.sig) → Buf (Elt Ideal) ℓ) (c : Dev Cert.OutDwIdeal.nD) : rhs m c = (m ((c.tc : Thread Cert.OutDwIdeal.nD Cert.OutDwIdeal.τ).loc Cert.OutDwIdeal.main_arg3)) := by
  unfold rhs
  exact Cert.OutDwIdeal.Gen.V_main_arg3 m c

/-- `Cert.quiescent_OutDwReferenceIdeal`: the reference ends, keeps its arguments and leaves no semaphore counted. -/
theorem frame_reference : Cert.quiescent_OutDwReferenceIdeal := fun m ρ _ =>
  (θ_run Cert.OutDwReferenceIdeal.defs _ _).mono
    (fun r h => ⟨fun c => (h c).2, sem_eq_zero_of_no_sems (by decide) r.2⟩)
    (Cert.OutDwReferenceIdeal.Value.run (F := Ideal) m ρ)

/-- `Cert.algebraic_OutDwIdeal_OutDwReferenceIdeal`: from memories whose arguments agree, the call's result is the
    reference's. -/
theorem algebraic : Cert.algebraic_OutDwIdeal_OutDwReferenceIdeal := by
  intro m ρ m' ρ' _ hagree
  refine ⟨fun c => (Cert.OutDwIdeal.Gen.dats m 0 c).arrAt 2 Cert.OutDwIdeal.cfg0.N,
    Cert.OutDwIdeal.Value.run_blocks m ρ, ?_⟩
  refine (θ_run Cert.OutDwReferenceIdeal.defs _ _).mono (fun r h c => ?_) (Cert.OutDwReferenceIdeal.Value.run (F := Ideal) m' ρ')
  obtain ⟨e0, e1, e2, e3⟩ := hagree c
  obtain ⟨h0, hk⟩ := h c
  refine ⟨(h0.trans (val_main_v4_eq _ _)).trans ?_, hk⟩
  rw [e1, e3]
  refine funext fun idx => ?_
  obtain ⟨i, j, rfl⟩ : ∃ (i : Fin 2048) (j : Fin 2048), idx = ix2 i j := ⟨idx 0, idx 1, eq_ix2 idx⟩
  refine Eq.trans ?_ (result2 m c i j).symm
  unfold prod
  simp only [lhs_eq, rhs_eq]
  exact (Cert.OutDwReferenceIdeal.Row.v4 _ _ i j).trans (Finset.sum_congr rfl fun k _ => mul_comm _ _)

end Cert.Proof.OutDw

end
-- ==== Proof.OutDx.lean ====
/-
  The gradient of the mixed tokens: every point of the grid writes one 1024 by 1024 block of the product of the gradient of the
  output with the output projection's matrix, transposed, so the call's result is that product, as the reference's is.
-/
module

public import proofs.«01_k».proof.Defs
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.OutDxIdeal.Whole

open Cert.OutDxIdeal Cert.OutDxIdeal.Gen Cert.OutDxIdeal.Value

variable (m : (ℓ : Loc nD τ sig) → Buf (Elt Ideal) ℓ)

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- At the region's entry: the gradient of the output. -/
def lhs (c : Dev nD) : Vec Ideal S2048x2048 .f32 := V m c main_arg3

/-- At the region's entry: the matrix. -/
def rhs (c : Dev nD) : Vec Ideal S2048x2048 .bf16 := V m c main_v0

/-- The product, read at an index. -/
def prod (c : Dev nD) (i : Fin 2048) (j : Fin 2048) : EReal := ∑ k : Fin 2048, lhs m c (ix2 i k) * rhs m c (ix2 j k)

/-- An array of results after the run. -/
def out2 (c : Dev nD) : Vec Ideal S2048x2048 .f32 := (dats m 0 c).arrAt 2 cfg0.N

/-- The grid point whose block holds row `i` and column `j` of the result. -/
def point (i : Fin 2048) (j : Fin 2048) : Fin cfg0.N :=
  ⟨i.val / 1024 * 2 + j.val / 1024, lt_of_lt_of_eq (by omega : _ < 4) N_0.symm⟩

/-- A row and a column, inside their block. -/
def offR (i : Fin 2048) : Fin 1024 := ⟨i.val % 1024, Nat.mod_lt _ (by decide)⟩
def offC (j : Fin 2048) : Fin 1024 := ⟨j.val % 1024, Nat.mod_lt _ (by decide)⟩

/-- Zero offsets, however spelt. -/
theorem hz2 : (![0, 0] : Fin 2 → ℕ) = fun _ => 0 := by decide

/-- What the body stores, read at an index. -/
theorem pay2 (x : Vec Ideal S1024x2048 .f32) (y : Vec Ideal S1024x2048 .bf16) (i : Fin 1024) (j : Fin 1024) :
    (k0_pay1 x y : Vec Ideal S1024x1024 .f32) (ix2 i j) = (∑ k : Fin 2048, x (ix2 i k) * y (ix2 j k)) := by
  unfold k0_pay1
  pointwise []

/-- The block of the left operand, read at an index. -/
theorem left (c : Dev nD) (i : Fin 2048) (j : Fin 2048) (k : Fin 2048) :
    (iblk m c 0 (point i j) : Vec Ideal S1024x2048 .f32) (ix2 (offR i) k) = lhs m c (ix2 i k) := by
  unfold iblk
  rw [View.read_apply]
  show V m c main_arg3 _ = V m c main_arg3 _
  congr 1
  funext a
  apply Fin.ext
  match a with
  | ⟨0, _⟩ =>
    show win0_0.index (point i j) 0 * 1024 + 1 * (i.val % 1024) = i.val
    rw [(idx0 (point i j)).1]
    show (i.val / 1024 * 2 + j.val / 1024) / 2 * 1024 + 1 * (i.val % 1024) = i.val
    omega
  | ⟨1, _⟩ => show win0_0.index (point i j) 1 * 2048 + 1 * k.val = k.val; rw [(idx0 (point i j)).2]; omega

/-- The block of the right operand, read at an index. -/
theorem right (c : Dev nD) (i : Fin 2048) (j : Fin 2048) (k : Fin 2048) :
    (iblk m c 1 (point i j) : Vec Ideal S1024x2048 .bf16) (ix2 (offC j) k) = rhs m c (ix2 j k) := by
  unfold iblk
  rw [View.read_apply]
  show V m c main_v0 _ = V m c main_v0 _
  congr 1
  funext a
  apply Fin.ext
  match a with
  | ⟨0, _⟩ =>
    show win0_1.index (point i j) 0 * 1024 + 1 * (j.val % 1024) = j.val
    rw [(idx1 (point i j)).1]
    show (i.val / 1024 * 2 + j.val / 1024) % 2 * 1024 + 1 * (j.val % 1024) = j.val
    omega
  | ⟨1, _⟩ => show win0_1.index (point i j) 1 * 2048 + 1 * k.val = k.val; rw [(idx1 (point i j)).2]; omega

/-- The block of the result, read at an index. -/
theorem read2 (y : Buf (Elt Ideal) (((0 : Dev nD) : Thread nD τ).loc main_v1)) (i : Fin 2048) (j : Fin 2048) :
    (((cfg0.win 2).blk (point i j)).view.read (Elt Ideal) y : Vec Ideal S1024x1024 .f32) (ix2 (offR i) (offC j)) = y (ix2 i j) := by
  rw [View.read_apply]
  show y _ = y _
  congr 1
  funext a
  apply Fin.ext
  match a with
  | ⟨0, _⟩ =>
    show win0_2.index (point i j) 0 * 1024 + 1 * (i.val % 1024) = i.val
    rw [(idx2 (point i j)).1]
    show (i.val / 1024 * 2 + j.val / 1024) / 2 * 1024 + 1 * (i.val % 1024) = i.val
    omega
  | ⟨1, _⟩ =>
    show win0_2.index (point i j) 1 * 1024 + 1 * (j.val % 1024) = j.val
    rw [(idx2 (point i j)).2]
    show (i.val / 1024 * 2 + j.val / 1024) % 2 * 1024 + 1 * (j.val % 1024) = j.val
    omega

/-- The result's array, read at an index. -/
theorem result2 (c : Dev nD) (i : Fin 2048) (j : Fin 2048) :
    out2 m c (ix2 i j) = prod m c i j := by
  have e := congrFun ((blocks2 m c (point i j) (flush0_2 _)).trans (flushed2 m c (point i j))) (ix2 (offR i) (offC j))
  refine ((read2 _ i j).symm.trans e).trans ?_
  show (out0_2 (iblk m c 0 (point i j)) (iblk m c 1 (point i j)) : Vec Ideal S1024x1024 .f32) (ix2 (offR i) (offC j)) = _
  unfold out0_2
  rw [View.canon_unit_zero hz2, View.ld_unit_zero hz2, View.ld_unit_zero hz2]
  refine (pay2 _ _ _ _).trans ?_
  unfold prod
  simp only [left, right]

end Cert.OutDxIdeal.Whole

namespace Cert.OutDxReferenceIdeal.Row

open Cert.OutDxReferenceIdeal Cert.OutDxReferenceIdeal.Gen Cert.OutDxReferenceIdeal.Read

/-- The result, read at an index. -/
theorem v2 (x2 x3 : Vec Ideal S2048x2048 .f32) (i : Fin 2048) (j : Fin 2048) :
    val_main_v2 (F := Ideal) x2 x3 (ix2 i j) = ∑ k : Fin 2048, x3 (ix2 i k) * x2 (ix2 j k) := by
  unfold val_main_v2
  pointwise []

end Cert.OutDxReferenceIdeal.Row

namespace Cert.Proof.OutDx

open Cert.OutDxIdeal.Whole
open Cert.OutDxReferenceIdeal.Read

/-- The gradient of the output is the argument. -/
theorem lhs_eq (m : (ℓ : Loc Cert.OutDxIdeal.nD Cert.OutDxIdeal.τ Cert.OutDxIdeal.sig) → Buf (Elt Ideal) ℓ) (c : Dev Cert.OutDxIdeal.nD) : lhs m c = (m ((c.tc : Thread Cert.OutDxIdeal.nD Cert.OutDxIdeal.τ).loc Cert.OutDxIdeal.main_arg3)) := by
  unfold lhs
  exact Cert.OutDxIdeal.Gen.V_main_arg3 m c

/-- The matrix the host hands the call is the argument. -/
theorem rhs_eq (m : (ℓ : Loc Cert.OutDxIdeal.nD Cert.OutDxIdeal.τ Cert.OutDxIdeal.sig) → Buf (Elt Ideal) ℓ) (c : Dev Cert.OutDxIdeal.nD) (i : Fin 2048) (k : Fin 2048) :
    rhs m c (ix2 i k) = (m ((c.tc : Thread Cert.OutDxIdeal.nD Cert.OutDxIdeal.τ).loc Cert.OutDxIdeal.main_arg2)) (ix2 i k) := by
  unfold rhs
  entry_read
  rfl

/-- `Cert.quiescent_OutDxReferenceIdeal`: the reference ends, keeps its arguments and leaves no semaphore counted. -/
theorem frame_reference : Cert.quiescent_OutDxReferenceIdeal := fun m ρ _ =>
  (θ_run Cert.OutDxReferenceIdeal.defs _ _).mono
    (fun r h => ⟨fun c => (h c).2, sem_eq_zero_of_no_sems (by decide) r.2⟩)
    (Cert.OutDxReferenceIdeal.Value.run (F := Ideal) m ρ)

/-- `Cert.algebraic_OutDxIdeal_OutDxReferenceIdeal`: from memories whose arguments agree, the call's result is the
    reference's. -/
theorem algebraic : Cert.algebraic_OutDxIdeal_OutDxReferenceIdeal := by
  intro m ρ m' ρ' _ hagree
  refine ⟨fun c => (Cert.OutDxIdeal.Gen.dats m 0 c).arrAt 2 Cert.OutDxIdeal.cfg0.N,
    Cert.OutDxIdeal.Value.run_blocks m ρ, ?_⟩
  refine (θ_run Cert.OutDxReferenceIdeal.defs _ _).mono (fun r h c => ?_) (Cert.OutDxReferenceIdeal.Value.run (F := Ideal) m' ρ')
  obtain ⟨e0, e1, e2, e3⟩ := hagree c
  obtain ⟨h0, hk⟩ := h c
  refine ⟨(h0.trans (val_main_v2_eq _ _)).trans ?_, hk⟩
  rw [e2, e3]
  refine funext fun idx => ?_
  obtain ⟨i, j, rfl⟩ : ∃ (i : Fin 2048) (j : Fin 2048), idx = ix2 i j := ⟨idx 0, idx 1, eq_ix2 idx⟩
  refine Eq.trans ?_ (result2 m c i j).symm
  unfold prod
  simp only [lhs_eq, rhs_eq]
  exact Cert.OutDxReferenceIdeal.Row.v2 _ _ i j

end Cert.Proof.OutDx

end
-- ==== Proof.OutFwd.lean ====
/-
  The output projection with its residual: every point of the grid writes one 1024 by 1024 block of the product of the mixed tokens
  with the matrix, and adds the tokens to it, so the call's result is that sum, as the reference's is.
-/
module

public import proofs.«01_k».proof.Defs
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdReferenceIdeal
public import proofs.«01_k».proof.Proof.Gen.OutFwdReferenceIdeal.Run
public import proofs.«01_k».proof.Proof.Gen.OutFwdReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.OutFwdIdeal.Whole

open Cert.OutFwdIdeal Cert.OutFwdIdeal.Gen Cert.OutFwdIdeal.Value

variable (m : (ℓ : Loc nD τ sig) → Buf (Elt Ideal) ℓ)

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem idx3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- At the region's entry: the mixed tokens. -/
def lhs (c : Dev nD) : Vec Ideal S2048x2048 .bf16 := V m c main_v0

/-- At the region's entry: the matrix. -/
def rhs (c : Dev nD) : Vec Ideal S2048x2048 .bf16 := V m c main_v1

/-- At the region's entry: what the call adds to the product. -/
def res (c : Dev nD) : Vec Ideal S2048x2048 .f32 := V m c main_arg0

/-- The product, read at an index. -/
def prod (c : Dev nD) (i : Fin 2048) (j : Fin 2048) : EReal := ∑ k : Fin 2048, lhs m c (ix2 i k) * rhs m c (ix2 k j)

/-- An array of results after the run. -/
def out3 (c : Dev nD) : Vec Ideal S2048x2048 .f32 := (dats m 0 c).arrAt 3 cfg0.N

/-- The grid point whose block holds row `i` and column `j` of the result. -/
def point (i : Fin 2048) (j : Fin 2048) : Fin cfg0.N :=
  ⟨i.val / 1024 * 2 + j.val / 1024, lt_of_lt_of_eq (by omega : _ < 4) N_0.symm⟩

/-- A row and a column, inside their block. -/
def offR (i : Fin 2048) : Fin 1024 := ⟨i.val % 1024, Nat.mod_lt _ (by decide)⟩
def offC (j : Fin 2048) : Fin 1024 := ⟨j.val % 1024, Nat.mod_lt _ (by decide)⟩

/-- Zero offsets, however spelt. -/
theorem hz2 : (![0, 0] : Fin 2 → ℕ) = fun _ => 0 := by decide

/-- What the body stores, read at an index. -/
theorem pay3 (x : Vec Ideal S1024x2048 .bf16) (y : Vec Ideal S2048x1024 .bf16) (z : Vec Ideal S1024x1024 .f32) (i : Fin 1024) (j : Fin 1024) :
    (k0_pay1 x y z : Vec Ideal S1024x1024 .f32) (ix2 i j) = (∑ k : Fin 2048, x (ix2 i k) * y (ix2 k j)) + z (ix2 i j) := by
  unfold k0_pay1
  pointwise []

/-- The block of the left operand, read at an index. -/
theorem left (c : Dev nD) (i : Fin 2048) (j : Fin 2048) (k : Fin 2048) :
    (iblk m c 0 (point i j) : Vec Ideal S1024x2048 .bf16) (ix2 (offR i) k) = lhs m c (ix2 i k) := by
  unfold iblk
  rw [View.read_apply]
  show V m c main_v0 _ = V m c main_v0 _
  congr 1
  funext a
  apply Fin.ext
  match a with
  | ⟨0, _⟩ =>
    show win0_0.index (point i j) 0 * 1024 + 1 * (i.val % 1024) = i.val
    rw [(idx0 (point i j)).1]
    show (i.val / 1024 * 2 + j.val / 1024) / 2 * 1024 + 1 * (i.val % 1024) = i.val
    omega
  | ⟨1, _⟩ => show win0_0.index (point i j) 1 * 2048 + 1 * k.val = k.val; rw [(idx0 (point i j)).2]; omega

/-- The block of the right operand, read at an index. -/
theorem right (c : Dev nD) (i : Fin 2048) (j : Fin 2048) (k : Fin 2048) :
    (iblk m c 1 (point i j) : Vec Ideal S2048x1024 .bf16) (ix2 k (offC j)) = rhs m c (ix2 k j) := by
  unfold iblk
  rw [View.read_apply]
  show V m c main_v1 _ = V m c main_v1 _
  congr 1
  funext a
  apply Fin.ext
  match a with
  | ⟨0, _⟩ => show win0_1.index (point i j) 0 * 2048 + 1 * k.val = k.val; rw [(idx1 (point i j)).1]; omega
  | ⟨1, _⟩ =>
    show win0_1.index (point i j) 1 * 1024 + 1 * (j.val % 1024) = j.val
    rw [(idx1 (point i j)).2]
    show (i.val / 1024 * 2 + j.val / 1024) % 2 * 1024 + 1 * (j.val % 1024) = j.val
    omega

/-- The block of what the call adds, read at an index. -/
theorem block (c : Dev nD) (i : Fin 2048) (j : Fin 2048) :
    (iblk m c 2 (point i j) : Vec Ideal S1024x1024 .f32) (ix2 (offR i) (offC j)) = res m c (ix2 i j) := by
  unfold iblk
  rw [View.read_apply]
  show V m c main_arg0 _ = V m c main_arg0 _
  congr 1
  funext a
  apply Fin.ext
  match a with
  | ⟨0, _⟩ =>
    show win0_2.index (point i j) 0 * 1024 + 1 * (i.val % 1024) = i.val
    rw [(idx2 (point i j)).1]
    show (i.val / 1024 * 2 + j.val / 1024) / 2 * 1024 + 1 * (i.val % 1024) = i.val
    omega
  | ⟨1, _⟩ =>
    show win0_2.index (point i j) 1 * 1024 + 1 * (j.val % 1024) = j.val
    rw [(idx2 (point i j)).2]
    show (i.val / 1024 * 2 + j.val / 1024) % 2 * 1024 + 1 * (j.val % 1024) = j.val
    omega

/-- The block of the result, read at an index. -/
theorem read3 (y : Buf (Elt Ideal) (((0 : Dev nD) : Thread nD τ).loc main_v2)) (i : Fin 2048) (j : Fin 2048) :
    (((cfg0.win 3).blk (point i j)).view.read (Elt Ideal) y : Vec Ideal S1024x1024 .f32) (ix2 (offR i) (offC j)) = y (ix2 i j) := by
  rw [View.read_apply]
  show y _ = y _
  congr 1
  funext a
  apply Fin.ext
  match a with
  | ⟨0, _⟩ =>
    show win0_3.index (point i j) 0 * 1024 + 1 * (i.val % 1024) = i.val
    rw [(idx3 (point i j)).1]
    show (i.val / 1024 * 2 + j.val / 1024) / 2 * 1024 + 1 * (i.val % 1024) = i.val
    omega
  | ⟨1, _⟩ =>
    show win0_3.index (point i j) 1 * 1024 + 1 * (j.val % 1024) = j.val
    rw [(idx3 (point i j)).2]
    show (i.val / 1024 * 2 + j.val / 1024) % 2 * 1024 + 1 * (j.val % 1024) = j.val
    omega

/-- The result's array, read at an index. -/
theorem result3 (c : Dev nD) (i : Fin 2048) (j : Fin 2048) :
    out3 m c (ix2 i j) = prod m c i j + res m c (ix2 i j) := by
  have e := congrFun ((blocks3 m c (point i j) (flush0_3 _)).trans (flushed3 m c (point i j))) (ix2 (offR i) (offC j))
  refine ((read3 _ i j).symm.trans e).trans ?_
  show (out0_3 (iblk m c 0 (point i j)) (iblk m c 1 (point i j)) (iblk m c 2 (point i j)) : Vec Ideal S1024x1024 .f32) (ix2 (offR i) (offC j)) = _
  unfold out0_3
  rw [View.canon_unit_zero hz2, View.ld_unit_zero hz2, View.ld_unit_zero hz2, View.ld_unit_zero hz2]
  refine (pay3 _ _ _ _ _).trans ?_
  unfold prod
  simp only [left, right, block]

end Cert.OutFwdIdeal.Whole

namespace Cert.OutFwdReferenceIdeal.Row

open Cert.OutFwdReferenceIdeal Cert.OutFwdReferenceIdeal.Gen Cert.OutFwdReferenceIdeal.Read

/-- The result, read at an index. -/
theorem v1 (x0 x1 x2 : Vec Ideal S2048x2048 .f32) (i : Fin 2048) (j : Fin 2048) :
    val_main_v1 (F := Ideal) x0 x1 x2 (ix2 i j) = x0 (ix2 i j) + ∑ k : Fin 2048, x1 (ix2 i k) * x2 (ix2 k j) := by
  unfold val_main_v1 val_main_v0
  pointwise []

end Cert.OutFwdReferenceIdeal.Row

namespace Cert.Proof.OutFwd

open Cert.OutFwdIdeal.Whole
open Cert.OutFwdReferenceIdeal.Read

/-- The mixed tokens the host hands the call are the argument. -/
theorem lhs_eq (m : (ℓ : Loc Cert.OutFwdIdeal.nD Cert.OutFwdIdeal.τ Cert.OutFwdIdeal.sig) → Buf (Elt Ideal) ℓ) (c : Dev Cert.OutFwdIdeal.nD) (i : Fin 2048) (k : Fin 2048) :
    lhs m c (ix2 i k) = (m ((c.tc : Thread Cert.OutFwdIdeal.nD Cert.OutFwdIdeal.τ).loc Cert.OutFwdIdeal.main_arg1)) (ix2 i k) := by
  unfold lhs
  entry_read
  rfl

/-- The matrix the host hands the call is the argument. -/
theorem rhs_eq (m : (ℓ : Loc Cert.OutFwdIdeal.nD Cert.OutFwdIdeal.τ Cert.OutFwdIdeal.sig) → Buf (Elt Ideal) ℓ) (c : Dev Cert.OutFwdIdeal.nD) (i : Fin 2048) (k : Fin 2048) :
    rhs m c (ix2 i k) = (m ((c.tc : Thread Cert.OutFwdIdeal.nD Cert.OutFwdIdeal.τ).loc Cert.OutFwdIdeal.main_arg2)) (ix2 i k) := by
  unfold rhs
  entry_read
  rfl

/-- The tokens are the argument. -/
theorem res_eq (m : (ℓ : Loc Cert.OutFwdIdeal.nD Cert.OutFwdIdeal.τ Cert.OutFwdIdeal.sig) → Buf (Elt Ideal) ℓ) (c : Dev Cert.OutFwdIdeal.nD) : res m c = (m ((c.tc : Thread Cert.OutFwdIdeal.nD Cert.OutFwdIdeal.τ).loc Cert.OutFwdIdeal.main_arg0)) := by
  unfold res
  exact Cert.OutFwdIdeal.Gen.V_main_arg0 m c

/-- `Cert.quiescent_OutFwdReferenceIdeal`: the reference ends, keeps its arguments and leaves no semaphore counted. -/
theorem frame_reference : Cert.quiescent_OutFwdReferenceIdeal := fun m ρ _ =>
  (θ_run Cert.OutFwdReferenceIdeal.defs _ _).mono
    (fun r h => ⟨fun c => (h c).2, sem_eq_zero_of_no_sems (by decide) r.2⟩)
    (Cert.OutFwdReferenceIdeal.Value.run (F := Ideal) m ρ)

/-- `Cert.algebraic_OutFwdIdeal_OutFwdReferenceIdeal`: from memories whose arguments agree, the call's result is the
    reference's. -/
theorem algebraic : Cert.algebraic_OutFwdIdeal_OutFwdReferenceIdeal := by
  intro m ρ m' ρ' _ hagree
  refine ⟨fun c => (Cert.OutFwdIdeal.Gen.dats m 0 c).arrAt 3 Cert.OutFwdIdeal.cfg0.N,
    Cert.OutFwdIdeal.Value.run_blocks m ρ, ?_⟩
  refine (θ_run Cert.OutFwdReferenceIdeal.defs _ _).mono (fun r h c => ?_) (Cert.OutFwdReferenceIdeal.Value.run (F := Ideal) m' ρ')
  obtain ⟨e0, e1, e2⟩ := hagree c
  obtain ⟨h0, hk⟩ := h c
  refine ⟨(h0.trans (val_main_v1_eq _ _ _)).trans ?_, hk⟩
  rw [e0, e1, e2]
  refine funext fun idx => ?_
  obtain ⟨i, j, rfl⟩ : ∃ (i : Fin 2048) (j : Fin 2048), idx = ix2 i j := ⟨idx 0, idx 1, eq_ix2 idx⟩
  refine Eq.trans ?_ (result3 m c i j).symm
  unfold prod
  simp only [lhs_eq, rhs_eq, res_eq]
  exact (Cert.OutFwdReferenceIdeal.Row.v1 _ _ _ i j).trans (add_comm _ _)

end Cert.Proof.OutFwd

end
-- ==== Proof.UpFwd.lean ====
/-
  The MLP's first matrix: every point of the grid writes one 1024 by 1024 block of the product of the normed tokens with the
  matrix, and the square of the product's positive part. The call's two results are the reference's hidden layer and its squared ReLU.
-/
module

public import proofs.«01_k».proof.Defs
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Frame
public import proofs.«01_k».proof.Proof.Gen.UpFwdIdeal.Value
public import proofs.«01_k».proof.Proof.Gen.UpFwdReferenceIdeal
public import proofs.«01_k».proof.Proof.Gen.UpFwdReferenceIdeal.Run
public import proofs.«01_k».proof.Proof.Gen.UpFwdReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.UpFwdIdeal.Whole

open Cert.UpFwdIdeal Cert.UpFwdIdeal.Gen Cert.UpFwdIdeal.Value

variable (m : (ℓ : Loc nD τ sig) → Buf (Elt Ideal) ℓ)

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem idx3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- At the region's entry: the normed tokens. -/
def lhs (c : Dev nD) : Vec Ideal S2048x2048 .bf16 := V m c main_v12

/-- At the region's entry: the matrix. -/
def rhs (c : Dev nD) : Vec Ideal S2048x8192 .bf16 := V m c main_v13

/-- The product, read at an index. -/
def prod (c : Dev nD) (i : Fin 2048) (j : Fin 8192) : EReal := ∑ k : Fin 2048, lhs m c (ix2 i k) * rhs m c (ix2 k j)

/-- An array of results after the run. -/
def out2 (c : Dev nD) : Vec Ideal S2048x8192 .f32 := (dats m 0 c).arrAt 2 cfg0.N

/-- An array of results after the run. -/
def out3 (c : Dev nD) : Vec Ideal S2048x8192 .bf16 := (dats m 0 c).arrAt 3 cfg0.N

/-- The grid point whose block holds row `i` and column `j` of the result. -/
def point (i : Fin 2048) (j : Fin 8192) : Fin cfg0.N :=
  ⟨i.val / 1024 * 8 + j.val / 1024, lt_of_lt_of_eq (by omega : _ < 16) N_0.symm⟩

/-- A row and a column, inside their block. -/
def offR (i : Fin 2048) : Fin 1024 := ⟨i.val % 1024, Nat.mod_lt _ (by decide)⟩
def offC (j : Fin 8192) : Fin 1024 := ⟨j.val % 1024, Nat.mod_lt _ (by decide)⟩

/-- Zero offsets, however spelt. -/
theorem hz2 : (![0, 0] : Fin 2 → ℕ) = fun _ => 0 := by decide

/-- What the body stores, read at an index. -/
theorem pay2 (x : Vec Ideal S1024x2048 .bf16) (y : Vec Ideal S2048x1024 .bf16) (i : Fin 1024) (j : Fin 1024) :
    (k0_pay1 x y : Vec Ideal S1024x1024 .f32) (ix2 i j) = (∑ k : Fin 2048, x (ix2 i k) * y (ix2 k j)) := by
  unfold k0_pay1
  pointwise []

/-- What the body stores, read at an index. -/
theorem pay3 (x : Vec Ideal S1024x2048 .bf16) (y : Vec Ideal S2048x1024 .bf16) (i : Fin 1024) (j : Fin 1024) :
    (k0_pay2 x y : Vec Ideal S1024x1024 .bf16) (ix2 i j) = max (∑ k : Fin 2048, x (ix2 i k) * y (ix2 k j)) 0 * max (∑ k : Fin 2048, x (ix2 i k) * y (ix2 k j)) 0 := by
  unfold k0_pay2
  pointwise []
  simp only [pay2]

/-- The block of the left operand, read at an index. -/
theorem left (c : Dev nD) (i : Fin 2048) (j : Fin 8192) (k : Fin 2048) :
    (iblk m c 0 (point i j) : Vec Ideal S1024x2048 .bf16) (ix2 (offR i) k) = lhs m c (ix2 i k) := by
  unfold iblk
  rw [View.read_apply]
  show V m c main_v12 _ = V m c main_v12 _
  congr 1
  funext a
  apply Fin.ext
  match a with
  | ⟨0, _⟩ =>
    show win0_0.index (point i j) 0 * 1024 + 1 * (i.val % 1024) = i.val
    rw [(idx0 (point i j)).1]
    show (i.val / 1024 * 8 + j.val / 1024) / 8 * 1024 + 1 * (i.val % 1024) = i.val
    omega
  | ⟨1, _⟩ => show win0_0.index (point i j) 1 * 2048 + 1 * k.val = k.val; rw [(idx0 (point i j)).2]; omega

/-- The block of the right operand, read at an index. -/
theorem right (c : Dev nD) (i : Fin 2048) (j : Fin 8192) (k : Fin 2048) :
    (iblk m c 1 (point i j) : Vec Ideal S2048x1024 .bf16) (ix2 k (offC j)) = rhs m c (ix2 k j) := by
  unfold iblk
  rw [View.read_apply]
  show V m c main_v13 _ = V m c main_v13 _
  congr 1
  funext a
  apply Fin.ext
  match a with
  | ⟨0, _⟩ => show win0_1.index (point i j) 0 * 2048 + 1 * k.val = k.val; rw [(idx1 (point i j)).1]; omega
  | ⟨1, _⟩ =>
    show win0_1.index (point i j) 1 * 1024 + 1 * (j.val % 1024) = j.val
    rw [(idx1 (point i j)).2]
    show (i.val / 1024 * 8 + j.val / 1024) % 8 * 1024 + 1 * (j.val % 1024) = j.val
    omega

/-- The block of the result, read at an index. -/
theorem read2 (y : Buf (Elt Ideal) (((0 : Dev nD) : Thread nD τ).loc main_v14_0)) (i : Fin 2048) (j : Fin 8192) :
    (((cfg0.win 2).blk (point i j)).view.read (Elt Ideal) y : Vec Ideal S1024x1024 .f32) (ix2 (offR i) (offC j)) = y (ix2 i j) := by
  rw [View.read_apply]
  show y _ = y _
  congr 1
  funext a
  apply Fin.ext
  match a with
  | ⟨0, _⟩ =>
    show win0_2.index (point i j) 0 * 1024 + 1 * (i.val % 1024) = i.val
    rw [(idx2 (point i j)).1]
    show (i.val / 1024 * 8 + j.val / 1024) / 8 * 1024 + 1 * (i.val % 1024) = i.val
    omega
  | ⟨1, _⟩ =>
    show win0_2.index (point i j) 1 * 1024 + 1 * (j.val % 1024) = j.val
    rw [(idx2 (point i j)).2]
    show (i.val / 1024 * 8 + j.val / 1024) % 8 * 1024 + 1 * (j.val % 1024) = j.val
    omega

/-- The block of the result, read at an index. -/
theorem read3 (y : Buf (Elt Ideal) (((0 : Dev nD) : Thread nD τ).loc main_v14_1)) (i : Fin 2048) (j : Fin 8192) :
    (((cfg0.win 3).blk (point i j)).view.read (Elt Ideal) y : Vec Ideal S1024x1024 .bf16) (ix2 (offR i) (offC j)) = y (ix2 i j) := by
  rw [View.read_apply]
  show y _ = y _
  congr 1
  funext a
  apply Fin.ext
  match a with
  | ⟨0, _⟩ =>
    show win0_3.index (point i j) 0 * 1024 + 1 * (i.val % 1024) = i.val
    rw [(idx3 (point i j)).1]
    show (i.val / 1024 * 8 + j.val / 1024) / 8 * 1024 + 1 * (i.val % 1024) = i.val
    omega
  | ⟨1, _⟩ =>
    show win0_3.index (point i j) 1 * 1024 + 1 * (j.val % 1024) = j.val
    rw [(idx3 (point i j)).2]
    show (i.val / 1024 * 8 + j.val / 1024) % 8 * 1024 + 1 * (j.val % 1024) = j.val
    omega

/-- The result's array, read at an index. -/
theorem result2 (c : Dev nD) (i : Fin 2048) (j : Fin 8192) :
    out2 m c (ix2 i j) = prod m c i j := by
  have e := congrFun ((blocks2 m c (point i j) (flush0_2 _)).trans (flushed2 m c (point i j))) (ix2 (offR i) (offC j))
  refine ((read2 _ i j).symm.trans e).trans ?_
  show (out0_2 (iblk m c 0 (point i j)) (iblk m c 1 (point i j)) : Vec Ideal S1024x1024 .f32) (ix2 (offR i) (offC j)) = _
  unfold out0_2
  rw [View.canon_unit_zero hz2, View.ld_unit_zero hz2, View.ld_unit_zero hz2]
  refine (pay2 _ _ _ _).trans ?_
  unfold prod
  simp only [left, right]

/-- The result's array, read at an index. -/
theorem result3 (c : Dev nD) (i : Fin 2048) (j : Fin 8192) :
    out3 m c (ix2 i j) = max (prod m c i j) 0 * max (prod m c i j) 0 := by
  have e := congrFun ((blocks3 m c (point i j) (flush0_3 _)).trans (flushed3 m c (point i j))) (ix2 (offR i) (offC j))
  refine ((read3 _ i j).symm.trans e).trans ?_
  show (out0_3 (iblk m c 0 (point i j)) (iblk m c 1 (point i j)) : Vec Ideal S1024x1024 .bf16) (ix2 (offR i) (offC j)) = _
  unfold out0_3
  rw [View.canon_unit_zero hz2, View.ld_unit_zero hz2, View.ld_unit_zero hz2]
  refine (pay3 _ _ _ _).trans ?_
  unfold prod
  simp only [left, right]

end Cert.UpFwdIdeal.Whole

namespace Cert.UpFwdReferenceIdeal.Row

open Cert.UpFwdReferenceIdeal Cert.UpFwdReferenceIdeal.Gen Cert.UpFwdReferenceIdeal.Read

/-- The hidden layer, read at an index. -/
theorem v12 (x0 : Vec Ideal S2048x2048 .f32) (x1 : Vec Ideal S1x2048 .f32) (x2 : Vec Ideal S2048x8192 .f32) (i : Fin 2048) (j : Fin 8192) :
    val_main_v12 (F := Ideal) x0 x1 x2 (ix2 i j) = ∑ k : Fin 2048, val_main_v11 (F := Ideal) x0 x1 (ix2 i k) * x2 (ix2 k j) := by
  unfold val_main_v12
  pointwise []

/-- Its squared ReLU, read at an index. -/
theorem v15 (x0 : Vec Ideal S2048x2048 .f32) (x1 : Vec Ideal S1x2048 .f32) (x2 : Vec Ideal S2048x8192 .f32) (i : Fin 2048) (j : Fin 8192) :
    val_main_v15 (F := Ideal) x0 x1 x2 (ix2 i j) = max (∑ k : Fin 2048, val_main_v11 (F := Ideal) x0 x1 (ix2 i k) * x2 (ix2 k j)) 0 * max (∑ k : Fin 2048, val_main_v11 (F := Ideal) x0 x1 (ix2 i k) * x2 (ix2 k j)) 0 := by
  unfold val_main_v15 val_main_v14 val_main_v13 val_main_call0_v0 val_main_call0_cst
  pointwise []
  simp only [v12]

end Cert.UpFwdReferenceIdeal.Row

namespace Cert.Proof.UpFwd

open Cert.UpFwdIdeal.Whole
open Cert.UpFwdReferenceIdeal.Read

/-- The normed tokens the host hands the call are the reference's. -/
theorem lhs_eq (m : (ℓ : Loc Cert.UpFwdIdeal.nD Cert.UpFwdIdeal.τ Cert.UpFwdIdeal.sig) → Buf (Elt Ideal) ℓ) (c : Dev Cert.UpFwdIdeal.nD) :
    lhs m c = truncf (F := Ideal) .bf16 (val_main_v11 (F := Ideal) (m ((c.tc : Thread Cert.UpFwdIdeal.nD Cert.UpFwdIdeal.τ).loc Cert.UpFwdIdeal.main_arg0))
      (m ((c.tc : Thread Cert.UpFwdIdeal.nD Cert.UpFwdIdeal.τ).loc Cert.UpFwdIdeal.main_arg1))) Cert.UpFwdReferenceIdeal.Gen.bitsLt_bf16_f32 := by
  unfold lhs
  entry_read
  rfl

/-- The matrix the host hands the call is the argument. -/
theorem rhs_eq (m : (ℓ : Loc Cert.UpFwdIdeal.nD Cert.UpFwdIdeal.τ Cert.UpFwdIdeal.sig) → Buf (Elt Ideal) ℓ) (c : Dev Cert.UpFwdIdeal.nD) (i : Fin 2048) (k : Fin 8192) :
    rhs m c (ix2 i k) = (m ((c.tc : Thread Cert.UpFwdIdeal.nD Cert.UpFwdIdeal.τ).loc Cert.UpFwdIdeal.main_arg2)) (ix2 i k) := by
  unfold rhs
  entry_read
  rfl

/-- `Cert.quiescent_UpFwdReferenceIdeal`: the reference ends, keeps its arguments and leaves no semaphore counted. -/
theorem frame_reference : Cert.quiescent_UpFwdReferenceIdeal := fun m ρ _ =>
  (θ_run Cert.UpFwdReferenceIdeal.defs _ _).mono
    (fun r h => ⟨fun c => (h c).2.2, sem_eq_zero_of_no_sems (by decide) r.2⟩)
    (Cert.UpFwdReferenceIdeal.Value.run (F := Ideal) m ρ)

/-- `Cert.algebraic_UpFwdIdeal_UpFwdReferenceIdeal`: from memories whose arguments agree, the call's results are the
    reference's. -/
theorem algebraic : Cert.algebraic_UpFwdIdeal_UpFwdReferenceIdeal := by
  intro m ρ m' ρ' _ hagree
  refine ⟨fun c => (Cert.UpFwdIdeal.Gen.dats m 0 c).arrAt 2 Cert.UpFwdIdeal.cfg0.N, fun c => (Cert.UpFwdIdeal.Gen.dats m 0 c).arrAt 3 Cert.UpFwdIdeal.cfg0.N,
    Cert.UpFwdIdeal.Value.run_blocks m ρ, ?_⟩
  refine (θ_run Cert.UpFwdReferenceIdeal.defs _ _).mono (fun r h c => ?_) (Cert.UpFwdReferenceIdeal.Value.run (F := Ideal) m' ρ')
  obtain ⟨e0, e1, e2⟩ := hagree c
  obtain ⟨h0, h1, hk⟩ := h c
  refine ⟨(h0.trans (val_main_v12_eq _ _ _)).trans ?_, (h1.trans (val_main_v15_eq _ _ _)).trans ?_, hk⟩
  · rw [e0, e1, e2]
    refine funext fun idx => ?_
    obtain ⟨i, j, rfl⟩ : ∃ (i : Fin 2048) (j : Fin 8192), idx = ix2 i j := ⟨idx 0, idx 1, eq_ix2 idx⟩
    refine Eq.trans ?_ (result2 m c i j).symm
    unfold prod
    simp only [lhs_eq, rhs_eq]
    exact Cert.UpFwdReferenceIdeal.Row.v12 _ _ _ i j
  · rw [e0, e1, e2]
    refine funext fun idx => ?_
    obtain ⟨i, j, rfl⟩ : ∃ (i : Fin 2048) (j : Fin 8192), idx = ix2 i j := ⟨idx 0, idx 1, eq_ix2 idx⟩
    refine Eq.trans ?_ (result3 m c i j).symm
    unfold prod
    simp only [lhs_eq, rhs_eq]
    exact Cert.UpFwdReferenceIdeal.Row.v15 _ _ _ i j

end Cert.Proof.UpFwd

end
-- ==== Proof.DownFwd.lean ====
/-
  The MLP's output with its residual: the grid goes over two by two blocks of the output, and inside each over four blocks of the
  hidden layer, whose products it adds up in an accumulator. At a block's last point it adds the tokens to the accumulator. The
  reference's sum is the same, not cut into blocks.
-/
module

public import proofs.«01_k».proof.Defs
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdIdeal.Value
public import proofs.«01_k».proof.Proof.Gen.DownFwdReferenceIdeal
public import proofs.«01_k».proof.Proof.Gen.DownFwdReferenceIdeal.Run
public import proofs.«01_k».proof.Proof.Gen.DownFwdReferenceIdeal.Read
public import Idealize.ShloMosaic.Lib.Pipeline.Value
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.DownFwdIdeal.Point

open Cert.DownFwdIdeal Cert.DownFwdIdeal.Gen

variable {F : FTy → Type} [FloatOps F]

/-- Zero offsets, however spelt. -/
theorem hz2 : (![0, 0] : Fin 2 → ℕ) = fun _ => 0 := by decide

/-- What a block's first point leaves in the accumulator. -/
theorem sout0_A_0_eq (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : cond0_0 i) (hc1 : ¬cond0_1 i) (x0 : Vec F S1024x2048 .bf16) (x1 : Vec F S2048x1024 .bf16) (x2 : Vec F S1024x1024 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero hz2]
  simp only [View.readAt_eq_ld, h3.read_unread, h4.read_unread, h5.read_unread, h6.read_unread, h7.read_unread, View.readCov_unit_zero (S := S1024x1024) _ hz2, View.ld_unit_zero (S := S1024x2048) hz2,
    View.ld_unit_zero (S := S2048x1024) hz2, View.ld_unit_zero (S := S1024x1024) hz2, shapeCast_self]

/-- What a point between leaves in the accumulator. -/
theorem sout0_B_0_eq (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : ¬cond0_0 i) (hc1 : ¬cond0_1 i) (x0 : Vec F S1024x2048 .bf16) (x1 : Vec F S2048x1024 .bf16) (x2 : Vec F S1024x1024 .f32) (xs : Vec F S1024x1024 .f32) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz2]
  simp only [View.readAt_eq_ld, h3.read_unread, h4.read_unread, h5.read_unread, h6.read_unread, h7.read_unread, View.readCov_unit_zero (S := S1024x1024) _ hz2, View.ld_unit_zero (S := S1024x2048) hz2,
    View.ld_unit_zero (S := S2048x1024) hz2, View.ld_unit_zero (S := S1024x1024) hz2, shapeCast_self]

/-- What a block's last point leaves in the accumulator. -/
theorem sout0_C_0_eq (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : ¬cond0_0 i) (hc1 : cond0_1 i) (x0 : Vec F S1024x2048 .bf16) (x1 : Vec F S2048x1024 .bf16) (x2 : Vec F S1024x1024 .f32) (xs : Vec F S1024x1024 .f32) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz2]
  simp only [View.readAt_eq_ld, h3.read_unread, h4.read_unread, h5.read_unread, h6.read_unread, h7.read_unread, View.readCov_unit_zero (S := S1024x1024) _ hz2, View.ld_unit_zero (S := S1024x2048) hz2,
    View.ld_unit_zero (S := S2048x1024) hz2, View.ld_unit_zero (S := S1024x1024) hz2, shapeCast_self]

/-- What a block's last point leaves in the block. -/
theorem out0_C_3_eq (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : ¬cond0_0 i) (hc1 : cond0_1 i) (x0 : Vec F S1024x2048 .bf16) (x1 : Vec F S2048x1024 .bf16) (x2 : Vec F S1024x1024 .f32) (xs : Vec F S1024x1024 .f32) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz2]
  simp only [View.readAt_eq_ld, h3.read_unread, h4.read_unread, h5.read_unread, h6.read_unread, h7.read_unread, View.readCov_unit_zero (S := S1024x1024) _ hz2, View.ld_unit_zero (S := S1024x2048) hz2,
    View.ld_unit_zero (S := S2048x1024) hz2, View.ld_unit_zero (S := S1024x1024) hz2, shapeCast_self]

end Cert.DownFwdIdeal.Point

namespace Cert.DownFwdIdeal.Whole

open Cert.DownFwdIdeal Cert.DownFwdIdeal.Gen Cert.DownFwdIdeal.Value Cert.DownFwdIdeal.Point

variable (m : (ℓ : Loc nD τ sig) → Buf (Elt Ideal) ℓ)

theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem idx2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The squared hidden layer, the second weight matrix and the tokens at the region's entry. -/
def hid (c : Dev nD) : Vec Ideal S2048x8192 .bf16 := V m c main_v15
def w2 (c : Dev nD) : Vec Ideal S8192x2048 .bf16 := V m c main_v16
def tok (c : Dev nD) : Vec Ideal S2048x2048 .f32 := V m c main_arg0

/-- A row or column of the `I`-th block, and a column of the `b`-th block of the hidden layer. -/
def at2 (I : ℕ) (i : Fin 1024) : Fin 2048 := ⟨I % 2 * 1024 + i.val, by omega⟩
def col (b : ℕ) (k : Fin 2048) : Fin 8192 := ⟨b % 4 * 2048 + k.val, by omega⟩

/-- The product, whole and of one block of the hidden layer. -/
def prod (c : Dev nD) (R C : Fin 2048) : EReal := ∑ K : Fin 8192, hid m c (ix2 R K) * w2 m c (ix2 K C)
def part (c : Dev nD) (R C : Fin 2048) (b : ℕ) : EReal := ∑ k : Fin 2048, hid m c (ix2 R (col b k)) * w2 m c (ix2 (col b k) C)

theorem sum_cols (f : Fin 8192 → EReal) : ∑ b ∈ Finset.range 4, ∑ k : Fin 2048, f (col b k) = ∑ K, f K := by
  rw [Finset.sum_range, ← Fintype.sum_prod_type' (f := fun (b : Fin 4) (k : Fin 2048) => f (col b.val k))]
  refine Fintype.sum_equiv (finProdFinEquiv : Fin 4 × Fin 2048 ≃ Fin 8192) _ _ (fun p => congrArg f (Fin.ext ?_))
  show p.1.val % 4 * 2048 + p.2.val = p.2.val + 2048 * p.1.val
  omega

theorem bound (t : Fin cfg0.N) : t.val < 16 := lt_of_lt_of_eq t.isLt N_0

/-- What the body computes, read at an index. -/
theorem pay1 (i j : Fin 1024) : (k0_pay1 : FVec Ideal S1024x1024 .f32) (ix2 i j) = 0 := by
  unfold k0_pay1
  pointwise []

theorem pay2 (s : Vec Ideal S1024x1024 .f32) (x : Vec Ideal S1024x2048 .bf16) (y : Vec Ideal S2048x1024 .bf16) (i j : Fin 1024) :
    k0_pay2 s x y (ix2 i j) = s (ix2 i j) + ∑ k : Fin 2048, x (ix2 i k) * y (ix2 k j) := by
  unfold k0_pay2
  pointwise []

theorem pay3 (a b : Vec Ideal S1024x1024 .f32) (i j : Fin 1024) : k0_pay3 a b (ix2 i j) = a (ix2 i j) + b (ix2 i j) := by
  unfold k0_pay3
  pointwise []

/-- The block of the squared hidden layer, read at an index. -/
theorem left (c : Dev nD) (t : Fin cfg0.N) (i : Fin 1024) (k : Fin 2048) :
    (iblk m c 0 t : Vec Ideal S1024x2048 .bf16) (ix2 i k) = hid m c (ix2 (at2 (t.val / 8) i) (col (t.val % 4) k)) := by
  unfold iblk
  rw [View.read_apply]
  show V m c main_v15 _ = V m c main_v15 _
  congr 1
  funext a
  apply Fin.ext
  match a with
  | ⟨0, _⟩ =>
    show win0_0.index t 0 * 1024 + 1 * i.val = t.val / 8 % 2 * 1024 + i.val
    rw [(idx0 t).1]
    have := bound t
    omega
  | ⟨1, _⟩ =>
    show win0_0.index t 1 * 2048 + 1 * k.val = t.val % 4 % 4 * 2048 + k.val
    rw [(idx0 t).2]
    have := bound t
    omega

/-- The block of the second weight matrix, read at an index. -/
theorem right (c : Dev nD) (t : Fin cfg0.N) (k : Fin 2048) (j : Fin 1024) :
    (iblk m c 1 t : Vec Ideal S2048x1024 .bf16) (ix2 k j) = w2 m c (ix2 (col (t.val % 4) k) (at2 (t.val / 4) j)) := by
  unfold iblk
  rw [View.read_apply]
  show V m c main_v16 _ = V m c main_v16 _
  congr 1
  funext a
  apply Fin.ext
  match a with
  | ⟨0, _⟩ =>
    show win0_1.index t 0 * 2048 + 1 * k.val = t.val % 4 % 4 * 2048 + k.val
    rw [(idx1 t).1]
    have := bound t
    omega
  | ⟨1, _⟩ =>
    show win0_1.index t 1 * 1024 + 1 * j.val = t.val / 4 % 2 * 1024 + j.val
    rw [(idx1 t).2]
    have := bound t
    omega

/-- The block of the tokens, read at an index. -/
theorem tokens (c : Dev nD) (t : Fin cfg0.N) (i : Fin 1024) (j : Fin 1024) :
    (iblk m c 2 t : Vec Ideal S1024x1024 .f32) (ix2 i j) = tok m c (ix2 (at2 (t.val / 8) i) (at2 (t.val / 4) j)) := by
  unfold iblk
  rw [View.read_apply]
  show V m c main_arg0 _ = V m c main_arg0 _
  congr 1
  funext a
  apply Fin.ext
  match a with
  | ⟨0, _⟩ =>
    show win0_2.index t 0 * 1024 + 1 * i.val = t.val / 8 % 2 * 1024 + i.val
    rw [(idx2 t).1]
    have := bound t
    omega
  | ⟨1, _⟩ =>
    show win0_2.index t 1 * 1024 + 1 * j.val = t.val / 4 % 2 * 1024 + j.val
    rw [(idx2 t).2]
    have := bound t
    omega

/-- The point before. -/
theorem before (t : Fin cfg0.N) : t.val - 1 < cfg0.N := Nat.lt_of_le_of_lt (Nat.sub_le _ _) t.isLt

/-- What a block's first point leaves in the accumulator. -/
theorem acc_first (c : Dev nD) (t : Fin cfg0.N) (h0 : t.val % 4 = 0) :
    (outsAt0 m c t.val t.isLt).2 = k0_pay2 k0_pay1 (iblk m c 0 t) (iblk m c 1 t) := by
  simp only [outsAt0_A m c t h0 (show ¬t.val % 4 = 3 by omega)]
  rw [sout0_A_0_eq]

/-- What any other point leaves in the accumulator. -/
theorem acc_next (c : Dev nD) (t : Fin cfg0.N) (h0 : ¬t.val % 4 = 0) :
    (outsAt0 m c t.val t.isLt).2 = k0_pay2 (outsAt0 m c (t.val - 1) (before t)).2 (iblk m c 0 t) (iblk m c 1 t) := by
  by_cases h1 : t.val % 4 = 3
  · simp only [outsAt0_C m c t h0 h1]
    rw [sout0_C_0_eq]
  · simp only [outsAt0_B m c t h0 h1]
    rw [sout0_B_0_eq]

/-- What a block's last point leaves in the block. -/
theorem block_last (c : Dev nD) (t : Fin cfg0.N) (h1 : t.val % 4 = 3) :
    (outsAt0 m c t.val t.isLt).1 = k0_pay3 (outsAt0 m c t.val t.isLt).2 (iblk m c 2 t) := by
  rw [acc_next m c t (by omega)]
  simp only [outsAt0_C m c t (show ¬t.val % 4 = 0 by omega) h1]
  rw [out0_C_3_eq]

/-- The accumulator after any point: the products of the block's points so far. -/
theorem acc (c : Dev nD) (n : ℕ) (hn : n < cfg0.N) (i j : Fin 1024) :
    (outsAt0 m c n hn).2 (ix2 i j) = ∑ b ∈ Finset.range (n % 4 + 1), part m c (at2 (n / 8) i) (at2 (n / 4) j) b := by
  induction n with
  | zero =>
    refine (congrFun (acc_first m c ⟨0, hn⟩ rfl) (ix2 i j)).trans ?_
    rw [pay2, pay1, zero_add]
    simp only [left, right]
    exact (Finset.sum_range_one (part m c (at2 (0 / 8) i) (at2 (0 / 4) j))).symm
  | succ n ih =>
    by_cases h0 : (n + 1) % 4 = 0
    · refine (congrFun (acc_first m c ⟨n + 1, hn⟩ h0) (ix2 i j)).trans ?_
      rw [pay2, pay1, zero_add]
      simp only [left, right]
      rw [h0]
      exact (Finset.sum_range_one (part m c (at2 ((n + 1) / 8) i) (at2 ((n + 1) / 4) j))).symm
    · refine (congrFun (acc_next m c ⟨n + 1, hn⟩ h0) (ix2 i j)).trans ?_
      rw [pay2]
      simp only [left, right]
      rw [Finset.sum_range_succ]
      refine congrArg₂ (· + ·) ?_ rfl
      refine (ih (Nat.lt_of_succ_lt hn)).trans ?_
      rw [show n % 4 + 1 = (n + 1) % 4 by omega, show n / 8 = (n + 1) / 8 by omega, show n / 4 = (n + 1) / 4 by omega]

/-- … and after a block's last point: the whole product. -/
theorem acc_last (c : Dev nD) (t : Fin cfg0.N) (h1 : t.val % 4 = 3) (i j : Fin 1024) :
    (outsAt0 m c t.val t.isLt).2 (ix2 i j) = prod m c (at2 (t.val / 8) i) (at2 (t.val / 4) j) := by
  rw [acc, h1]
  exact sum_cols (fun K => hid m c (ix2 (at2 (t.val / 8) i) K) * w2 m c (ix2 K (at2 (t.val / 4) j)))

/-- The result, read at an index. -/
theorem result (c : Dev nD) (R C : Fin 2048) :
    (G3 m c : Vec Ideal S2048x2048 .f32) (ix2 R C) = prod m c R C + tok m c (ix2 R C) := by
  have hp : pt3Of (ix2 R C : S2048x2048.Idx) = 4 * (2 * (R.val / 1024) + C.val / 1024) + 3 := by
    show 4 * (2 * (R.val / 1024 - 0) + 1 * (C.val / 1024 - 0)) + 3 = _
    omega
  have hn : 4 * (2 * (R.val / 1024) + C.val / 1024) + 3 < cfg0.N := lt_of_lt_of_eq (by omega : _ < 16) N_0.symm
  have hl : loc3Of (ix2 R C : S2048x2048.Idx)
      = ix2 (⟨R.val % 1024, Nat.mod_lt _ (by decide)⟩ : Fin 1024) (⟨C.val % 1024, Nat.mod_lt _ (by decide)⟩ : Fin 1024) := by
    funext a; apply Fin.ext
    match a with
    | ⟨0, _⟩ => rfl
    | ⟨1, _⟩ => rfl
  have hr : at2 ((4 * (2 * (R.val / 1024) + C.val / 1024) + 3) / 8) (⟨R.val % 1024, Nat.mod_lt _ (by decide)⟩ : Fin 1024) = R := by
    apply Fin.ext
    show (4 * (2 * (R.val / 1024) + C.val / 1024) + 3) / 8 % 2 * 1024 + R.val % 1024 = R.val
    omega
  have hc : at2 ((4 * (2 * (R.val / 1024) + C.val / 1024) + 3) / 4) (⟨C.val % 1024, Nat.mod_lt _ (by decide)⟩ : Fin 1024) = C := by
    apply Fin.ext
    show (4 * (2 * (R.val / 1024) + C.val / 1024) + 3) / 4 % 2 * 1024 + C.val % 1024 = C.val
    omega
  unfold G3
  rw [dif_pos (by rw [hp]; exact hn), hl, fold0_congr m c _ _ (4 * (2 * (R.val / 1024) + C.val / 1024) + 3) (by omega) hp, ← outsAt0_sweep m c _ hn]
  refine (congrFun (block_last m c ⟨_, hn⟩ (by show (4 * (2 * (R.val / 1024) + C.val / 1024) + 3) % 4 = 3; omega)) _).trans ?_
  rw [pay3]
  simp only [tokens, acc_last m c ⟨_, hn⟩ (show (4 * (2 * (R.val / 1024) + C.val / 1024) + 3) % 4 = 3 by omega), hr, hc]

end Cert.DownFwdIdeal.Whole

namespace Cert.DownFwdReferenceIdeal.Row

open Cert.DownFwdReferenceIdeal Cert.DownFwdReferenceIdeal.Gen Cert.DownFwdReferenceIdeal.Read

/-- The result, read at an index. -/
theorem v16 (x0 : Vec Ideal S2048x2048 .f32) (x1 : Vec Ideal S1x2048 .f32) (x2 : Vec Ideal S2048x8192 .f32) (x3 : Vec Ideal S8192x2048 .f32)
    (i j : Fin 2048) : val_main_v16 (F := Ideal) x0 x1 x2 x3 (ix2 i j)
      = x0 (ix2 i j) + ∑ k : Fin 8192, val_main_v14 (F := Ideal) x0 x1 x2 (ix2 i k) * x3 (ix2 k j) := by
  unfold val_main_v16 val_main_v15
  pointwise []

end Cert.DownFwdReferenceIdeal.Row

namespace Cert.Proof.DownFwd

open Cert.DownFwdIdeal.Whole
open Cert.DownFwdReferenceIdeal.Read

/-- The squared hidden layer the host hands the call is the reference's. -/
theorem hid_eq (m : (ℓ : Loc Cert.DownFwdIdeal.nD Cert.DownFwdIdeal.τ Cert.DownFwdIdeal.sig) → Buf (Elt Ideal) ℓ) (c : Dev Cert.DownFwdIdeal.nD) :
    hid m c = truncf (F := Ideal) .bf16 (val_main_v14 (F := Ideal) (m ((c.tc : Thread Cert.DownFwdIdeal.nD Cert.DownFwdIdeal.τ).loc Cert.DownFwdIdeal.main_arg0))
      (m ((c.tc : Thread Cert.DownFwdIdeal.nD Cert.DownFwdIdeal.τ).loc Cert.DownFwdIdeal.main_arg1))
      (m ((c.tc : Thread Cert.DownFwdIdeal.nD Cert.DownFwdIdeal.τ).loc Cert.DownFwdIdeal.main_arg2))) Cert.DownFwdIdeal.Gen.bitsLt_bf16_f32 := by
  unfold hid
  entry_read
  rfl

/-- The second weight matrix the host hands the call is the argument. -/
theorem w2_eq (m : (ℓ : Loc Cert.DownFwdIdeal.nD Cert.DownFwdIdeal.τ Cert.DownFwdIdeal.sig) → Buf (Elt Ideal) ℓ) (c : Dev Cert.DownFwdIdeal.nD) (i : Fin 8192) (k : Fin 2048) :
    w2 m c (ix2 i k) = (m ((c.tc : Thread Cert.DownFwdIdeal.nD Cert.DownFwdIdeal.τ).loc Cert.DownFwdIdeal.main_arg3)) (ix2 i k) := by
  unfold w2
  entry_read
  rfl

/-- The tokens are the argument. -/
theorem tok_eq (m : (ℓ : Loc Cert.DownFwdIdeal.nD Cert.DownFwdIdeal.τ Cert.DownFwdIdeal.sig) → Buf (Elt Ideal) ℓ) (c : Dev Cert.DownFwdIdeal.nD) : tok m c = (m ((c.tc : Thread Cert.DownFwdIdeal.nD Cert.DownFwdIdeal.τ).loc Cert.DownFwdIdeal.main_arg0)) := by
  unfold tok
  exact Cert.DownFwdIdeal.Gen.V_main_arg0 m c

/-- `Cert.quiescent_DownFwdReferenceIdeal`: the reference ends, keeps its arguments and leaves no semaphore counted. -/
theorem frame_reference : Cert.quiescent_DownFwdReferenceIdeal := fun m ρ _ =>
  (θ_run Cert.DownFwdReferenceIdeal.defs _ _).mono
    (fun r h => ⟨fun c => (h c).2, sem_eq_zero_of_no_sems (by decide) r.2⟩)
    (Cert.DownFwdReferenceIdeal.Value.run (F := Ideal) m ρ)

/-- `Cert.algebraic_DownFwdIdeal_DownFwdReferenceIdeal`: from memories whose arguments agree, the call's result is the
    reference's. -/
theorem algebraic : Cert.algebraic_DownFwdIdeal_DownFwdReferenceIdeal := by
  intro m ρ m' ρ' _ hagree
  refine ⟨fun c => Cert.DownFwdIdeal.Value.G3 m c, Cert.DownFwdIdeal.Value.run m ρ, ?_⟩
  refine (θ_run Cert.DownFwdReferenceIdeal.defs _ _).mono (fun r h c => ?_) (Cert.DownFwdReferenceIdeal.Value.run (F := Ideal) m' ρ')
  obtain ⟨e0, e1, e2, e3⟩ := hagree c
  obtain ⟨h0, hk⟩ := h c
  refine ⟨(h0.trans (val_main_v16_eq _ _ _ _)).trans ?_, hk⟩
  rw [e0, e1, e2, e3]
  refine funext fun idx => ?_
  obtain ⟨i, j, rfl⟩ : ∃ (i j : Fin 2048), idx = ix2 i j := ⟨idx 0, idx 1, eq_ix2 idx⟩
  refine Eq.trans ?_ (result m c i j).symm
  unfold prod
  simp only [hid_eq, w2_eq, tok_eq]
  exact (Cert.DownFwdReferenceIdeal.Row.v16 _ _ _ _ i j).trans (add_comm _ _)

end Cert.Proof.DownFwd

end
-- ==== Proof.XaFinite.lean ====
/-
  What the attention's precondition says: `xa_finite` is one at arrays of real numbers only.
-/
module

public import proofs.«01_k».proof.Pre_xa_finite
public import proofs.«01_k».proof.Proof.Finite
public import Idealize.ShloMosaic.Lib.ReduceAll
public import Idealize.ShloMosaic.Lib.Decide

@[expose] public section

noncomputable section

open Idealize.ShloMosaic

namespace Cert.Pre_xa_finite

/-- The shape relations the predicate's operations take. -/
instance facts : Facts where
  bcast_S_S2048x512 := by decide
  reducesTo_S2048x512_S_d0_1 := by decide
  h_S_ := by decide
  bcast_S_S256x512 := by decide
  reducesTo_S256x512_S_d0_1 := by decide

open Cert.Pre_finite (real_of_cmp)

/-- Arrays at which the predicate is one hold real numbers only. -/
theorem reals (q : FVec Ideal S2048x512 .f32) (k v : FVec Ideal S256x512 .f32) (d : FVec Ideal S2048x512 .f32)
    (e : fn q k v d = fun _ => 1#1) :
    (∀ i, q i = ((q i : EReal).toReal : EReal)) ∧ (∀ i, k i = ((k i : EReal).toReal : EReal))
    ∧ (∀ i, v i = ((v i : EReal).toReal : EReal)) ∧ ∀ i, d i = ((d i : EReal).toReal : EReal) := by
  have z := congrFun e (fun i => i.elim0)
  obtain ⟨z, e3⟩ := IntOp.andi_eq_one.1 z
  obtain ⟨z, e2⟩ := IntOp.andi_eq_one.1 z
  obtain ⟨e0, e1⟩ := IntOp.andi_eq_one.1 z
  exact ⟨fun i => real_of_cmp q _ i (Host.reduce_andi_all _ _ _ _ _ e0 i),
    fun i => real_of_cmp k _ i (Host.reduce_andi_all _ _ _ _ _ e1 i),
    fun i => real_of_cmp v _ i (Host.reduce_andi_all _ _ _ _ _ e2 i),
    fun i => real_of_cmp d _ i (Host.reduce_andi_all _ _ _ _ _ e3 i)⟩

end Cert.Pre_xa_finite

end
-- ==== Proof.XaSoft.lean ====
/-
  One row of the attention: the exponentials of its scores, their sum, the probabilities, and the scores' gradient. For a row of
  real scores the gradient sums up to zero, so what a kernel adds to it in the row's greatest score's name is zero.
-/
module

public import Idealize.ShloMosaic.Lib.Pointwise

@[expose] public section

noncomputable section

open Idealize.ShloMosaic

namespace Cert.Soft

/-- The greatest score. -/
def top (s : Fin 256 → EReal) : EReal := (Finset.univ : Finset (Fin 256)).fold max (Ideal.ofBits .f32 0xFF800000#32) s

/-- The exponentials of the scores' distances from the greatest, and their sum. -/
def ex (s : Fin 256 → EReal) (j : Fin 256) : EReal := Ideal.exp (s j - top s)
def tot (s : Fin 256 → EReal) : EReal := ∑ j, ex s j

/-- The probabilities. -/
def prob (s : Fin 256 → EReal) (j : Fin 256) : EReal := Ideal.div (ex s j) (tot s)

/-- The scores' gradient, from the probabilities' gradient `g`. -/
def slope (s g : Fin 256 → EReal) (j : Fin 256) : EReal :=
  (Ideal.div (g j) (tot s) + -∑ k, g k * Ideal.div 1 (tot s * tot s) * ex s k) * ex s j

theorem neg_inf : Ideal.ofBits FTy.f32 0xFF800000#32 = ⊥ := by simp [Ideal.ofBits, Ideal.ieee]

/-- A quotient of reals. -/
theorem div_coe (x y : ℝ) (h : y ≠ 0) : Ideal.div (x : EReal) (y : EReal) = ((x / y : ℝ) : EReal) := by
  have h' : (y : EReal) ≠ 0 := by exact_mod_cast h
  rw [Ideal.div, if_neg h', ← EReal.coe_inv, ← EReal.coe_mul, div_eq_mul_inv]

/-- A sum of reals. -/
theorem sum_coe {ι : Type} [Fintype ι] (f : ι → ℝ) : ∑ j, (f j : EReal) = ((∑ j, f j : ℝ) : EReal) :=
  (map_sum (⟨⟨fun x : ℝ => (x : EReal), EReal.coe_zero⟩, EReal.coe_add⟩ : ℝ →+ EReal) f Finset.univ).symm

/-- Below the greatest score nothing is added. -/
theorem max_top (s : Fin 256 → EReal) : max (Ideal.ofBits .f32 0xFF800000#32) (top s) = top s := by
  rw [neg_inf]; exact max_eq_right bot_le

/-- The greatest of real scores is real. -/
theorem top_real (s : Fin 256 → ℝ) : ∃ t : ℝ, top (fun j => (s j : EReal)) = (t : EReal) := by
  have e : top (fun j => (s j : EReal)) = (Finset.univ : Finset (Fin 256)).sup (fun j => (s j : EReal)) := by
    unfold top; rw [neg_inf]; rfl
  obtain ⟨j, -, h⟩ := Finset.exists_mem_eq_sup (Finset.univ : Finset (Fin 256)) ⟨0, Finset.mem_univ _⟩ (fun j => (s j : EReal))
  exact ⟨s j, e.trans h⟩

/-- For real scores and a real gradient of the probabilities, the scores' gradient sums up to zero. -/
theorem sum_slope (s g : Fin 256 → ℝ) : ∑ j, (0 - slope (fun j => (s j : EReal)) (fun j => (g j : EReal)) j) = 0 := by
  obtain ⟨t, ht⟩ := top_real s
  have hex : ∀ j, ex (fun j => (s j : EReal)) j = ((Real.exp (s j - t) : ℝ) : EReal) := fun j => by
    unfold ex; rw [ht, ← EReal.coe_sub]; rfl
  have htot : tot (fun j => (s j : EReal)) = ((∑ j, Real.exp (s j - t) : ℝ) : EReal) := by
    unfold tot; simp only [hex]; exact sum_coe _
  have hpos : 0 < ∑ j, Real.exp (s j - t) := Finset.sum_pos (fun j _ => Real.exp_pos _) ⟨0, Finset.mem_univ _⟩
  generalize hL : ∑ j, Real.exp (s j - t) = L at htot hpos
  have hz : ∀ j, 0 - slope (fun j => (s j : EReal)) (fun j => (g j : EReal)) j
      = ((-((g j / L + -∑ k, g k * (1 / (L * L)) * Real.exp (s k - t)) * Real.exp (s j - t)) : ℝ) : EReal) := fun j => by
    unfold slope
    rw [htot, ← EReal.coe_one, ← EReal.coe_mul, div_coe _ _ (mul_pos hpos hpos).ne', div_coe _ _ hpos.ne', zero_sub]
    simp only [hex, ← EReal.coe_mul, sum_coe, ← EReal.coe_neg, ← EReal.coe_add]
  simp only [hz]
  rw [sum_coe, ← EReal.coe_zero]
  refine congrArg _ ?_
  rw [Finset.sum_neg_distrib, neg_eq_zero]
  simp only [add_mul]
  rw [Finset.sum_add_distrib, ← Finset.mul_sum, hL, neg_mul, Finset.sum_mul, ← sub_eq_add_neg, ← Finset.sum_sub_distrib]
  refine Finset.sum_eq_zero (fun j _ => ?_)
  have := hpos.ne'
  field_simp
  ring

/-- Zero, over the sum of numbers none of which is negative, times one of the numbers, is zero. -/
theorem share_zero (w : Fin 256 → EReal) (h : ∀ j, 0 ≤ w j) (j : Fin 256) : Ideal.div 0 (∑ k, w k) * w j = 0 := by
  by_cases e : ∑ k, w k = 0
  · rw [(Finset.sum_eq_zero_iff_of_nonneg (fun k _ => h k)).1 e j (Finset.mem_univ _), mul_zero]
  · rw [Ideal.div, if_neg e, zero_mul, zero_mul]

/-- The column of a head's lane. -/
def col (h : Fin 4) (l : Fin 128) : Fin 512 := ⟨h.val * 128 + l.val, by omega⟩

/-- A column is a head's lane. -/
theorem col_surj (x : Fin 512) : ∃ h l, x = col h l :=
  ⟨⟨x.val / 128, by omega⟩, ⟨x.val % 128, Nat.mod_lt _ (by decide)⟩, Fin.ext (by show x.val = x.val / 128 * 128 + x.val % 128; omega)⟩

/-- The factor of the scores, as the programs' constant. -/
abbrev factor : EReal := Ideal.ofBits .f32 0x3DB504F3#32

section
variable {ρ : Type}

/-- Row `r` of a head's products of two arrays' lanes, and of its scores. -/
def prods (x : ρ → Fin 512 → EReal) (y : Fin 256 → Fin 512 → EReal) (h : Fin 4) (r : ρ) (j : Fin 256) : EReal :=
  ∑ l : Fin 128, x r (col h l) * y j (col h l)
def scores (q : ρ → Fin 512 → EReal) (k : Fin 256 → Fin 512 → EReal) (h : Fin 4) (r : ρ) (j : Fin 256) : EReal := prods q k h r j * factor

/-- The gradient of a head's products of the queries and the keys. -/
def grad (q : ρ → Fin 512 → EReal) (k v : Fin 256 → Fin 512 → EReal) (d : ρ → Fin 512 → EReal) (h : Fin 4) (r : ρ) (j : Fin 256) : EReal :=
  slope (scores q k h r) (prods d v h r) j * factor

/-- A row's gradient of the queries, and its shares of the keys' and the values'. -/
def gradQ (q : ρ → Fin 512 → EReal) (k v : Fin 256 → Fin 512 → EReal) (d : ρ → Fin 512 → EReal) (h : Fin 4) (r : ρ) (l : Fin 128) : EReal :=
  ∑ j, grad q k v d h r j * k j (col h l)
def shareK (q : ρ → Fin 512 → EReal) (k v : Fin 256 → Fin 512 → EReal) (d : ρ → Fin 512 → EReal) (h : Fin 4) (j : Fin 256) (l : Fin 128)
    (r : ρ) : EReal := grad q k v d h r j * q r (col h l)
def shareV (q : ρ → Fin 512 → EReal) (k : Fin 256 → Fin 512 → EReal) (d : ρ → Fin 512 → EReal) (h : Fin 4) (j : Fin 256) (l : Fin 128)
    (r : ρ) : EReal := prob (scores q k h r) j * d r (col h l)

theorem factor_real : ∃ x : ℝ, factor = (x : EReal) := ⟨_, by
  simp [factor, Ideal.ofBits, Ideal.ieee]; norm_cast⟩

/-- Products of real arrays are real. -/
theorem prods_real {x : ρ → Fin 512 → EReal} {y : Fin 256 → Fin 512 → EReal} (hx : ∀ r a, x r a = ((x r a).toReal : EReal))
    (hy : ∀ r a, y r a = ((y r a).toReal : EReal)) (h : Fin 4) (r : ρ) (j : Fin 256) :
    prods x y h r j = ((∑ l : Fin 128, (x r (col h l)).toReal * (y j (col h l)).toReal : ℝ) : EReal) := by
  unfold prods
  rw [← sum_coe]
  refine Finset.sum_congr rfl (fun l _ => ?_)
  rw [EReal.coe_mul, ← hx, ← hy]

/-- For real arrays a row's gradient of the scores sums up to zero. -/
theorem sum_slope_scores {q d : ρ → Fin 512 → EReal} {k v : Fin 256 → Fin 512 → EReal} (hq : ∀ r a, q r a = ((q r a).toReal : EReal))
    (hk : ∀ r a, k r a = ((k r a).toReal : EReal)) (hv : ∀ r a, v r a = ((v r a).toReal : EReal))
    (hd : ∀ r a, d r a = ((d r a).toReal : EReal)) (h : Fin 4) (r : ρ) : ∑ j, (0 - slope (scores q k h r) (prods d v h r) j) = 0 := by
  obtain ⟨x, hx⟩ := factor_real
  have es : scores q k h r = fun j => (((∑ l : Fin 128, (q r (col h l)).toReal * (k j (col h l)).toReal) * x : ℝ) : EReal) := by
    funext j
    unfold scores
    rw [prods_real hq hk, hx, ← EReal.coe_mul]
  rw [es, show prods d v h r = _ from funext (prods_real hd hv h r)]
  exact sum_slope _ _

end

end Cert.Soft

end
-- ==== Proof.XaRef.lean ====
/-
  What the reference of the attention's backward call computes, read at an index: the three gradients, head by head, are the row
  functions of the attention.
-/
module

public import proofs.«01_k».proof.Defs
public import proofs.«01_k».proof.Proof.XaSoft
public import proofs.«01_k».proof.Proof.Gen.XaBwdReferenceIdeal
public import proofs.«01_k».proof.Proof.Gen.XaBwdReferenceIdeal.Run
public import proofs.«01_k».proof.Proof.Gen.XaBwdReferenceIdeal.Read
public import Idealize.ShloMosaic.Lib.Pointwise

@[expose] public section

set_option maxRecDepth 16384

noncomputable section

open Idealize.ShloMosaic Idealize.ShloMosaic.TcCoe Idealize.SL.Sem

namespace Cert.XaBwdReferenceIdeal.Row

open Cert.XaBwdReferenceIdeal Cert.XaBwdReferenceIdeal.Gen Cert.XaBwdReferenceIdeal.Read
open Cert.Soft (col)

variable (q : Vec Ideal S2048x512 .f32) (k v : Vec Ideal S256x512 .f32) (d : Vec Ideal S2048x512 .f32)

/-- An array's entries by row and column. -/
abbrev ent {n : ℕ} (x : Vec Ideal ⟨2, ![n, 512]⟩ .f32) : Fin n → Fin 512 → EReal := fun r a => x (ix2 r a)

theorem v0 (r : Fin 2048) (h : Fin 4) (l : Fin 128) : val_main_v0 (F := Ideal) q (ix3 r h l) = q (ix2 r (col h l)) := by
  unfold val_main_v0
  pointwise []
  rfl

theorem v1 (j : Fin 256) (h : Fin 4) (l : Fin 128) : val_main_v1 (F := Ideal) k (ix3 j h l) = k (ix2 j (col h l)) := by
  unfold val_main_v1
  pointwise []
  rfl

theorem v2 (j : Fin 256) (h : Fin 4) (l : Fin 128) : val_main_v2 (F := Ideal) v (ix3 j h l) = v (ix2 j (col h l)) := by
  unfold val_main_v2
  pointwise []
  rfl

theorem v38 (h : Fin 4) (l : Fin 128) (r : Fin 2048) : val_main_v38 (F := Ideal) d (ix3 h l r) = d (ix2 r (col h l)) := by
  unfold val_main_v38 val_main_v37
  pointwise []
  rfl

/-- The scores and the greatest of each row. -/
theorem v5 (h : Fin 4) (r : Fin 2048) (j : Fin 256) :
    val_main_v5 (F := Ideal) q k (ix3 h r j) = Soft.scores (ent q) (ent k) h r j := by
  unfold val_main_v5 val_main_v4 val_main_v3 val_main_cst
  pointwise [v0, v1]
  rfl

theorem v6 (h : Fin 4) (r : Fin 2048) :
    val_main_v6 (F := Ideal) q k (ix2 h r) = Soft.top (Soft.scores (ent q) (ent k) h r) := by
  unfold val_main_v6 val_main_cst_0
  pointwise [v5]
  rfl

theorem v13 (h : Fin 4) (r : Fin 2048) :
    val_main_v13 (F := Ideal) q k (ix2 h r) = Soft.top (Soft.scores (ent q) (ent k) h r) := by
  rw [← Soft.max_top]
  unfold val_main_v13 val_main_v12 val_main_cst_2
  pointwise [v6]

/-- The exponentials, their sums and the probabilities. -/
theorem v26 (h : Fin 4) (r : Fin 2048) (j : Fin 256) :
    val_main_v26 (F := Ideal) q k (ix3 h r j) = Soft.ex (Soft.scores (ent q) (ent k) h r) j := by
  unfold val_main_v26 val_main_v25 val_main_v24 val_main_v23
  pointwise [v5, v13]
  rfl

theorem v28 (h : Fin 4) (r : Fin 2048) :
    val_main_v28 (F := Ideal) q k (ix3 h r 0) = Soft.tot (Soft.scores (ent q) (ent k) h r) := by
  unfold val_main_v28 val_main_v27 val_main_cst_8
  pointwise [v26]
  rfl

theorem v30 (h : Fin 4) (r : Fin 2048) (j : Fin 256) :
    val_main_v30 (F := Ideal) q k (ix3 h r j) = Soft.prob (Soft.scores (ent q) (ent k) h r) j := by
  unfold val_main_v30 val_main_v29
  pointwise [v26, v28]
  rfl

/-- The gradient of the probabilities. -/
theorem v39 (h : Fin 4) (r : Fin 2048) (j : Fin 256) :
    val_main_v39 (F := Ideal) v d (ix3 h r j) = Soft.prods (ent d) (ent v) h r j := by
  unfold val_main_v39
  pointwise [v38, v2]
  rfl

/-- The gradient of the products of the queries and the keys. -/
theorem v47 (h : Fin 4) (r : Fin 2048) :
    val_main_v47 (F := Ideal) q k v d (ix3 h r 0) = -∑ j, Soft.prods (ent d) (ent v) h r j
      * Ideal.div 1 (Soft.tot (Soft.scores (ent q) (ent k) h r) * Soft.tot (Soft.scores (ent q) (ent k) h r))
      * Soft.ex (Soft.scores (ent q) (ent k) h r) j := by
  unfold val_main_v47 val_main_v46 val_main_v45 val_main_v44 val_main_v43 val_main_v42 val_main_v33 val_main_v32 val_main_v31
    val_main_cst_9 val_main_cst_10
  pointwise [v39, v28, v26]

theorem v55 (h : Fin 4) (r : Fin 2048) (j : Fin 256) :
    val_main_v55 (F := Ideal) q k v d (ix3 h r j) = Soft.grad (ent q) (ent k) (ent v) (ent d) h r j := by
  unfold val_main_v55 val_main_v54 val_main_v53 val_main_v52 val_main_v51 val_main_v50 val_main_v49 val_main_v48 val_main_cst_11 val_main_cst_12
  pointwise [v39, v28, v26, v47]
  rw [Fin.sum_univ_one, v47]
  rfl

/-- A column's head and lane. -/
theorem head_col (h : Fin 4) (l : Fin 128) (p : (col h l).val / 128 < 4) : (⟨(col h l).val / 128, p⟩ : Fin 4) = h :=
  Fin.ext (by show (h.val * 128 + l.val) / 128 = h.val; omega)
theorem lane_col (h : Fin 4) (l : Fin 128) (p : (col h l).val % 128 < 128) : (⟨(col h l).val % 128, p⟩ : Fin 128) = l :=
  Fin.ext (by show (h.val * 128 + l.val) % 128 = l.val; omega)

/-- The three results. -/
theorem v62 (r : Fin 2048) (h : Fin 4) (l : Fin 128) :
    val_main_v62 (F := Ideal) q k v d (ix2 r (col h l)) = Soft.gradQ (ent q) (ent k) (ent v) (ent d) h r l := by
  unfold val_main_v62 val_main_v59 val_main_v58
  pointwise [v55, v1]
  simp only [head_col, lane_col]
  rfl

theorem v61 (j : Fin 256) (h : Fin 4) (l : Fin 128) :
    val_main_v61 (F := Ideal) q k v d (ix2 j (col h l)) = ∑ r, Soft.shareK (ent q) (ent k) (ent v) (ent d) h j l r := by
  unfold val_main_v61 val_main_v57 val_main_v56
  pointwise [v55, v0]
  simp only [head_col, lane_col]
  rfl

theorem v60 (j : Fin 256) (h : Fin 4) (l : Fin 128) :
    val_main_v60 (F := Ideal) q k d (ix2 j (col h l)) = ∑ r, Soft.shareV (ent q) (ent k) (ent d) h j l r := by
  unfold val_main_v60 val_main_v41 val_main_v40
  pointwise [v38, v30]
  simp only [head_col, lane_col]
  exact Finset.sum_congr rfl (fun r _ => mul_comm _ _)

end Cert.XaBwdReferenceIdeal.Row

end
-- ==== Proof.XaBody.lean ====
/-
  What the attention's backward kernel computes of one block of rows, head by head. The four heads go the same way: the scores,
  the probabilities, the gradient of the scores, and from it the head's parts of the three results. Each is read at an index.
-/
module

public import proofs.«01_k».proof.Defs
public import proofs.«01_k».proof.Proof.XaSoft
public import proofs.«01_k».proof.Proof.Gen.XaBwdIdeal
public import proofs.«01_k».proof.Proof.Gen.XaBwdIdeal.Frame
public import Idealize.ShloMosaic.Lib.Pointwise

@[expose] public section

set_option maxRecDepth 16384

noncomputable section

open Idealize.ShloMosaic Idealize.ShloMosaic.TcCoe Idealize.SL.Sem

namespace Cert.XaBwdIdeal.Body

open Cert.XaBwdIdeal Cert.XaBwdIdeal.Gen
open Cert.Soft (col)

section
variable {F : FTy → Type} [FloatOps F]

/-- A head's lanes of a block. -/
def lanes (h : Fin 4) (x : Vec F S256x512 .f32) : FVec F S256x128 .f32 :=
  match h with
  | 0 => k0_pay2 x
  | 1 => k0_pay13 x
  | 2 => k0_pay25 x
  | 3 => k0_pay36 x

/-- The product of two heads' lanes, row by row. -/
def rows (a b : FVec F S256x128 .f32) : FVec F S256x256 .f32 :=
  matmul dot_S256x128_S256x128_S256x256_1_1_0_0_n_n none (truncf .bf16 a bitsLt_bf16_f32) (truncf .bf16 b bitsLt_bf16_f32)
    (constant S256x256 .f32 0x00000000#32)

/-- The scores, and the greatest of each row. -/
def score (a b : FVec F S256x128 .f32) : FVec F S256x256 .f32 :=
  mulf (rows a b) (broadcast S256x256 (Scalar.ofBits .f32 0x3DB504F3#32))
def most (s : FVec F S256x256 .f32) : FVec F S256 .f32 :=
  multiReduction .maximumf [1] S256 s 0xFF800000#32 reduces_S256x256_S256 (.inl rfl) rfl

/-- The exponentials, their sums, the probabilities, the sums' inverse squares; where a score is the greatest, and how often. -/
def expo (s : FVec F S256x256 .f32) : FVec F S256x256 .f32 := k0_pay20 s (most s)
def total (s : FVec F S256x256 .f32) : FVec F S256x1 .f32 := k0_pay21 s (most s)
def probs (s : FVec F S256x256 .f32) : FVec F S256x256 .f32 := k0_pay22 s (most s)
def inverse (s : FVec F S256x256 .f32) : FVec F S256x1 .f32 := k0_pay23 s (most s)
def mask (s : FVec F S256x256 .f32) : FVec F S256x256 .f32 := k0_pay40 s (most s)
def count (s : FVec F S256x256 .f32) : FVec F S256 .f32 := k0_pay41 s (most s)

/-- The gradient of the products the scores are. -/
def grad (s : FVec F S256x256 .f32) (v d : FVec F S256x128 .f32) : FVec F S256x256 .f32 :=
  k0_pay62 (mask s) (count s) (expo s) (k0_pay61 (expo s) (total s) (inverse s) v d)

/-- A head's parts of the results. -/
def partQ (a b v d : FVec F S256x128 .f32) : FVec F S256x128 .f32 :=
  matmul dot_S256x256_S256x128_S256x128_1_0_0_1_n_n none (truncf .bf16 (grad (score a b) v d) bitsLt_bf16_f32)
    (truncf .bf16 b bitsLt_bf16_f32) (constant S256x128 .f32 0x00000000#32)
def partK (a b v d : FVec F S256x128 .f32) : FVec F S256x128 .f32 :=
  matmul dot_S256x256_S256x128_S256x128_0_0_1_1_n_n none (truncf .bf16 (grad (score a b) v d) bitsLt_bf16_f32)
    (truncf .bf16 a bitsLt_bf16_f32) (constant S256x128 .f32 0x00000000#32)
def partV (a b d : FVec F S256x128 .f32) : FVec F S256x128 .f32 :=
  matmul dot_S256x256_S256x128_S256x128_0_0_1_1_n_n none (truncf .bf16 (probs (score a b)) bitsLt_bf16_f32)
    (truncf .bf16 d bitsLt_bf16_f32) (constant S256x128 .f32 0x00000000#32)

/-- A block of zeros. -/
def zeros (S : Shape) : FVec F S .f32 := broadcast S (Scalar.ofBits .f32 0x00000000#32)

/-- The four heads' parts side by side, as the body puts them: each padded with zeros, and the four added up. -/
def beside (y : Fin 4 → FVec F S256x128 .f32) : FVec F S256x512 .f32 :=
  addf (addf (addf
    (concatenate S256x512 1 [⟨S256x384, zeros S256x384⟩, ⟨S256x128, y 3⟩] concatenates_S256x384_S256x128_S256x512_d1)
    (concatenate S256x512 1 [⟨S256x384, concatenate S256x384 1 [⟨S256x256, zeros S256x256⟩, ⟨S256x128, y 2⟩]
      concatenates_S256x256_S256x128_S256x384_d1⟩, ⟨S256x128, zeros S256x128⟩] concatenates_S256x384_S256x128_S256x512_d1))
    (concatenate S256x512 1 [⟨S256x256, concatenate S256x256 1 [⟨S256x128, zeros S256x128⟩, ⟨S256x128, y 1⟩]
      concatenates_S256x128_S256x128_S256x256_d1⟩, ⟨S256x256, zeros S256x256⟩] concatenates_S256x256_S256x256_S256x512_d1))
    (concatenate S256x512 1 [⟨S256x128, y 0⟩, ⟨S256x384, zeros S256x384⟩] concatenates_S256x128_S256x384_S256x512_d1)

/-- The block's three results. -/
def blockQ (q k v d : Vec F S256x512 .f32) : FVec F S256x512 .f32 :=
  beside (fun h => partQ (lanes h q) (lanes h k) (lanes h v) (lanes h d))
def blockK (q k v d : Vec F S256x512 .f32) : FVec F S256x512 .f32 :=
  beside (fun h => partK (lanes h q) (lanes h k) (lanes h v) (lanes h d))
def blockV (q k d : Vec F S256x512 .f32) : FVec F S256x512 .f32 :=
  beside (fun h => partV (lanes h q) (lanes h k) (lanes h d))

end

theorem lanes_apply (h : Fin 4) (x : Vec Ideal S256x512 .f32) (i : Fin 256) (l : Fin 128) :
    lanes h x (ix2 i l) = x (ix2 i (col h l)) := by
  match h with
  | 0 =>
    unfold lanes k0_pay2
    pointwise []
    refine congrArg x (congrArg (ix2 i) (Fin.ext ?_))
    exact (Nat.zero_add _).symm
  | 1 =>
    unfold lanes k0_pay13
    pointwise []
    refine congrArg x (congrArg (ix2 i) (Fin.ext ?_))
    rfl
  | 2 =>
    unfold lanes k0_pay25
    pointwise []
    refine congrArg x (congrArg (ix2 i) (Fin.ext ?_))
    rfl
  | 3 =>
    unfold lanes k0_pay36
    pointwise []
    refine congrArg x (congrArg (ix2 i) (Fin.ext ?_))
    rfl

theorem rows_apply (a b : FVec Ideal S256x128 .f32) (i j : Fin 256) : rows a b (ix2 i j) = ∑ l : Fin 128, a (ix2 i l) * b (ix2 j l) := by
  unfold rows
  pointwise []

/-- A row of a block. -/
def row (s : FVec Ideal S256x256 .f32) (i : Fin 256) : Fin 256 → EReal := fun j => s (ix2 i j)

theorem most_apply (s : FVec Ideal S256x256 .f32) (i : Fin 256) : most s (ix1 i) = Soft.top (row s i) := by
  unfold most
  pointwise []
  rfl

theorem expo_apply (s : FVec Ideal S256x256 .f32) (i j : Fin 256) : expo s (ix2 i j) = Soft.ex (row s i) j := by
  unfold expo k0_pay20
  pointwise [most_apply]
  rfl

theorem total_apply (s : FVec Ideal S256x256 .f32) (i : Fin 256) : total s (ix2 i 0) = Soft.tot (row s i) := by
  have e : total s = shapeCast S256x1 (multiReduction .add [1] S256 (expo s) 0x00000000#32 reduces_S256x256_S256 (.inl rfl) rfl) shapeCasts_S256_S256x1 := rfl
  rw [e]
  pointwise [expo_apply]
  rfl

theorem probs_apply (s : FVec Ideal S256x256 .f32) (i j : Fin 256) : probs s (ix2 i j) = Soft.prob (row s i) j := by
  have e : probs s = divf (expo s) (broadcastTo S256x256 (total s) broadcasts_S256x1_S256x256) := rfl
  rw [e]
  pointwise [expo_apply, total_apply]
  rfl

theorem inverse_apply (s : FVec Ideal S256x256 .f32) (i : Fin 256) :
    inverse s (ix2 i 0) = Ideal.div 1 (Soft.tot (row s i) * Soft.tot (row s i)) := by
  have e : inverse s = divf (broadcast S256x1 (Scalar.ofBits .f32 0x3F800000#32)) (mulf (total s) (total s)) := rfl
  rw [e]
  pointwise [total_apply]

theorem mask_nonneg (s : FVec Ideal S256x256 .f32) (i j : Fin 256) : (0 : EReal) ≤ mask s (ix2 i j) := by
  unfold mask k0_pay40
  pointwise []
  have e : ∀ b : Bool, 0 ≤ (BitVec.setWidth 32 (BitVec.ofBool b)).toInt := by decide
  exact EReal.coe_nonneg.2 (Int.cast_nonneg (e _))

theorem count_apply (s : FVec Ideal S256x256 .f32) (i : Fin 256) : count s (ix1 i) = ∑ j : Fin 256, (mask s (ix2 i j) : EReal) := by
  have e : count s = multiReduction .add [1] S256 (mask s) 0x00000000#32 reduces_S256x256_S256 (.inl rfl) rfl := rfl
  rw [e]
  pointwise []

/-- The gradient of the scores, before the greatest scores' share. -/
def slopes (s : FVec Ideal S256x256 .f32) (v d : FVec Ideal S256x128 .f32) : FVec Ideal S256x256 .f32 :=
  mulf (k0_pay61 (expo s) (total s) (inverse s) v d) (expo s)

theorem slopes_apply (s : FVec Ideal S256x256 .f32) (v d : FVec Ideal S256x128 .f32) (i j : Fin 256) :
    slopes s v d (ix2 i j) = Soft.slope (row s i) (row (rows d v) i) j := by
  have e : slopes s v d = mulf (addf (divf (rows d v) (broadcastTo S256x256 (total s) broadcasts_S256x1_S256x256))
      (broadcastTo S256x256 (shapeCast S256x1 (multiReduction .add [1] S256 (subf (zeros S256x1)
        (shapeCast S256x1 (multiReduction .add [1] S256 (mulf (mulf (rows d v) (broadcastTo S256x256 (inverse s) broadcasts_S256x1_S256x256)) (expo s))
          0x00000000#32 reduces_S256x256_S256 (.inl rfl) rfl) shapeCasts_S256_S256x1)) 0x00000000#32 reduces_S256x1_S256 (.inl rfl) rfl)
        shapeCasts_S256_S256x1) broadcasts_S256x1_S256x256)) (expo s) := rfl
  rw [e]
  unfold zeros
  pointwise [expo_apply, total_apply, inverse_apply]
  rw [Fin.sum_univ_one, zero_sub]
  rfl

theorem grad_apply (s : FVec Ideal S256x256 .f32) (v d : FVec Ideal S256x128 .f32) (i j : Fin 256)
    (h : ∑ j, (0 - Soft.slope (row s i) (row (rows d v) i) j) = 0) :
    grad s v d (ix2 i j) = Soft.slope (row s i) (row (rows d v) i) j * Ideal.ofBits .f32 0x3DB504F3#32 := by
  have e : grad s v d = mulf (addf (slopes s v d) (mulf (broadcastTo S256x256 (shapeCast S256x1 (divf
      (multiReduction .add [1] S256 (shapeCast S256x1 (multiReduction .add [1] S256 (subf (zeros S256x256) (slopes s v d))
        0x00000000#32 reduces_S256x256_S256 (.inl rfl) rfl) shapeCasts_S256_S256x1) 0x00000000#32 reduces_S256x1_S256 (.inl rfl) rfl)
      (count s)) shapeCasts_S256_S256x1) broadcasts_S256x1_S256x256) (mask s))) (broadcast S256x256 (Scalar.ofBits .f32 0x3DB504F3#32)) := rfl
  rw [e]
  unfold zeros
  pointwise [slopes_apply, count_apply]
  rw [Fin.sum_univ_one, h, Soft.share_zero (fun j => mask s (ix2 i j)) (mask_nonneg s i) j, add_zero]

theorem partQ_apply (a b v d : FVec Ideal S256x128 .f32) (i : Fin 256) (l : Fin 128) :
    partQ a b v d (ix2 i l) = ∑ j : Fin 256, grad (score a b) v d (ix2 i j) * b (ix2 j l) := by
  unfold partQ
  pointwise []

theorem partK_apply (a b v d : FVec Ideal S256x128 .f32) (j : Fin 256) (l : Fin 128) :
    partK a b v d (ix2 j l) = ∑ i : Fin 256, grad (score a b) v d (ix2 i j) * a (ix2 i l) := by
  unfold partK
  pointwise []

theorem partV_apply (a b d : FVec Ideal S256x128 .f32) (j : Fin 256) (l : Fin 128) :
    partV a b d (ix2 j l) = ∑ i : Fin 256, probs (score a b) (ix2 i j) * d (ix2 i l) := by
  unfold partV
  pointwise []

theorem score_apply (a b : FVec Ideal S256x128 .f32) (i j : Fin 256) :
    score a b (ix2 i j) = (∑ l : Fin 128, a (ix2 i l) * b (ix2 j l)) * Ideal.ofBits .f32 0x3DB504F3#32 := by
  unfold score
  pointwise [rows_apply]

theorem beside_apply (y : Fin 4 → FVec Ideal S256x128 .f32) (h : Fin 4) (i : Fin 256) (l : Fin 128) :
    beside y (ix2 i (col h l)) = y h (ix2 i l) := by
  unfold beside zeros
  pointwise []
  have e : (col h l).val = h.val * 128 + l.val := rfl
  have hl := l.isLt
  have k : ∀ (n : Fin 4) (p : ℕ) (hp : p < 128), p = l.val → y n (ix2 i ⟨p, hp⟩) = y n (ix2 i l) := by
    rintro n p hp rfl; rfl
  match h with
  | 0 =>
    replace e : (col 0 l).val = l.val := e.trans (by show 0 * 128 + l.val = l.val; omega)
    simp only [dif_pos (show (col 0 l).val < 384 by omega), dif_pos (show (col 0 l).val < 256 by omega), dif_pos (show (col 0 l).val < 128 by omega),
      k _ _ _ (show (col 0 l).val = l.val by omega), zero_add, add_zero]
  | 1 =>
    replace e : (col 1 l).val = 128 + l.val := e
    simp only [dif_pos (show (col 1 l).val < 384 by omega), dif_pos (show (col 1 l).val < 256 by omega), dif_neg (show ¬(col 1 l).val < 128 by omega),
      k _ _ _ (show (col 1 l).val - 128 = l.val by omega), zero_add, add_zero]
  | 2 =>
    replace e : (col 2 l).val = 256 + l.val := e
    simp only [dif_pos (show (col 2 l).val < 384 by omega), dif_neg (show ¬(col 2 l).val < 256 by omega), dif_neg (show ¬(col 2 l).val < 128 by omega),
      k _ _ _ (show (col 2 l).val - 256 = l.val by omega), zero_add, add_zero]
  | 3 =>
    replace e : (col 3 l).val = 384 + l.val := e
    simp only [dif_neg (show ¬(col 3 l).val < 384 by omega), dif_neg (show ¬(col 3 l).val < 256 by omega), dif_neg (show ¬(col 3 l).val < 128 by omega),
      k _ _ _ (show (col 3 l).val - 384 = l.val by omega), zero_add, add_zero]

end Cert.XaBwdIdeal.Body

end
-- ==== Proof.XaPoint.lean ====
/-
  What a point of the attention's backward kernel leaves in its three results: its block of the queries' gradient, and its share
  of the keys' and the values' gradients, which every point but the first adds to what the point before left.
-/
module

public import proofs.«01_k».proof.Proof.XaBody
public import Idealize.ShloMosaic.Lib.Pipeline.Value

@[expose] public section

set_option maxRecDepth 16384

noncomputable section

open Idealize.ShloMosaic Idealize.ShloMosaic.TcCoe Idealize.SL.Sem

namespace Cert.XaBwdIdeal.Point

open Cert.XaBwdIdeal Cert.XaBwdIdeal.Gen Cert.XaBwdIdeal.Body

variable {F : FTy → Type} [FloatOps F]

/-- Zero offsets, however spelt. -/
theorem hz2 : (![0, 0] : Fin 2 → ℕ) = fun _ => 0 := by decide

/-- The first point's block of the queries' gradient. -/
theorem out0_A_4_eq (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole)
    (hc0 : cond0_0 i) (hc1 : ¬cond0_1 i) (hc2 : cond0_2 i) (hc3 : ¬cond0_3 i) (x0 x1 x2 x3 : Vec F S256x512 .f32) :
    out0_A_4 c i a1 h1 a2 h2 a3 h3 a4 h4 a5 h5 a6 h6 a7 h7 hc0 hc1 hc2 hc3 x0 x1 x2 x3 = blockQ x0 x1 x2 x3 := by
  unfold out0_A_4
  rw [View.read_writes_eq_canon _ _ _ (cover0_A_4 c i a1 h1 a2 h2 a3 h3 a4 h4 a5 h5 a6 h6 a7 h7 hc0 hc1 hc2 hc3 x0 x1 x2 x3)]
  unfold kernelRun0_A
  dsimp only
  sl_unfold_words
  rw [View.canon_unit_zero hz2]
  simp only [View.readAt_eq_ld, h1.read_unread, h2.read_unread, h3.read_unread, h4.read_unread, h6.read_unread, h7.read_unread,
    View.ld_unit_zero (S := S256x512) hz2, shapeCast_self]
  rfl

/-- The first point's share of the keys' gradient. -/
theorem out0_A_5_eq (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole)
    (hc0 : cond0_0 i) (hc1 : ¬cond0_1 i) (hc2 : cond0_2 i) (hc3 : ¬cond0_3 i) (x0 x1 x2 x3 : Vec F S256x512 .f32) :
    out0_A_5 c i a1 h1 a2 h2 a3 h3 a4 h4 a5 h5 a6 h6 a7 h7 hc0 hc1 hc2 hc3 x0 x1 x2 x3 = blockK x0 x1 x2 x3 := by
  unfold out0_A_5
  rw [View.read_writes_eq_canon _ _ _ (cover0_A_5 c i a1 h1 a2 h2 a3 h3 a4 h4 a5 h5 a6 h6 a7 h7 hc0 hc1 hc2 hc3 x0 x1 x2 x3)]
  unfold kernelRun0_A
  dsimp only
  sl_unfold_words
  rw [View.canon_unit_zero hz2]
  simp only [View.readAt_eq_ld, h1.read_unread, h2.read_unread, h3.read_unread, h4.read_unread, h6.read_unread, h7.read_unread,
    View.ld_unit_zero (S := S256x512) hz2, shapeCast_self]
  rfl

/-- The first point's share of the values' gradient. -/
theorem out0_A_6_eq (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole)
    (hc0 : cond0_0 i) (hc1 : ¬cond0_1 i) (hc2 : cond0_2 i) (hc3 : ¬cond0_3 i) (x0 x1 x2 x3 : Vec F S256x512 .f32) :
    out0_A_6 c i a1 h1 a2 h2 a3 h3 a4 h4 a5 h5 a6 h6 a7 h7 hc0 hc1 hc2 hc3 x0 x1 x2 x3 = blockV x0 x1 x3 := by
  unfold out0_A_6
  rw [View.read_writes_eq_canon _ _ _ (cover0_A_6 c i a1 h1 a2 h2 a3 h3 a4 h4 a5 h5 a6 h6 a7 h7 hc0 hc1 hc2 hc3 x0 x1 x2 x3)]
  unfold kernelRun0_A
  dsimp only
  sl_unfold_words
  rw [View.canon_unit_zero hz2]
  simp only [View.readAt_eq_ld, h1.read_unread, h2.read_unread, h3.read_unread, h4.read_unread, h6.read_unread, h7.read_unread,
    View.ld_unit_zero (S := S256x512) hz2, shapeCast_self]
  rfl

/-- A later point's block of the queries' gradient. -/
theorem out0_B_4_eq (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole)
    (hc0 : ¬cond0_0 i) (hc1 : cond0_1 i) (hc2 : ¬cond0_2 i) (hc3 : cond0_3 i) (x0 x1 x2 x3 xo5 xo6 : Vec F S256x512 .f32) :
    out0_B_4 c i a1 h1 a2 h2 a3 h3 a4 h4 a5 h5 a6 h6 a7 h7 hc0 hc1 hc2 hc3 x0 x1 x2 x3 xo5 xo6 = blockQ x0 x1 x2 x3 := by
  unfold out0_B_4
  rw [View.read_writes_eq_canon _ _ _ (cover0_B_4 c i a1 h1 a2 h2 a3 h3 a4 h4 a5 h5 a6 h6 a7 h7 hc0 hc1 hc2 hc3 x0 x1 x2 x3 xo5 xo6)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S256x512) hz2, shapeCast_self]
  rfl

/-- A later point's share of the keys' gradient, added to what was there. -/
theorem out0_B_5_eq (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole)
    (hc0 : ¬cond0_0 i) (hc1 : cond0_1 i) (hc2 : ¬cond0_2 i) (hc3 : cond0_3 i) (x0 x1 x2 x3 xo5 xo6 : Vec F S256x512 .f32) :
    out0_B_5 c i a1 h1 a2 h2 a3 h3 a4 h4 a5 h5 a6 h6 a7 h7 hc0 hc1 hc2 hc3 x0 x1 x2 x3 xo5 xo6 = addf xo5 (blockK x0 x1 x2 x3) := by
  unfold out0_B_5
  rw [View.read_writes_eq_canon _ _ _ (cover0_B_5 c i a1 h1 a2 h2 a3 h3 a4 h4 a5 h5 a6 h6 a7 h7 hc0 hc1 hc2 hc3 x0 x1 x2 x3 xo5 xo6)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S256x512) hz2, shapeCast_self]
  unfold k0_pay72
  simp only [shapeCast_self]
  rfl

/-- A later point's share of the values' gradient, added to what was there. -/
theorem out0_B_6_eq (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole)
    (hc0 : ¬cond0_0 i) (hc1 : cond0_1 i) (hc2 : ¬cond0_2 i) (hc3 : cond0_3 i) (x0 x1 x2 x3 xo5 xo6 : Vec F S256x512 .f32) :
    out0_B_6 c i a1 h1 a2 h2 a3 h3 a4 h4 a5 h5 a6 h6 a7 h7 hc0 hc1 hc2 hc3 x0 x1 x2 x3 xo5 xo6 = addf xo6 (blockV x0 x1 x3) := by
  unfold out0_B_6
  rw [View.read_writes_eq_canon _ _ _ (cover0_B_6 c i a1 h1 a2 h2 a3 h3 a4 h4 a5 h5 a6 h6 a7 h7 hc0 hc1 hc2 hc3 x0 x1 x2 x3 xo5 xo6)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S256x512) hz2, shapeCast_self]
  unfold k0_pay1
  simp only [shapeCast_self]
  rfl

end Cert.XaBwdIdeal.Point

end
-- ==== Proof.XaWhole.lean ====
/-
  The attention's backward call, whole: the queries' gradient block by block, and the keys' and the values' gradients, which the
  grid's points add up, read at an index.
-/
module

public import proofs.«01_k».proof.Proof.XaPoint
public import proofs.«01_k».proof.Proof.Gen.XaBwdIdeal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XaBwdIdeal.Whole

open Cert.XaBwdIdeal Cert.XaBwdIdeal.Gen Cert.XaBwdIdeal.Value Cert.XaBwdIdeal.Point Cert.XaBwdIdeal.Body
open Cert.Soft (col)

/-- An array's entries by row and column. -/
abbrev ent {n : ℕ} (x : Vec Ideal ⟨2, ![n, 512]⟩ .f32) : Fin n → Fin 512 → EReal := fun r a => x (ix2 r a)

/-- Every entry is real. -/
def Real {n : ℕ} (x : Vec Ideal ⟨2, ![n, 512]⟩ .f32) : Prop := ∀ r a, ent x r a = ((ent x r a).toReal : EReal)

section
variable {q k v d : Vec Ideal S256x512 .f32}

theorem score_row (h : Fin 4) (i : Fin 256) : row (score (lanes h q) (lanes h k)) i = Soft.scores (ent q) (ent k) h i := by
  funext j
  unfold row
  rw [score_apply]
  simp only [lanes_apply]
  rfl

theorem prods_row (h : Fin 4) (i : Fin 256) : row (rows (lanes h d) (lanes h v)) i = Soft.prods (ent d) (ent v) h i := by
  funext j
  unfold row
  rw [rows_apply]
  simp only [lanes_apply]
  rfl

variable (hq : Real q) (hk : Real k) (hv : Real v) (hd : Real d)
include hq hk hv hd

theorem grad_block (h : Fin 4) (i j : Fin 256) :
    grad (score (lanes h q) (lanes h k)) (lanes h v) (lanes h d) (ix2 i j) = Soft.grad (ent q) (ent k) (ent v) (ent d) h i j := by
  rw [grad_apply _ _ _ _ _ (by rw [score_row, prods_row]; exact Soft.sum_slope_scores hq hk hv hd h i), score_row, prods_row]
  rfl

/-- A block's three results, read at an index. -/
theorem blockQ_apply (i : Fin 256) (h : Fin 4) (l : Fin 128) :
    blockQ q k v d (ix2 i (col h l)) = Soft.gradQ (ent q) (ent k) (ent v) (ent d) h i l := by
  unfold blockQ
  rw [beside_apply, partQ_apply]
  simp only [grad_block hq hk hv hd, lanes_apply]
  rfl

theorem blockK_apply (j : Fin 256) (h : Fin 4) (l : Fin 128) :
    blockK q k v d (ix2 j (col h l)) = ∑ i, Soft.shareK (ent q) (ent k) (ent v) (ent d) h j l i := by
  unfold blockK
  rw [beside_apply, partK_apply]
  simp only [grad_block hq hk hv hd, lanes_apply]
  rfl

end

theorem blockV_apply (q k d : Vec Ideal S256x512 .f32) (j : Fin 256) (h : Fin 4) (l : Fin 128) :
    blockV q k d (ix2 j (col h l)) = ∑ i, Soft.shareV (ent q) (ent k) (ent d) h j l i := by
  unfold blockV
  rw [beside_apply, partV_apply]
  simp only [probs_apply, score_row, lanes_apply]
  rfl

variable (m : (ℓ : Loc nD τ sig) → Buf (Elt Ideal) ℓ)

/-- The call's arguments. -/
def qs (c : Dev nD) : Vec Ideal S2048x512 .f32 := V m c main_arg0
def ks (c : Dev nD) : Vec Ideal S256x512 .f32 := V m c main_arg1
def vs (c : Dev nD) : Vec Ideal S256x512 .f32 := V m c main_arg2
def ds (c : Dev nD) : Vec Ideal S2048x512 .f32 := V m c main_arg3

theorem bound (t : Fin cfg0.N) : t.val < 8 := lt_of_lt_of_eq t.isLt N_0

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

/-- The row of the `t`-th block. -/
def at_ (t : ℕ) (i : Fin 256) : Fin 2048 := ⟨t % 8 * 256 + i.val, by omega⟩

/-- Where an entry of the `t`-th block of rows lies in the array, and an entry of a block that is the whole array. -/
theorem place {t a b : ℕ} (ht : t < 8) (i : Fin 256) (x : Fin 512) {f : S2048x512.Idx} (h0 : (f 0).val = a * 256 + 1 * i.val)
    (h1 : (f 1).val = b * 512 + 1 * x.val) (h : a = t ∧ b = 0) : f = ix2 (at_ t i) x := by
  obtain ⟨rfl, rfl⟩ := h
  funext u
  apply Fin.ext
  match u with
  | ⟨0, _⟩ => refine h0.trans ?_; show _ = a % 8 * 256 + i.val; omega
  | ⟨1, _⟩ => refine h1.trans ?_; show _ = x.val; omega

theorem stay {a b : ℕ} (i : Fin 256) (x : Fin 512) {f : S256x512.Idx} (h0 : (f 0).val = a * 256 + 1 * i.val)
    (h1 : (f 1).val = b * 512 + 1 * x.val) (h : a = 0 ∧ b = 0) : f = ix2 i x := by
  obtain ⟨rfl, rfl⟩ := h
  funext u
  apply Fin.ext
  match u with
  | ⟨0, _⟩ => refine h0.trans ?_; show _ = i.val; omega
  | ⟨1, _⟩ => refine h1.trans ?_; show _ = x.val; omega

/-- The blocks of the arguments. -/
theorem block0 (c : Dev nD) (t : Fin cfg0.N) : ent (iblk m c 0 t : Vec Ideal S256x512 .f32) = fun i => ent (qs m c) (at_ t.val i) := by
  funext i x
  show (iblk m c 0 t : Vec Ideal S256x512 .f32) (ix2 i x) = qs m c (ix2 (at_ t.val i) x)
  unfold iblk
  rw [View.read_apply]
  show V m c main_arg0 _ = V m c main_arg0 _
  exact congrArg _ (place (bound t) i x rfl rfl (idx0 t))

theorem block3 (c : Dev nD) (t : Fin cfg0.N) : ent (iblk m c 3 t : Vec Ideal S256x512 .f32) = fun i => ent (ds m c) (at_ t.val i) := by
  funext i x
  show (iblk m c 3 t : Vec Ideal S256x512 .f32) (ix2 i x) = ds m c (ix2 (at_ t.val i) x)
  unfold iblk
  rw [View.read_apply]
  show V m c main_arg3 _ = V m c main_arg3 _
  exact congrArg _ (place (bound t) i x rfl rfl (idx3 t))

theorem block1 (c : Dev nD) (t : Fin cfg0.N) : ent (iblk m c 1 t : Vec Ideal S256x512 .f32) = ent (ks m c) := by
  funext i x
  show (iblk m c 1 t : Vec Ideal S256x512 .f32) (ix2 i x) = ks m c (ix2 i x)
  unfold iblk
  rw [View.read_apply]
  show V m c main_arg1 _ = V m c main_arg1 _
  exact congrArg _ (stay i x rfl rfl (idx1 t))

theorem block2 (c : Dev nD) (t : Fin cfg0.N) : ent (iblk m c 2 t : Vec Ideal S256x512 .f32) = ent (vs m c) := by
  funext i x
  show (iblk m c 2 t : Vec Ideal S256x512 .f32) (ix2 i x) = vs m c (ix2 i x)
  unfold iblk
  rw [View.read_apply]
  show V m c main_arg2 _ = V m c main_arg2 _
  exact congrArg _ (stay i x rfl rfl (idx2 t))

/-- The point before. -/
theorem before (t : Fin cfg0.N) : t.val - 1 < cfg0.N := Nat.lt_of_le_of_lt (Nat.sub_le _ _) t.isLt

/-- What the first point leaves, and what a later one does. -/
theorem first (c : Dev nD) (t : Fin cfg0.N) (h : t.val = 0) : outsAt0 m c t.val t.isLt
    = (blockQ (iblk m c 0 t) (iblk m c 1 t) (iblk m c 2 t) (iblk m c 3 t), blockK (iblk m c 0 t) (iblk m c 1 t) (iblk m c 2 t) (iblk m c 3 t),
      blockV (iblk m c 0 t) (iblk m c 1 t) (iblk m c 3 t)) := by
  simp only [outsAt0_A m c t (show t.val % 8 = 0 by omega) (show ¬1 ≤ t.val by omega) (show t.val % 8 = 0 by omega) (show ¬1 ≤ t.val by omega)]
  rw [out0_A_4_eq, out0_A_5_eq, out0_A_6_eq]

theorem next (c : Dev nD) (t : Fin cfg0.N) (h : 1 ≤ t.val) : outsAt0 m c t.val t.isLt
    = (blockQ (iblk m c 0 t) (iblk m c 1 t) (iblk m c 2 t) (iblk m c 3 t),
      addf (outsAt0 m c (t.val - 1) (before t)).2.1 (blockK (iblk m c 0 t) (iblk m c 1 t) (iblk m c 2 t) (iblk m c 3 t)),
      addf (outsAt0 m c (t.val - 1) (before t)).2.2 (blockV (iblk m c 0 t) (iblk m c 1 t) (iblk m c 3 t))) := by
  have hb := bound t
  simp only [outsAt0_B m c t (show ¬t.val % 8 = 0 by omega) h (show ¬t.val % 8 = 0 by omega) h]
  rw [out0_B_4_eq, out0_B_5_eq, out0_B_6_eq]

/-- Every point leaves its block of the queries' gradient. -/
theorem outQ (c : Dev nD) (t : Fin cfg0.N) : (outsAt0 m c t.val t.isLt).1
    = blockQ (iblk m c 0 t) (iblk m c 1 t) (iblk m c 2 t) (iblk m c 3 t) := by
  by_cases h : 1 ≤ t.val
  · rw [next m c t h]
  · rw [first m c t (by omega)]

/-- The rows, block by block. -/
theorem sum_rows (f : Fin 2048 → EReal) : ∑ b ∈ Finset.range 8, ∑ i : Fin 256, f (at_ b i) = ∑ R, f R := by
  rw [Finset.sum_range, ← Fintype.sum_prod_type' (f := fun (b : Fin 8) (i : Fin 256) => f (at_ b.val i))]
  refine Fintype.sum_equiv (finProdFinEquiv : Fin 8 × Fin 256 ≃ Fin 2048) _ _ (fun p => congrArg f (Fin.ext ?_))
  show p.1.val % 8 * 256 + p.2.val = p.2.val + 256 * p.1.val
  omega

/-- A point's share of the values' gradient. -/
theorem pointV (c : Dev nD) (t : Fin cfg0.N) (j : Fin 256) (h : Fin 4) (l : Fin 128) :
    blockV (iblk m c 0 t : Vec Ideal S256x512 .f32) (iblk m c 1 t) (iblk m c 3 t) (ix2 j (col h l))
      = ∑ i, Soft.shareV (ent (qs m c)) (ent (ks m c)) (ent (ds m c)) h j l (at_ t.val i) := by
  rw [blockV_apply, block0, block1, block3]
  rfl

/-- The values' gradient after any point: the shares of the points so far. -/
theorem sumV (c : Dev nD) (n : ℕ) (hn : n < cfg0.N) (j : Fin 256) (h : Fin 4) (l : Fin 128) :
    ((outsAt0 m c n hn).2.2 : Vec Ideal S256x512 .f32) (ix2 j (col h l))
      = ∑ b ∈ Finset.range (n + 1), ∑ i, Soft.shareV (ent (qs m c)) (ent (ks m c)) (ent (ds m c)) h j l (at_ b i) := by
  induction n with
  | zero =>
    rw [first m c ⟨0, hn⟩ rfl, Finset.sum_range_one]
    exact pointV m c ⟨0, hn⟩ j h l
  | succ n ih =>
    rw [next m c ⟨n + 1, hn⟩ (Nat.succ_le_succ (Nat.zero_le n)), Finset.sum_range_succ]
    exact congrArg₂ (· + ·) (ih (Nat.lt_of_succ_lt hn)) (pointV m c ⟨n + 1, hn⟩ j h l)

/-- The last point. -/
def last : Fin cfg0.N := ⟨7, lt_of_lt_of_eq (by decide) N_0.symm⟩

theorem last_of (t : Fin cfg0.N) (h : t.val % 8 = 7) : t = last := Fin.ext (by have := bound t; show t.val = 7; omega)

/-- The values' gradient, read at an index. -/
theorem resultV (c : Dev nD) (j : Fin 256) (h : Fin 4) (l : Fin 128) :
    ((dats m 0 c).arrAt 6 cfg0.N : Vec Ideal S256x512 .f32) (ix2 j (col h l))
      = ∑ R, Soft.shareV (ent (qs m c)) (ent (ks m c)) (ent (ds m c)) h j l R := by
  have e := congrFun (((dats m 0 c).read_blk_arrAt_eq_flushed 6 (fun t t' f f' n => absurd ((last_of t ((flush0_6 t).1 f)).trans
    (last_of t' ((flush0_6 t').1 f')).symm) n) cfg0.N last last.isLt ((flush0_6 last).2 rfl)).trans (flushed6 m c last)) (ix2 j (col h l))
  have r : ∀ y : Vec Ideal S256x512 .f32,
      (((cfg0.win 6).blk last).view.read (Elt Ideal) y : Vec Ideal S256x512 .f32) (ix2 j (col h l)) = y (ix2 j (col h l)) := fun y => by
    rw [View.read_apply]
    show y _ = y _
    exact congrArg y (stay j (col h l) rfl rfl (idx6 last))
  refine ((r _).symm.trans e).trans ?_
  exact (sumV m c 7 last.isLt j h l).trans (sum_rows _)

section
variable {m} {c : Dev nD} (hq : Real (qs m c)) (hk : Real (ks m c)) (hv : Real (vs m c)) (hd : Real (ds m c))
include hq hk hv hd

/-- A point's share of the keys' gradient. -/
theorem pointK (t : Fin cfg0.N) (j : Fin 256) (h : Fin 4) (l : Fin 128) :
    blockK (iblk m c 0 t : Vec Ideal S256x512 .f32) (iblk m c 1 t) (iblk m c 2 t) (iblk m c 3 t) (ix2 j (col h l))
      = ∑ i, Soft.shareK (ent (qs m c)) (ent (ks m c)) (ent (vs m c)) (ent (ds m c)) h j l (at_ t.val i) := by
  rw [blockK_apply (by intro r a; rw [block0]; exact hq _ _) (by intro r a; rw [block1]; exact hk _ _)
    (by intro r a; rw [block2]; exact hv _ _) (by intro r a; rw [block3]; exact hd _ _), block0, block1, block2, block3]
  rfl

/-- The keys' gradient after any point: the shares of the points so far. -/
theorem sumK (n : ℕ) (hn : n < cfg0.N) (j : Fin 256) (h : Fin 4) (l : Fin 128) :
    ((outsAt0 m c n hn).2.1 : Vec Ideal S256x512 .f32) (ix2 j (col h l))
      = ∑ b ∈ Finset.range (n + 1), ∑ i, Soft.shareK (ent (qs m c)) (ent (ks m c)) (ent (vs m c)) (ent (ds m c)) h j l (at_ b i) := by
  induction n with
  | zero =>
    rw [first m c ⟨0, hn⟩ rfl, Finset.sum_range_one]
    exact pointK hq hk hv hd ⟨0, hn⟩ j h l
  | succ n ih =>
    rw [next m c ⟨n + 1, hn⟩ (Nat.succ_le_succ (Nat.zero_le n)), Finset.sum_range_succ]
    exact congrArg₂ (· + ·) (ih (Nat.lt_of_succ_lt hn)) (pointK hq hk hv hd ⟨n + 1, hn⟩ j h l)

/-- The keys' gradient, read at an index. -/
theorem resultK (j : Fin 256) (h : Fin 4) (l : Fin 128) :
    ((dats m 0 c).arrAt 5 cfg0.N : Vec Ideal S256x512 .f32) (ix2 j (col h l))
      = ∑ R, Soft.shareK (ent (qs m c)) (ent (ks m c)) (ent (vs m c)) (ent (ds m c)) h j l R := by
  have e := congrFun (((dats m 0 c).read_blk_arrAt_eq_flushed 5 (fun t t' f f' n => absurd ((last_of t ((flush0_5 t).1 f)).trans
    (last_of t' ((flush0_5 t').1 f')).symm) n) cfg0.N last last.isLt ((flush0_5 last).2 rfl)).trans (flushed5 m c last)) (ix2 j (col h l))
  have r : ∀ y : Vec Ideal S256x512 .f32,
      (((cfg0.win 5).blk last).view.read (Elt Ideal) y : Vec Ideal S256x512 .f32) (ix2 j (col h l)) = y (ix2 j (col h l)) := fun y => by
    rw [View.read_apply]
    show y _ = y _
    exact congrArg y (stay j (col h l) rfl rfl (idx5 last))
  refine ((r _).symm.trans e).trans ?_
  exact (sumK hq hk hv hd 7 last.isLt j h l).trans (sum_rows _)

/-- The queries' gradient, read at an index. -/
theorem resultQ (R : Fin 2048) (h : Fin 4) (l : Fin 128) :
    ((dats m 0 c).arrAt 4 cfg0.N : Vec Ideal S2048x512 .f32) (ix2 R (col h l))
      = Soft.gradQ (ent (qs m c)) (ent (ks m c)) (ent (vs m c)) (ent (ds m c)) h R l := by
  have ht : R.val / 256 < cfg0.N := lt_of_lt_of_eq (by omega : R.val / 256 < 8) N_0.symm
  obtain ⟨i, hi⟩ : ∃ i : Fin 256, at_ (R.val / 256) i = R :=
    ⟨⟨R.val % 256, Nat.mod_lt _ (by decide)⟩, Fin.ext (by show R.val / 256 % 8 * 256 + R.val % 256 = R.val; omega)⟩
  have e := congrFun ((blocks4 m c ⟨R.val / 256, ht⟩ (flush0_4 _)).trans (flushed4 m c ⟨R.val / 256, ht⟩)) (ix2 i (col h l))
  have r : ∀ y : Vec Ideal S2048x512 .f32,
      (((cfg0.win 4).blk ⟨R.val / 256, ht⟩).view.read (Elt Ideal) y : Vec Ideal S256x512 .f32) (ix2 i (col h l)) = y (ix2 R (col h l)) := fun y => by
    rw [View.read_apply]
    show y _ = y _
    exact congrArg y ((place (bound ⟨R.val / 256, ht⟩) i (col h l) rfl rfl (idx4 ⟨R.val / 256, ht⟩)).trans (by rw [hi]))
  refine ((r _).symm.trans e).trans ?_
  rw [outQ]
  refine (blockQ_apply (by intro r a; rw [block0]; exact hq _ _) (by intro r a; rw [block1]; exact hk _ _)
    (by intro r a; rw [block2]; exact hv _ _) (by intro r a; rw [block3]; exact hd _ _) i h l).trans ?_
  rw [block0, block1, block2, block3]
  show Soft.gradQ (ent (qs m c)) (ent (ks m c)) (ent (vs m c)) (ent (ds m c)) h (at_ (R.val / 256) i) l = _
  rw [hi]

end

end Cert.XaBwdIdeal.Whole

end
-- ==== Proof.XaBwd.lean ====
/-
  The claims on the attention's backward call: the gradients of the queries, the keys and the values, read in Proof/XaWhole.lean,
  are those of the reference, read in Proof/XaRef.lean.
-/
module

public import proofs.«01_k».proof.Defs
public import proofs.«01_k».proof.Proof.Gen.XaBwd
public import proofs.«01_k».proof.Proof.Gen.XaBwd.Frame
public import proofs.«01_k».proof.Proof.Gen.XaBwdIdeal
public import proofs.«01_k».proof.Proof.Gen.XaBwdIdeal.Frame
public import proofs.«01_k».proof.Proof.Gen.XaBwdIdeal.Value
public import proofs.«01_k».proof.Proof.Gen.XaBwdReferenceIdeal
public import proofs.«01_k».proof.Proof.Gen.XaBwdReferenceIdeal.Run
public import proofs.«01_k».proof.Proof.Gen.XaBwdReferenceIdeal.Read
public import proofs.«01_k».proof.Proof.XaFinite
public import proofs.«01_k».proof.Proof.XaRef
public import proofs.«01_k».proof.Proof.XaWhole
public import Idealize.ShloMosaic.Init

@[expose] public section

set_option maxRecDepth 16384

noncomputable section

open Idealize.ShloMosaic Idealize.ShloMosaic.TcCoe Idealize.SL.Sem

namespace Cert.Proof.XaBwd

open Cert.XaBwdReferenceIdeal.Read Cert.XaBwdIdeal.Whole
open Cert.XaBwdIdeal.Gen (V_main_arg0 V_main_arg1 V_main_arg2 V_main_arg3)

/-- `Cert.quiescent_XaBwdReferenceIdeal`: the reference ends, keeps its arguments and leaves no semaphore counted. -/
theorem frame_reference : Cert.quiescent_XaBwdReferenceIdeal := fun m ρ _ =>
  (θ_run Cert.XaBwdReferenceIdeal.defs _ _).mono
    (fun r h => ⟨fun c => (h c).2.2.2, sem_eq_zero_of_no_sems (by decide) r.2⟩)
    (Cert.XaBwdReferenceIdeal.Value.run (F := Ideal) m ρ)

/-- Two matrices with the same entries, by row, head and lane, are equal. -/
theorem ext_cols {n : ℕ} {x y : Vec Ideal ⟨2, ![n, 512]⟩ .f32}
    (e : ∀ r h l, x (ix2 r (Soft.col h l)) = y (ix2 r (Soft.col h l))) : x = y := by
  refine funext fun idx => ?_
  obtain ⟨r, a, rfl⟩ : ∃ (r : Fin n) (a : Fin 512), idx = ix2 r a := ⟨idx 0, idx 1, eq_ix2 idx⟩
  obtain ⟨h, l, rfl⟩ := Soft.col_surj a
  exact e r h l

/-- `Cert.algebraic_XaBwdIdeal_XaBwdReferenceIdeal_pre_xa_finite`: from memories whose arguments agree and hold no infinity,
    the call's three results are the reference's. -/
theorem algebraic : Cert.algebraic_XaBwdIdeal_XaBwdReferenceIdeal_pre_xa_finite := by
  intro m ρ m' ρ' hfin hagree
  refine ⟨fun c => (Cert.XaBwdIdeal.Gen.dats m 0 c).arrAt 4 Cert.XaBwdIdeal.cfg0.N,
    fun c => (Cert.XaBwdIdeal.Gen.dats m 0 c).arrAt 5 Cert.XaBwdIdeal.cfg0.N,
    fun c => (Cert.XaBwdIdeal.Gen.dats m 0 c).arrAt 6 Cert.XaBwdIdeal.cfg0.N,
    Cert.XaBwdIdeal.Value.run_blocks m ρ, ?_⟩
  refine (θ_run Cert.XaBwdReferenceIdeal.defs _ _).mono (fun r h c => ?_)
    (Cert.XaBwdReferenceIdeal.Value.run (F := Ideal) m' ρ')
  obtain ⟨q, k, v, d⟩ := Cert.Pre_xa_finite.reals _ _ _ _ (hfin c)
  obtain ⟨e0, e1, e2, e3⟩ := hagree c
  obtain ⟨h0, h1, h2, hk⟩ := h c
  have q' : Real (qs m c) := fun r a => by unfold qs; rw [V_main_arg0]; exact q _
  have k' : Real (ks m c) := fun r a => by unfold ks; rw [V_main_arg1]; exact k _
  have v' : Real (vs m c) := fun r a => by unfold vs; rw [V_main_arg2]; exact v _
  have d' : Real (ds m c) := fun r a => by unfold ds; rw [V_main_arg3]; exact d _
  refine ⟨(h0.trans (val_main_v62_eq m' c)).trans ?_, (h1.trans (val_main_v61_eq m' c)).trans ?_,
    (h2.trans (val_main_v60_eq _ _ _)).trans ?_, hk⟩
  · rw [e0, e1, e2, e3]
    refine ext_cols fun R h l => Eq.trans ?_ (resultQ q' k' v' d' R h l).symm
    unfold qs ks vs ds
    rw [V_main_arg0, V_main_arg1, V_main_arg2, V_main_arg3]
    exact Cert.XaBwdReferenceIdeal.Row.v62 _ _ _ _ R h l
  · rw [e0, e1, e2, e3]
    refine ext_cols fun j h l => Eq.trans ?_ (resultK q' k' v' d' j h l).symm
    unfold qs ks vs ds
    rw [V_main_arg0, V_main_arg1, V_main_arg2, V_main_arg3]
    exact Cert.XaBwdReferenceIdeal.Row.v61 _ _ _ _ j h l
  · rw [e0, e1, e3]
    refine ext_cols fun j h l => Eq.trans ?_ (resultV m c j h l).symm
    unfold qs ks ds
    rw [V_main_arg0, V_main_arg1, V_main_arg3]
    exact Cert.XaBwdReferenceIdeal.Row.v60 _ _ _ j h l

end Cert.Proof.XaBwd

end
-- ==== Proof.DownDx.lean ====
/-
  The gradient of the MLP's hidden layer: every point of the grid writes one 1024 by 1024 block of the product of the output's
  gradient with the second weight matrix, transposed, times twice the layer's positive part. The reference selects zero where
  the layer is not positive; there the kernel multiplies by zero, so the two agree everywhere.
-/
module

public import proofs.«01_k».proof.Defs
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal
public import proofs.«01_k».proof.Proof.Gen.DownDxReferenceIdeal.Run
public import proofs.«01_k».proof.Proof.Gen.DownDxReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.DownDxIdeal.Whole

open Cert.DownDxIdeal Cert.DownDxIdeal.Gen Cert.DownDxIdeal.Value

variable (m : (ℓ : Loc nD τ sig) → Buf (Elt Ideal) ℓ)

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem idx3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- The left operand at the region's entry: the output's gradient. -/
def lhs (c : Dev nD) : Vec Ideal S2048x2048 .f32 := V m c main_arg4

/-- The right operand at the region's entry: the second weight matrix. -/
def rhs (c : Dev nD) : Vec Ideal S8192x2048 .bf16 := V m c main_v13

/-- The hidden layer at the region's entry. -/
def layer (c : Dev nD) : Vec Ideal S2048x8192 .f32 := V m c main_v12

/-- The result's array after the run. -/
def out (c : Dev nD) : Vec Ideal S2048x8192 .bf16 := (dats m 0 c).arrAt 3 cfg0.N

/-- The grid point whose block holds row `i` and column `j` of the result. -/
def point (i : Fin 2048) (j : Fin 8192) : Fin cfg0.N :=
  ⟨i.val / 1024 * 8 + j.val / 1024, lt_of_lt_of_eq (by omega : _ < 16) N_0.symm⟩

/-- A row or column, inside its block. -/
def off {n : ℕ} (i : Fin n) : Fin 1024 := ⟨i.val % 1024, Nat.mod_lt _ (by decide)⟩

/-- The factor two, as the programs' constant. -/
abbrev two : EReal := Ideal.ofBits .f32 0x40000000#32

/-- Zero offsets, however spelt. -/
theorem hz2 : (![0, 0] : Fin 2 → ℕ) = fun _ => 0 := by decide

/-- What the body stores, read at an index. -/
theorem pay (x : Vec Ideal S1024x2048 .f32) (y : Vec Ideal S1024x2048 .bf16) (z : Vec Ideal S1024x1024 .f32) (i j : Fin 1024) :
    (k0_pay1 x y z : Vec Ideal S1024x1024 .bf16) (ix2 i j)
      = (∑ k : Fin 2048, x (ix2 i k) * y (ix2 j k)) * two * max (z (ix2 i j)) 0 := by
  unfold k0_pay1
  pointwise []

/-- The block of the output's gradient, read at an index. -/
theorem left (c : Dev nD) (i : Fin 2048) (j : Fin 8192) (k : Fin 2048) :
    (iblk m c 0 (point i j) : Vec Ideal S1024x2048 .f32) (ix2 (off i) k) = lhs m c (ix2 i k) := by
  unfold iblk
  rw [View.read_apply]
  show V m c main_arg4 _ = V m c main_arg4 _
  congr 1
  funext a
  apply Fin.ext
  match a with
  | ⟨0, _⟩ =>
    show win0_0.index (point i j) 0 * 1024 + 1 * (i.val % 1024) = i.val
    rw [(idx0 (point i j)).1]
    show (i.val / 1024 * 8 + j.val / 1024) / 8 * 1024 + 1 * (i.val % 1024) = i.val
    omega
  | ⟨1, _⟩ => show win0_0.index (point i j) 1 * 2048 + 1 * k.val = k.val; rw [(idx0 (point i j)).2]; omega

/-- The block of the second weight matrix, read at an index. -/
theorem right (c : Dev nD) (i : Fin 2048) (j : Fin 8192) (k : Fin 2048) :
    (iblk m c 1 (point i j) : Vec Ideal S1024x2048 .bf16) (ix2 (off j) k) = rhs m c (ix2 j k) := by
  unfold iblk
  rw [View.read_apply]
  show V m c main_v13 _ = V m c main_v13 _
  congr 1
  funext a
  apply Fin.ext
  match a with
  | ⟨0, _⟩ =>
    show win0_1.index (point i j) 0 * 1024 + 1 * (j.val % 1024) = j.val
    rw [(idx1 (point i j)).1]
    show (i.val / 1024 * 8 + j.val / 1024) % 8 * 1024 + 1 * (j.val % 1024) = j.val
    omega
  | ⟨1, _⟩ => show win0_1.index (point i j) 1 * 2048 + 1 * k.val = k.val; rw [(idx1 (point i j)).2]; omega

/-- The block of the hidden layer, read at an index. -/
theorem block (c : Dev nD) (i : Fin 2048) (j : Fin 8192) :
    (iblk m c 2 (point i j) : Vec Ideal S1024x1024 .f32) (ix2 (off i) (off j)) = layer m c (ix2 i j) := by
  unfold iblk
  rw [View.read_apply]
  show V m c main_v12 _ = V m c main_v12 _
  congr 1
  funext a
  apply Fin.ext
  match a with
  | ⟨0, _⟩ =>
    show win0_2.index (point i j) 0 * 1024 + 1 * (i.val % 1024) = i.val
    rw [(idx2 (point i j)).1]
    show (i.val / 1024 * 8 + j.val / 1024) / 8 * 1024 + 1 * (i.val % 1024) = i.val
    omega
  | ⟨1, _⟩ =>
    show win0_2.index (point i j) 1 * 1024 + 1 * (j.val % 1024) = j.val
    rw [(idx2 (point i j)).2]
    show (i.val / 1024 * 8 + j.val / 1024) % 8 * 1024 + 1 * (j.val % 1024) = j.val
    omega

/-- The block of the result, read at an index. -/
theorem read3 (y : Buf (Elt Ideal) (((0 : Dev nD) : Thread nD τ).loc main_v14)) (i : Fin 2048) (j : Fin 8192) :
    (((cfg0.win 3).blk (point i j)).view.read (Elt Ideal) y : Vec Ideal S1024x1024 .bf16) (ix2 (off i) (off j)) = y (ix2 i j) := by
  rw [View.read_apply]
  show y _ = y _
  congr 1
  funext a
  apply Fin.ext
  match a with
  | ⟨0, _⟩ =>
    show win0_3.index (point i j) 0 * 1024 + 1 * (i.val % 1024) = i.val
    rw [(idx3 (point i j)).1]
    show (i.val / 1024 * 8 + j.val / 1024) / 8 * 1024 + 1 * (i.val % 1024) = i.val
    omega
  | ⟨1, _⟩ =>
    show win0_3.index (point i j) 1 * 1024 + 1 * (j.val % 1024) = j.val
    rw [(idx3 (point i j)).2]
    show (i.val / 1024 * 8 + j.val / 1024) % 8 * 1024 + 1 * (j.val % 1024) = j.val
    omega

/-- The result's array, read at an index. -/
theorem result (c : Dev nD) (i : Fin 2048) (j : Fin 8192) :
    out m c (ix2 i j) = (∑ k : Fin 2048, lhs m c (ix2 i k) * rhs m c (ix2 j k)) * two * max (layer m c (ix2 i j)) 0 := by
  have e := congrFun ((blocks3 m c (point i j) (flush0_3 _)).trans (flushed3 m c (point i j))) (ix2 (off i) (off j))
  refine ((read3 _ i j).symm.trans e).trans ?_
  show (out0_3 (iblk m c 0 (point i j)) (iblk m c 1 (point i j)) (iblk m c 2 (point i j)) : Vec Ideal S1024x1024 .bf16) (ix2 (off i) (off j)) = _
  unfold out0_3
  rw [View.canon_unit_zero hz2, View.ld_unit_zero hz2, View.ld_unit_zero hz2, View.ld_unit_zero hz2]
  refine (pay _ _ _ _ _).trans ?_
  rw [block]
  congr 2
  refine Finset.sum_congr rfl fun k _ => ?_
  rw [left, right]

end Cert.DownDxIdeal.Whole

namespace Cert.Proof.DownDx

open Cert.DownDxIdeal.Whole
open Cert.DownDxReferenceIdeal.Read

/-- Selecting zero where the layer is not positive is multiplying by its positive part. -/
theorem gate (s t v : EReal) : Scalar.select (Ideal.cmp .ogt v 0) (s * (t * max v 0)) 0 = s * t * max v 0 := by
  unfold Scalar.select
  by_cases h : 0 < v
  · rw [if_pos ((Ideal.cmp_ogt_eq_one _ _).2 h), mul_assoc]
  · rw [if_neg (fun e => h ((Ideal.cmp_ogt_eq_one _ _).1 e)), max_eq_right (not_lt.1 h), mul_zero]

/-- The hidden layer the host hands the call is the reference's. -/
theorem layer_eq (m : (ℓ : Loc Cert.DownDxIdeal.nD Cert.DownDxIdeal.τ Cert.DownDxIdeal.sig) → Buf (Elt Ideal) ℓ) (c : Dev Cert.DownDxIdeal.nD) :
    layer m c = val_main_v12 (F := Ideal) (m ((c.tc : Thread Cert.DownDxIdeal.nD Cert.DownDxIdeal.τ).loc Cert.DownDxIdeal.main_arg0))
      (m ((c.tc : Thread Cert.DownDxIdeal.nD Cert.DownDxIdeal.τ).loc Cert.DownDxIdeal.main_arg1))
      (m ((c.tc : Thread Cert.DownDxIdeal.nD Cert.DownDxIdeal.τ).loc Cert.DownDxIdeal.main_arg2)) := by
  unfold layer
  entry_read
  rfl

/-- The second weight matrix the host hands the call is the argument. -/
theorem rhs_eq (m : (ℓ : Loc Cert.DownDxIdeal.nD Cert.DownDxIdeal.τ Cert.DownDxIdeal.sig) → Buf (Elt Ideal) ℓ) (c : Dev Cert.DownDxIdeal.nD) (i : Fin 8192) (k : Fin 2048) :
    rhs m c (ix2 i k) = (m ((c.tc : Thread Cert.DownDxIdeal.nD Cert.DownDxIdeal.τ).loc Cert.DownDxIdeal.main_arg3)) (ix2 i k) := by
  unfold rhs
  entry_read
  rfl

/-- `Cert.quiescent_DownDxReferenceIdeal`: the reference ends, keeps its arguments and leaves no semaphore counted. -/
theorem frame_reference : Cert.quiescent_DownDxReferenceIdeal := fun m ρ _ =>
  (θ_run Cert.DownDxReferenceIdeal.defs _ _).mono
    (fun r h => ⟨fun c => (h c).2, sem_eq_zero_of_no_sems (by decide) r.2⟩)
    (Cert.DownDxReferenceIdeal.Value.run (F := Ideal) m ρ)

/-- `Cert.algebraic_DownDxIdeal_DownDxReferenceIdeal`: from memories whose arguments agree, the call's result is the
    reference's. -/
theorem algebraic : Cert.algebraic_DownDxIdeal_DownDxReferenceIdeal := by
  intro m ρ m' ρ' _ hagree
  refine ⟨fun c => (Cert.DownDxIdeal.Gen.dats m 0 c).arrAt 3 Cert.DownDxIdeal.cfg0.N,
    Cert.DownDxIdeal.Value.run_blocks m ρ, ?_⟩
  refine (θ_run Cert.DownDxReferenceIdeal.defs _ _).mono (fun r h c => ?_) (Cert.DownDxReferenceIdeal.Value.run (F := Ideal) m' ρ')
  obtain ⟨e0, e1, e2, e3, e4⟩ := hagree c
  obtain ⟨h0, hk⟩ := h c
  refine ⟨(h0.trans (Cert.DownDxReferenceIdeal.Read.val_main_v25_eq _ _ _ _ _)).trans ?_, hk⟩
  rw [e0, e1, e2, e3, e4]
  refine funext fun idx => ?_
  obtain ⟨i, j, rfl⟩ : ∃ (i : Fin 2048) (j : Fin 8192), idx = ix2 i j := ⟨idx 0, idx 1, eq_ix2 idx⟩
  refine Eq.trans ?_ (result m c i j).symm
  rw [layer_eq]
  unfold lhs
  rw [Cert.DownDxIdeal.Gen.V_main_arg4]
  simp only [rhs_eq]
  show val_main_v24 (F := Ideal) _ _ _ _ _ (ix2 i j) = _
  rw [val_main_v24_apply, val_main_v15_apply, val_main_v22_apply, val_main_v23_apply, val_main_v21_apply, val_main_v19_apply,
    val_main_v18_apply, val_main_v14_apply, val_main_v13_apply, val_main_call0_v0_apply]
  generalize val_main_v12 (F := Ideal) _ _ _ (ix2 i j) = v
  have el : ∀ k, lidx_main_v21 (ix2 i j) k = ix2 i k := fun k => by
    funext a; apply Fin.ext; match a with | ⟨0, _⟩ => rfl | ⟨1, _⟩ => rfl
  have er : ∀ k, ridx_main_v21 (ix2 i j) k = ix2 j k := fun k => by
    funext a; apply Fin.ext; match a with | ⟨0, _⟩ => rfl | ⟨1, _⟩ => rfl
  simp only [el, er]
  refine Eq.trans ?_ (gate _ _ v)
  unfold val_main_cst_2 val_main_cst_4 val_main_cst_5 val_main_call0_cst
  pointwise []

end Cert.Proof.DownDx

end
-- ==== Proof.UpDw.lean ====
/-
  The gradient of the MLP's first weight matrix: every point of the grid writes one 1024 by 1024 block of the product of the
  normed tokens, transposed, with the gradient of the hidden layer, so the call's result is that product, as the reference's is.
-/
module

public import proofs.«01_k».proof.Defs
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwReferenceIdeal
public import proofs.«01_k».proof.Proof.Gen.UpDwReferenceIdeal.Run
public import proofs.«01_k».proof.Proof.Gen.UpDwReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.UpDwIdeal.Whole

open Cert.UpDwIdeal Cert.UpDwIdeal.Gen Cert.UpDwIdeal.Value

variable (m : (ℓ : Loc nD τ sig) → Buf (Elt Ideal) ℓ)

theorem idx0 : ∀ t : Fin cfg0.N, win0_0.index t 0 = 0 ∧ win0_0.index t 1 = t.val / 8 :=
  (by decide +kernel : ∀ t : Fin grid0.N, win0_0.index t 0 = 0 ∧ win0_0.index t 1 = t.val / 8)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- The left operand at the region's entry: the normed tokens. -/
def lhs (c : Dev nD) : Vec Ideal S2048x2048 .bf16 := V m c main_v25

/-- The right operand at the region's entry: the gradient of the hidden layer. -/
def rhs (c : Dev nD) : Vec Ideal S2048x8192 .bf16 := V m c main_v26

/-- The result's array after the run. -/
def out (c : Dev nD) : Vec Ideal S2048x8192 .bf16 := (dats m 0 c).arrAt 2 cfg0.N

/-- The grid point whose block holds row `i` and column `j` of the result. -/
def point (i : Fin 2048) (j : Fin 8192) : Fin cfg0.N :=
  ⟨i.val / 1024 * 8 + j.val / 1024, lt_of_lt_of_eq (by omega : _ < 16) N_0.symm⟩

/-- A row or column, inside its block. -/
def off {n : ℕ} (i : Fin n) : Fin 1024 := ⟨i.val % 1024, Nat.mod_lt _ (by decide)⟩

/-- Zero offsets, however spelt. -/
theorem hz2 : (![0, 0] : Fin 2 → ℕ) = fun _ => 0 := by decide

/-- What the body stores, read at an index. -/
theorem pay (x : Vec Ideal S2048x1024 .bf16) (y : Vec Ideal S2048x1024 .bf16) (i j : Fin 1024) :
    (k0_pay1 x y : Vec Ideal S1024x1024 .bf16) (ix2 i j) = ∑ k : Fin 2048, x (ix2 k i) * y (ix2 k j) := by
  unfold k0_pay1
  pointwise []

/-- The block of the normed tokens, read at an index. -/
theorem left (c : Dev nD) (i : Fin 2048) (j : Fin 8192) (k : Fin 2048) :
    (iblk m c 0 (point i j) : Vec Ideal S2048x1024 .bf16) (ix2 k (off i)) = lhs m c (ix2 k i) := by
  unfold iblk
  rw [View.read_apply]
  show V m c main_v25 _ = V m c main_v25 _
  congr 1
  funext a
  apply Fin.ext
  match a with
  | ⟨0, _⟩ => show win0_0.index (point i j) 0 * 2048 + 1 * k.val = k.val; rw [(idx0 (point i j)).1]; omega
  | ⟨1, _⟩ =>
    show win0_0.index (point i j) 1 * 1024 + 1 * (i.val % 1024) = i.val
    rw [(idx0 (point i j)).2]
    show (i.val / 1024 * 8 + j.val / 1024) / 8 * 1024 + 1 * (i.val % 1024) = i.val
    omega

/-- The block of the hidden layer's gradient, read at an index. -/
theorem right (c : Dev nD) (i : Fin 2048) (j : Fin 8192) (k : Fin 2048) :
    (iblk m c 1 (point i j) : Vec Ideal S2048x1024 .bf16) (ix2 k (off j)) = rhs m c (ix2 k j) := by
  unfold iblk
  rw [View.read_apply]
  show V m c main_v26 _ = V m c main_v26 _
  congr 1
  funext a
  apply Fin.ext
  match a with
  | ⟨0, _⟩ => show win0_1.index (point i j) 0 * 2048 + 1 * k.val = k.val; rw [(idx1 (point i j)).1]; omega
  | ⟨1, _⟩ =>
    show win0_1.index (point i j) 1 * 1024 + 1 * (j.val % 1024) = j.val
    rw [(idx1 (point i j)).2]
    show (i.val / 1024 * 8 + j.val / 1024) % 8 * 1024 + 1 * (j.val % 1024) = j.val
    omega

/-- The block of the result, read at an index. -/
theorem read2 (y : Buf (Elt Ideal) (((0 : Dev nD) : Thread nD τ).loc main_v27)) (i : Fin 2048) (j : Fin 8192) :
    (((cfg0.win 2).blk (point i j)).view.read (Elt Ideal) y : Vec Ideal S1024x1024 .bf16) (ix2 (off i) (off j)) = y (ix2 i j) := by
  rw [View.read_apply]
  show y _ = y _
  congr 1
  funext a
  apply Fin.ext
  match a with
  | ⟨0, _⟩ =>
    show win0_2.index (point i j) 0 * 1024 + 1 * (i.val % 1024) = i.val
    rw [(idx2 (point i j)).1]
    show (i.val / 1024 * 8 + j.val / 1024) / 8 * 1024 + 1 * (i.val % 1024) = i.val
    omega
  | ⟨1, _⟩ =>
    show win0_2.index (point i j) 1 * 1024 + 1 * (j.val % 1024) = j.val
    rw [(idx2 (point i j)).2]
    show (i.val / 1024 * 8 + j.val / 1024) % 8 * 1024 + 1 * (j.val % 1024) = j.val
    omega

/-- The result's array, read at an index: the product over the region's operands. -/
theorem result (c : Dev nD) (i : Fin 2048) (j : Fin 8192) :
    out m c (ix2 i j) = ∑ k : Fin 2048, lhs m c (ix2 k i) * rhs m c (ix2 k j) := by
  have e := congrFun ((blocks2 m c (point i j) (flush0_2 _)).trans (flushed2 m c (point i j))) (ix2 (off i) (off j))
  refine ((read2 _ i j).symm.trans e).trans ?_
  show (out0_2 (iblk m c 0 (point i j)) (iblk m c 1 (point i j)) : Vec Ideal S1024x1024 .bf16) (ix2 (off i) (off j)) = _
  unfold out0_2
  rw [View.canon_unit_zero hz2, View.ld_unit_zero hz2, View.ld_unit_zero hz2]
  refine (pay _ _ _ _).trans (Finset.sum_congr rfl fun k _ => ?_)
  rw [left, right]

end Cert.UpDwIdeal.Whole

namespace Cert.Proof.UpDw

open Cert.UpDwIdeal.Whole
open Cert.UpDwReferenceIdeal.Read (val_main_v11 val_main_v25 val_main_v26 val_main_v27 val_main_v28)

/-- The normed tokens the host hands the call are the reference's. -/
theorem lhs_eq (m : (ℓ : Loc Cert.UpDwIdeal.nD Cert.UpDwIdeal.τ Cert.UpDwIdeal.sig) → Buf (Elt Ideal) ℓ) (c : Dev Cert.UpDwIdeal.nD) :
    lhs m c = truncf (F := Ideal) .bf16 (val_main_v11 (F := Ideal) (m ((c.tc : Thread Cert.UpDwIdeal.nD Cert.UpDwIdeal.τ).loc Cert.UpDwIdeal.main_arg0))
      (m ((c.tc : Thread Cert.UpDwIdeal.nD Cert.UpDwIdeal.τ).loc Cert.UpDwIdeal.main_arg1))) Cert.UpDwReferenceIdeal.Gen.bitsLt_bf16_f32 := by
  unfold lhs
  entry_read
  rfl

/-- The gradient of the hidden layer the host hands the call is the reference's. -/
theorem rhs_eq (m : (ℓ : Loc Cert.UpDwIdeal.nD Cert.UpDwIdeal.τ Cert.UpDwIdeal.sig) → Buf (Elt Ideal) ℓ) (c : Dev Cert.UpDwIdeal.nD) :
    rhs m c = truncf (F := Ideal) .bf16 (val_main_v25 (F := Ideal) (m ((c.tc : Thread Cert.UpDwIdeal.nD Cert.UpDwIdeal.τ).loc Cert.UpDwIdeal.main_arg0))
      (m ((c.tc : Thread Cert.UpDwIdeal.nD Cert.UpDwIdeal.τ).loc Cert.UpDwIdeal.main_arg1))
      (m ((c.tc : Thread Cert.UpDwIdeal.nD Cert.UpDwIdeal.τ).loc Cert.UpDwIdeal.main_arg2))
      (m ((c.tc : Thread Cert.UpDwIdeal.nD Cert.UpDwIdeal.τ).loc Cert.UpDwIdeal.main_arg3))
      (m ((c.tc : Thread Cert.UpDwIdeal.nD Cert.UpDwIdeal.τ).loc Cert.UpDwIdeal.main_arg4))) Cert.UpDwReferenceIdeal.Gen.bitsLt_bf16_f32 := by
  unfold rhs
  entry_read
  rfl

/-- `Cert.quiescent_UpDwReferenceIdeal`: the reference ends, keeps its arguments and leaves no semaphore counted. -/
theorem frame_reference : Cert.quiescent_UpDwReferenceIdeal := fun m ρ _ =>
  (θ_run Cert.UpDwReferenceIdeal.defs _ _).mono
    (fun r h => ⟨fun c => (h c).2, sem_eq_zero_of_no_sems (by decide) r.2⟩)
    (Cert.UpDwReferenceIdeal.Value.run (F := Ideal) m ρ)

/-- `Cert.algebraic_UpDwIdeal_UpDwReferenceIdeal`: from memories whose arguments agree, the call's result is the
    reference's. -/
theorem algebraic : Cert.algebraic_UpDwIdeal_UpDwReferenceIdeal := by
  intro m ρ m' ρ' _ hagree
  refine ⟨fun c => (Cert.UpDwIdeal.Gen.dats m 0 c).arrAt 2 Cert.UpDwIdeal.cfg0.N,
    Cert.UpDwIdeal.Value.run_blocks m ρ, ?_⟩
  refine (θ_run Cert.UpDwReferenceIdeal.defs _ _).mono (fun r h c => ?_) (Cert.UpDwReferenceIdeal.Value.run (F := Ideal) m' ρ')
  obtain ⟨e0, e1, e2, e3, e4⟩ := hagree c
  obtain ⟨h0, hk⟩ := h c
  refine ⟨(h0.trans (Cert.UpDwReferenceIdeal.Read.val_main_v28_eq _ _ _ _ _)).trans ?_, hk⟩
  rw [e0, e1, e2, e3, e4]
  refine funext fun idx => ?_
  obtain ⟨i, j, rfl⟩ : ∃ (i : Fin 2048) (j : Fin 8192), idx = ix2 i j := ⟨idx 0, idx 1, eq_ix2 idx⟩
  refine Eq.trans ?_ (result m c i j).symm
  rw [lhs_eq, rhs_eq]
  show val_main_v27 (F := Ideal) _ _ _ _ _ (ix2 i j) = _
  rw [Cert.UpDwReferenceIdeal.Read.val_main_v27_apply, Cert.UpDwReferenceIdeal.Read.val_main_v26_apply]
  refine Finset.sum_congr rfl fun k _ => ?_
  have el : Cert.UpDwReferenceIdeal.Read.lidx_main_v26 (Cert.UpDwReferenceIdeal.Read.idx_main_v27 (ix2 i j)) k = ix2 k j := by
    funext a; apply Fin.ext; match a with | ⟨0, _⟩ => rfl | ⟨1, _⟩ => rfl
  have er : Cert.UpDwReferenceIdeal.Read.ridx_main_v26 (Cert.UpDwReferenceIdeal.Read.idx_main_v27 (ix2 i j)) k = ix2 k i := by
    funext a; apply Fin.ext; match a with | ⟨0, _⟩ => rfl | ⟨1, _⟩ => rfl
  rw [el, er]
  exact mul_comm _ _

end Cert.Proof.UpDw

end
-- ==== Proof.DownDw.lean ====
/-
  The gradient of the MLP's second weight matrix: every point of the grid writes one 1024 by 1024 block of the product of the
  hidden activations, transposed, with the output's gradient, so the call's result is that product, as the reference's is.
-/
module

public import proofs.«01_k».proof.Defs
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal
public import proofs.«01_k».proof.Proof.Gen.DownDwReferenceIdeal.Run
public import proofs.«01_k».proof.Proof.Gen.DownDwReferenceIdeal.Read
public import Idealize.ShloMosaic.Lib.Pointwise
public import Idealize.ShloMosaic.Init

@[expose] public section

set_option maxRecDepth 16384

noncomputable section

open Idealize.ShloMosaic Idealize.ShloMosaic.TcCoe Idealize.SL.Sem
open Idealize.ShloMosaic.Pipeline (Dat)

namespace Cert.DownDwIdeal.Whole

open Cert.DownDwIdeal Cert.DownDwIdeal.Gen Cert.DownDwIdeal.Value

variable (m : (ℓ : Loc nD τ sig) → Buf (Elt Ideal) ℓ)

theorem idx0 : ∀ t : Fin cfg0.N, win0_0.index t 0 = 0 ∧ win0_0.index t 1 = t.val / 2 :=
  (by decide +kernel : ∀ t : Fin grid0.N, win0_0.index t 0 = 0 ∧ win0_0.index t 1 = t.val / 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The left operand at the region's entry: the hidden activations. -/
def lhs (c : Dev nD) : Vec Ideal S2048x8192 .bf16 := V m c main_v15

/-- The right operand at the region's entry: the output's gradient. -/
def rhs (c : Dev nD) : Vec Ideal S2048x2048 .f32 := V m c main_arg4

/-- The result's array after the run. -/
def out (c : Dev nD) : Vec Ideal S8192x2048 .bf16 := (dats m 0 c).arrAt 2 cfg0.N

/-- The grid point whose block holds row `i` and column `j` of the result. -/
def point (i : Fin 8192) (j : Fin 2048) : Fin cfg0.N :=
  ⟨i.val / 1024 * 2 + j.val / 1024, lt_of_lt_of_eq (by omega : _ < 16) N_0.symm⟩

/-- A row or column, inside its block. -/
def off {n : ℕ} (i : Fin n) : Fin 1024 := ⟨i.val % 1024, Nat.mod_lt _ (by decide)⟩

/-- Zero offsets, however spelt. -/
theorem hz2 : (![0, 0] : Fin 2 → ℕ) = fun _ => 0 := by decide

/-- What the body stores, read at an index. -/
theorem pay (x : Vec Ideal S2048x1024 .bf16) (y : Vec Ideal S2048x1024 .f32) (i j : Fin 1024) :
    (k0_pay1 x y : Vec Ideal S1024x1024 .bf16) (ix2 i j) = ∑ k : Fin 2048, x (ix2 k i) * y (ix2 k j) := by
  unfold k0_pay1
  pointwise []

/-- The block of the hidden activations, read at an index. -/
theorem left (c : Dev nD) (i : Fin 8192) (j : Fin 2048) (k : Fin 2048) :
    (iblk m c 0 (point i j) : Vec Ideal S2048x1024 .bf16) (ix2 k (off i)) = lhs m c (ix2 k i) := by
  unfold iblk
  rw [View.read_apply]
  show V m c main_v15 _ = V m c main_v15 _
  congr 1
  funext a
  apply Fin.ext
  match a with
  | ⟨0, _⟩ => show win0_0.index (point i j) 0 * 2048 + 1 * k.val = k.val; rw [(idx0 (point i j)).1]; omega
  | ⟨1, _⟩ =>
    show win0_0.index (point i j) 1 * 1024 + 1 * (i.val % 1024) = i.val
    rw [(idx0 (point i j)).2]
    show (i.val / 1024 * 2 + j.val / 1024) / 2 * 1024 + 1 * (i.val % 1024) = i.val
    omega

/-- The block of the output's gradient, read at an index. -/
theorem right (c : Dev nD) (i : Fin 8192) (j : Fin 2048) (k : Fin 2048) :
    (iblk m c 1 (point i j) : Vec Ideal S2048x1024 .f32) (ix2 k (off j)) = rhs m c (ix2 k j) := by
  unfold iblk
  rw [View.read_apply]
  show V m c main_arg4 _ = V m c main_arg4 _
  congr 1
  funext a
  apply Fin.ext
  match a with
  | ⟨0, _⟩ => show win0_1.index (point i j) 0 * 2048 + 1 * k.val = k.val; rw [(idx1 (point i j)).1]; omega
  | ⟨1, _⟩ =>
    show win0_1.index (point i j) 1 * 1024 + 1 * (j.val % 1024) = j.val
    rw [(idx1 (point i j)).2]
    show (i.val / 1024 * 2 + j.val / 1024) % 2 * 1024 + 1 * (j.val % 1024) = j.val
    omega

/-- The block of the result, read at an index. -/
theorem read2 (y : Buf (Elt Ideal) (((0 : Dev nD) : Thread nD τ).loc main_v16)) (i : Fin 8192) (j : Fin 2048) :
    (((cfg0.win 2).blk (point i j)).view.read (Elt Ideal) y : Vec Ideal S1024x1024 .bf16) (ix2 (off i) (off j)) = y (ix2 i j) := by
  rw [View.read_apply]
  show y _ = y _
  congr 1
  funext a
  apply Fin.ext
  match a with
  | ⟨0, _⟩ =>
    show win0_2.index (point i j) 0 * 1024 + 1 * (i.val % 1024) = i.val
    rw [(idx2 (point i j)).1]
    show (i.val / 1024 * 2 + j.val / 1024) / 2 * 1024 + 1 * (i.val % 1024) = i.val
    omega
  | ⟨1, _⟩ =>
    show win0_2.index (point i j) 1 * 1024 + 1 * (j.val % 1024) = j.val
    rw [(idx2 (point i j)).2]
    show (i.val / 1024 * 2 + j.val / 1024) % 2 * 1024 + 1 * (j.val % 1024) = j.val
    omega

/-- The result's array, read at an index: the product over the region's operands. -/
theorem result (c : Dev nD) (i : Fin 8192) (j : Fin 2048) :
    out m c (ix2 i j) = ∑ k : Fin 2048, lhs m c (ix2 k i) * rhs m c (ix2 k j) := by
  have e := congrFun ((blocks2 m c (point i j) (flush0_2 _)).trans (flushed2 m c (point i j))) (ix2 (off i) (off j))
  refine ((read2 _ i j).symm.trans e).trans ?_
  show (out0_2 (iblk m c 0 (point i j)) (iblk m c 1 (point i j)) : Vec Ideal S1024x1024 .bf16) (ix2 (off i) (off j)) = _
  unfold out0_2
  rw [View.canon_unit_zero hz2, View.ld_unit_zero hz2, View.ld_unit_zero hz2]
  refine (pay _ _ _ _).trans (Finset.sum_congr rfl fun k _ => ?_)
  rw [left, right]

end Cert.DownDwIdeal.Whole

namespace Cert.Proof.DownDw

open Cert.DownDwIdeal.Whole
open Cert.DownDwReferenceIdeal.Read (val_main_v14 val_main_v17 val_main_v18 val_main_v19)

/-- The hidden activations the host hands the call are the reference's. -/
theorem lhs_eq (m : (ℓ : Loc Cert.DownDwIdeal.nD Cert.DownDwIdeal.τ Cert.DownDwIdeal.sig) → Buf (Elt Ideal) ℓ) (c : Dev Cert.DownDwIdeal.nD) :
    lhs m c = truncf (F := Ideal) .bf16 (val_main_v14 (F := Ideal) (m ((c.tc : Thread Cert.DownDwIdeal.nD Cert.DownDwIdeal.τ).loc Cert.DownDwIdeal.main_arg0))
      (m ((c.tc : Thread Cert.DownDwIdeal.nD Cert.DownDwIdeal.τ).loc Cert.DownDwIdeal.main_arg1))
      (m ((c.tc : Thread Cert.DownDwIdeal.nD Cert.DownDwIdeal.τ).loc Cert.DownDwIdeal.main_arg2))) Cert.DownDwReferenceIdeal.Gen.bitsLt_bf16_f32 := by
  unfold lhs
  entry_read
  rfl

/-- `Cert.quiescent_DownDwReferenceIdeal`: the reference ends, keeps its arguments and leaves no semaphore counted. -/
theorem frame_reference : Cert.quiescent_DownDwReferenceIdeal := fun m ρ _ =>
  (θ_run Cert.DownDwReferenceIdeal.defs _ _).mono
    (fun r h => ⟨fun c => (h c).2, sem_eq_zero_of_no_sems (by decide) r.2⟩)
    (Cert.DownDwReferenceIdeal.Value.run (F := Ideal) m ρ)

/-- `Cert.algebraic_DownDwIdeal_DownDwReferenceIdeal`: from memories whose arguments agree, the call's result is the
    reference's. -/
theorem algebraic : Cert.algebraic_DownDwIdeal_DownDwReferenceIdeal := by
  intro m ρ m' ρ' _ hagree
  refine ⟨fun c => (Cert.DownDwIdeal.Gen.dats m 0 c).arrAt 2 Cert.DownDwIdeal.cfg0.N,
    Cert.DownDwIdeal.Value.run_blocks m ρ, ?_⟩
  refine (θ_run Cert.DownDwReferenceIdeal.defs _ _).mono (fun r h c => ?_) (Cert.DownDwReferenceIdeal.Value.run (F := Ideal) m' ρ')
  obtain ⟨e0, e1, e2, e3, e4⟩ := hagree c
  obtain ⟨h0, hk⟩ := h c
  refine ⟨(h0.trans (Cert.DownDwReferenceIdeal.Read.val_main_v19_eq _ _ _ _)).trans ?_, hk⟩
  rw [e0, e1, e2, e4]
  refine funext fun idx => ?_
  obtain ⟨i, j, rfl⟩ : ∃ (i : Fin 8192) (j : Fin 2048), idx = ix2 i j := ⟨idx 0, idx 1, eq_ix2 idx⟩
  refine Eq.trans ?_ (result m c i j).symm
  rw [lhs_eq]
  unfold rhs
  rw [Cert.DownDwIdeal.Gen.V_main_arg4]
  show val_main_v18 (F := Ideal) _ _ _ _ (ix2 i j) = _
  rw [Cert.DownDwReferenceIdeal.Read.val_main_v18_apply, Cert.DownDwReferenceIdeal.Read.val_main_v17_apply]
  refine Finset.sum_congr rfl fun k _ => ?_
  have el : Cert.DownDwReferenceIdeal.Read.lidx_main_v17 (Cert.DownDwReferenceIdeal.Read.idx_main_v18 (ix2 i j)) k = ix2 k j := by
    funext a; apply Fin.ext; match a with | ⟨0, _⟩ => rfl | ⟨1, _⟩ => rfl
  have er : Cert.DownDwReferenceIdeal.Read.ridx_main_v17 (Cert.DownDwReferenceIdeal.Read.idx_main_v18 (ix2 i j)) k = ix2 k i := by
    funext a; apply Fin.ext; match a with | ⟨0, _⟩ => rfl | ⟨1, _⟩ => rfl
  rw [el, er]
  exact mul_comm _ _

end Cert.Proof.DownDw

end
-- ==== Proof.KRead.lean ====
/-
  The kernel's chunk, value by value: what the body computes from the blocks it reads, each value the payload of the values
  before it, and what the six output blocks and the carried gradient of the state hold after a point of the grid.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Chunk

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (F) in
/-- The blocks one point of the grid reads: `q`, `k`, `v`, the log gates, the write strengths and the running sums of its
    chunk, the state before the chunk and the inverse of the chunk's system, the output's gradient; and the gradient of the
    state after the chunk, which the point before left. -/
structure Blk where
  (x0 x1 x2 x3 x4 x5 : FVec F S128x1024 .f32)
  (x6 x7 : FVec F S8x1x128x128 .f32)
  (x8 : FVec F S128x1024 .f32)
  (ds : FVec F S8x128x128 .f32)

namespace Blk

variable (b : Blk F)

/-- The state before the chunk. -/
def st : FVec F S8x128x128 .f32 := k0_pay3 b.x6
/-- The keys. -/
def k : FVec F S8x128x128 .f32 := k0_pay7 b.x1
/-- The running sums. -/
def gc : FVec F S8x128x128 .f32 := k0_pay11 b.x5
/-- Head by head, a running sum minus its transpose. -/
def cd0 : FVec F S128x128 .f32 := k0_pay12 b.x5
def cd1 : FVec F S128x128 .f32 := k0_pay13 b.x5
def cd2 : FVec F S128x128 .f32 := k0_pay14 b.x5
def cd3 : FVec F S128x128 .f32 := k0_pay15 b.x5
def cd4 : FVec F S128x128 .f32 := k0_pay16 b.x5
def cd5 : FVec F S128x128 .f32 := k0_pay17 b.x5
def c6 : FVec F S128x128 .f32 := k0_pay18 b.x5
def c6t : FVec F S128x128 .f32 := k0_pay19 b.x5
/-- The decay between tokens. -/
def decay : FVec F S8x128x128 .f32 := k0_pay21 b.gc b.cd0 b.cd1 b.cd2 b.cd3 b.cd4 b.cd5 b.c6 b.c6t
/-- The inverse of the chunk's system. -/
def inv : FVec F S8x128x128 .f32 := k0_pay4 b.x7
/-- The values. -/
def v : FVec F S8x128x128 .f32 := k0_pay8 b.x2
/-- The write strengths. -/
def beta : FVec F S8x128x128 .f32 := k0_pay10 b.x4
/-- The values written. -/
def vn : FVec F S8x128x128 .f32 := k0_pay31 b.st b.inv b.k b.v b.beta b.gc
/-- The decay from the start of the chunk. -/
def egc2 : FVec F S8x128x128 .f32 := k0_pay32 b.gc
/-- The output's gradient. -/
def dy : FVec F S8x128x128 .f32 := k0_pay38 b.x8
/-- The gradient of `q`. -/
def dq : FVec F S8x128x128 .f32 := k0_pay57 b.st b.k b.decay b.vn b.egc2 b.dy
/-- The scaled keys. -/
def kb : FVec F S8x128x128 .f32 := k0_pay22 b.k b.beta
def egc : FVec F S8x128x128 .f32 := k0_pay25 b.gc
/-- The queries. -/
def q : FVec F S8x128x128 .f32 := k0_pay6 b.x0
/-- The log gates. -/
def g : FVec F S8x128x128 .f32 := k0_pay9 b.x3
/-- The sums of the log gates over the chunk. -/
def gsum : FVec F S8x128 .f32 := k0_pay34 b.g
def vdw : FVec F S8x128x128 .f32 := k0_pay43 b.gc b.vn b.gsum b.ds
def dk1 : FVec F S8x128x128 .f32 := k0_pay58 b.q b.decay b.vn b.dy b.vdw
def rhs : FVec F S8x128x256 .f32 := k0_pay26 b.k b.v b.beta b.gc
/-- The attention. -/
def attn : FVec F S8x128x128 .f32 := k0_pay30 b.q b.k b.gc b.cd0 b.cd1 b.cd2 b.cd3 b.cd4 b.cd5 b.c6 b.c6t
def kxd : FVec F S8x128x128 .f32 := k0_pay42 b.k b.gc b.gsum b.ds
/-- The gradient of the system's inverse. -/
def dinv : FVec F S8x128x128 .f32 := k0_pay60 b.st b.rhs b.attn b.dy b.kxd
def invb : FVec F S8x128x128 .bf16 := k0_pay61 b.inv
def dsolb : FVec F S8x128x256 .bf16 := k0_pay62 b.st b.attn b.dy b.kxd
/-- The gradient of `k`. -/
def dk : FVec F S8x128x128 .f32 := k0_pay72 b.inv b.k b.beta b.decay b.kb k0_pay24 b.egc b.dk1 b.dinv b.invb b.dsolb
/-- The gradient of `v`. -/
def dv : FVec F S8x128x128 .f32 := k0_pay67 b.beta b.invb b.dsolb
def dgrow : FVec F S8x1x128 .f32 := k0_pay47 b.st b.k b.gc b.vn b.gsum b.ds
/-- The gradient of the log gates. -/
def dg : FVec F S8x128x128 .f32 := k0_pay48 b.dgrow
/-- The gradient of the write strengths. -/
def dbeta : FVec F S8x128x128 .f32 := k0_pay71 b.inv b.k b.v b.decay k0_pay24 b.egc b.dinv b.invb b.dsolb
def kk : FVec F S8x128x128 .f32 := k0_pay23 b.k b.beta
def qk : FVec F S8x128x128 .f32 := k0_pay29 b.q b.k
def dqk : FVec F S8x128x128 .f32 := k0_pay55 b.qk b.vn b.dy
/-- Head by head, the gradient of those differences. -/
def dd0 : FVec F S128x128 .f32 := k0_pay74 b.inv k0_pay20 b.decay b.kk k0_pay24 b.dqk b.dinv
def dd1 : FVec F S128x128 .f32 := k0_pay75 b.inv k0_pay20 b.decay b.kk k0_pay24 b.dqk b.dinv
def dd2 : FVec F S128x128 .f32 := k0_pay76 b.inv k0_pay20 b.decay b.kk k0_pay24 b.dqk b.dinv
def dd3 : FVec F S128x128 .f32 := k0_pay77 b.inv k0_pay20 b.decay b.kk k0_pay24 b.dqk b.dinv
def dd4 : FVec F S128x128 .f32 := k0_pay78 b.inv k0_pay20 b.decay b.kk k0_pay24 b.dqk b.dinv
def nkd : FVec F S8x128x128 .f32 := k0_pay45 b.k b.gc b.vn b.gsum b.ds
def dc1 : FVec F S8x128x128 .f32 := k0_pay52 b.st b.q b.egc2 b.dy b.nkd
def dc2 : FVec F S8x128x128 .f32 := k0_pay66 b.kb b.egc b.dc1 b.invb b.dsolb
def dd5 : FVec F S128x128 .f32 := k0_pay79 b.inv k0_pay20 b.decay b.kk k0_pay24 b.dqk b.dinv
def dd6 : FVec F S128x128 .f32 := k0_pay80 b.inv k0_pay20 b.decay b.kk k0_pay24 b.dqk b.dinv
def dd7 : FVec F S1x128x128 .f32 := k0_pay81 b.inv k0_pay20 b.decay b.kk k0_pay24 b.dqk b.dinv
def dc3 : FVec F S8x128x128 .f32 := k0_pay82 b.dc2 b.dd5 b.dd6 b.dd7
def pad4 : FVec F S5x128x128 .f32 := k0_pay83 b.dd4
def dc4 : FVec F S8x128x128 .f32 := k0_pay85 b.dd1 b.dd2 b.dd3 b.dd4 b.dc3 b.pad4 k0_pay84
def pad1 : FVec F S2x128x128 .f32 := k0_pay86 b.dd1
/-- The gradient of the running sums. -/
def dc : FVec F S8x128x128 .f32 := k0_pay87 b.dd0 b.dc4 (Scalar.ofBits .f32 0x00000000#32) b.pad1
def w : FVec F S8x128x128 .f32 := k0_pay28 b.inv b.k b.v b.beta b.gc
def qg : FVec F S8x128x128 .f32 := k0_pay33 b.q b.gc
def dsg : FVec F S8x128x128 .f32 := k0_pay46 b.gsum b.ds
/-- The gradient of the state before the chunk. -/
def dst : FVec F S8x128x128 .f32 := k0_pay54 b.w b.attn b.qg b.dy b.kxd b.dsg

/-- The block of the gradient of `q`. -/
def oq : FVec F S128x1024 .f32 := k0_pay89 b.dq
/-- The block of the gradient of `k`. -/
def ok : FVec F S128x1024 .f32 := k0_pay98 (k0_pay90 b.dk) (k0_pay91 b.dk) (k0_pay92 b.dk) (k0_pay93 b.dk) (k0_pay94 b.dk) (k0_pay95 b.dk) (k0_pay96 b.dk) (k0_pay97 b.dk)
/-- The block of the gradient of `v`. -/
def ov : FVec F S128x1024 .f32 := k0_pay99 b.dv
/-- The block of the gradient of the log gates. -/
def og : FVec F S128x1024 .f32 := k0_pay100 b.dg
/-- The block of the gradient of the write strengths. -/
def ob : FVec F S128x1024 .f32 := k0_pay1 b.dbeta (k0_pay101 b.dbeta) (k0_pay102 b.dbeta) (k0_pay103 b.dbeta) (k0_pay104 b.dbeta) (k0_pay105 b.dbeta) (k0_pay106 b.dbeta)
/-- The block of the gradient of the running sums. -/
def oc : FVec F S128x1024 .f32 := k0_pay2 b.dc
/-- The block of the gradient of the state before the chunk. -/
def os : FVec F S8x128x128 .f32 := k0_pay88 b.dst

end Blk

/-- What a later point leaves in the block of the gradient of `q`. -/
theorem out0_B_9_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : ¬cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) (xs : Vec F S8x128x128 .f32) :
    out0_B_9 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs = (⟨x0, x1, x2, x3, x4, x5, x6, x7, x8, xs⟩ : Blk F).oq := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.oq, Blk.st, Blk.k, Blk.gc, Blk.cd0, Blk.cd1, Blk.cd2, Blk.cd3, Blk.cd4, Blk.cd5, Blk.c6, Blk.c6t, Blk.decay, Blk.inv, Blk.v, Blk.beta, Blk.vn, Blk.egc2, Blk.dy, Blk.dq]

/-- What a later point leaves in the block of the gradient of `k`. -/
theorem out0_B_10_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : ¬cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) (xs : Vec F S8x128x128 .f32) :
    out0_B_10 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs = (⟨x0, x1, x2, x3, x4, x5, x6, x7, x8, xs⟩ : Blk F).ok := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.ok, Blk.inv, Blk.k, Blk.beta, Blk.gc, Blk.cd0, Blk.cd1, Blk.cd2, Blk.cd3, Blk.cd4, Blk.cd5, Blk.c6, Blk.c6t, Blk.decay, Blk.kb, Blk.egc, Blk.q, Blk.st, Blk.v, Blk.vn, Blk.dy, Blk.g, Blk.gsum, Blk.vdw, Blk.dk1, Blk.rhs, Blk.attn, Blk.kxd, Blk.dinv, Blk.invb, Blk.dsolb, Blk.dk]

/-- What a later point leaves in the block of the gradient of `v`. -/
theorem out0_B_11_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : ¬cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) (xs : Vec F S8x128x128 .f32) :
    out0_B_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs = (⟨x0, x1, x2, x3, x4, x5, x6, x7, x8, xs⟩ : Blk F).ov := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.ov, Blk.beta, Blk.inv, Blk.invb, Blk.st, Blk.q, Blk.k, Blk.gc, Blk.cd0, Blk.cd1, Blk.cd2, Blk.cd3, Blk.cd4, Blk.cd5, Blk.c6, Blk.c6t, Blk.attn, Blk.dy, Blk.g, Blk.gsum, Blk.kxd, Blk.dsolb, Blk.dv]

/-- What a later point leaves in the block of the gradient of the log gates. -/
theorem out0_B_12_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : ¬cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) (xs : Vec F S8x128x128 .f32) :
    out0_B_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs = (⟨x0, x1, x2, x3, x4, x5, x6, x7, x8, xs⟩ : Blk F).og := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.og, Blk.st, Blk.k, Blk.gc, Blk.inv, Blk.v, Blk.beta, Blk.vn, Blk.g, Blk.gsum, Blk.dgrow, Blk.dg]

/-- What a later point leaves in the block of the gradient of the write strengths. -/
theorem out0_B_13_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : ¬cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) (xs : Vec F S8x128x128 .f32) :
    out0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs = (⟨x0, x1, x2, x3, x4, x5, x6, x7, x8, xs⟩ : Blk F).ob := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.ob, Blk.inv, Blk.k, Blk.v, Blk.gc, Blk.cd0, Blk.cd1, Blk.cd2, Blk.cd3, Blk.cd4, Blk.cd5, Blk.c6, Blk.c6t, Blk.decay, Blk.egc, Blk.st, Blk.beta, Blk.rhs, Blk.q, Blk.attn, Blk.dy, Blk.g, Blk.gsum, Blk.kxd, Blk.dinv, Blk.invb, Blk.dsolb, Blk.dbeta]

/-- What a later point leaves in the block of the gradient of the running sums. -/
theorem out0_B_14_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : ¬cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) (xs : Vec F S8x128x128 .f32) :
    out0_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs = (⟨x0, x1, x2, x3, x4, x5, x6, x7, x8, xs⟩ : Blk F).oc := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.oc, Blk.inv, Blk.gc, Blk.cd0, Blk.cd1, Blk.cd2, Blk.cd3, Blk.cd4, Blk.cd5, Blk.c6, Blk.c6t, Blk.decay, Blk.k, Blk.beta, Blk.kk, Blk.q, Blk.qk, Blk.st, Blk.v, Blk.vn, Blk.dy, Blk.dqk, Blk.rhs, Blk.attn, Blk.g, Blk.gsum, Blk.kxd, Blk.dinv, Blk.dd0, Blk.dd1, Blk.dd2, Blk.dd3, Blk.dd4, Blk.kb, Blk.egc, Blk.egc2, Blk.nkd, Blk.dc1, Blk.invb, Blk.dsolb, Blk.dc2, Blk.dd5, Blk.dd6, Blk.dd7, Blk.dc3, Blk.pad4, Blk.dc4, Blk.pad1, Blk.dc]

/-- What a later point leaves in the block of the gradient of the state before the chunk. -/
theorem sout0_B_0_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : ¬cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) (xs : Vec F S8x128x128 .f32) :
    sout0_B_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs = (⟨x0, x1, x2, x3, x4, x5, x6, x7, x8, xs⟩ : Blk F).os := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 xs)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.os, Blk.inv, Blk.k, Blk.v, Blk.beta, Blk.gc, Blk.w, Blk.q, Blk.cd0, Blk.cd1, Blk.cd2, Blk.cd3, Blk.cd4, Blk.cd5, Blk.c6, Blk.c6t, Blk.attn, Blk.qg, Blk.dy, Blk.g, Blk.gsum, Blk.kxd, Blk.dsg, Blk.dst]

/-- What a first point leaves in the block of the gradient of `q`. -/
theorem out0_A_9_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) :
    out0_A_9 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 = (⟨x0, x1, x2, x3, x4, x5, x6, x7, x8, (k0_pay5 (F := F))⟩ : Blk F).oq := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8)]
  unfold kernelRun0_A
  dsimp only
  sl_unfold_words
  rw [View.canon_unit_zero hz2]
  simp only [View.readCov_unit_zero (S := S8x128x128) _ hz3, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.oq, Blk.st, Blk.k, Blk.gc, Blk.cd0, Blk.cd1, Blk.cd2, Blk.cd3, Blk.cd4, Blk.cd5, Blk.c6, Blk.c6t, Blk.decay, Blk.inv, Blk.v, Blk.beta, Blk.vn, Blk.egc2, Blk.dy, Blk.dq]

/-- What a first point leaves in the block of the gradient of `k`. -/
theorem out0_A_10_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) :
    out0_A_10 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 = (⟨x0, x1, x2, x3, x4, x5, x6, x7, x8, (k0_pay5 (F := F))⟩ : Blk F).ok := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8)]
  unfold kernelRun0_A
  dsimp only
  sl_unfold_words
  rw [View.canon_unit_zero hz2]
  simp only [View.readCov_unit_zero (S := S8x128x128) _ hz3, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.ok, Blk.inv, Blk.k, Blk.beta, Blk.gc, Blk.cd0, Blk.cd1, Blk.cd2, Blk.cd3, Blk.cd4, Blk.cd5, Blk.c6, Blk.c6t, Blk.decay, Blk.kb, Blk.egc, Blk.q, Blk.st, Blk.v, Blk.vn, Blk.dy, Blk.g, Blk.gsum, Blk.vdw, Blk.dk1, Blk.rhs, Blk.attn, Blk.kxd, Blk.dinv, Blk.invb, Blk.dsolb, Blk.dk]

/-- What a first point leaves in the block of the gradient of `v`. -/
theorem out0_A_11_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) :
    out0_A_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 = (⟨x0, x1, x2, x3, x4, x5, x6, x7, x8, (k0_pay5 (F := F))⟩ : Blk F).ov := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8)]
  unfold kernelRun0_A
  dsimp only
  sl_unfold_words
  rw [View.canon_unit_zero hz2]
  simp only [View.readCov_unit_zero (S := S8x128x128) _ hz3, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.ov, Blk.beta, Blk.inv, Blk.invb, Blk.st, Blk.q, Blk.k, Blk.gc, Blk.cd0, Blk.cd1, Blk.cd2, Blk.cd3, Blk.cd4, Blk.cd5, Blk.c6, Blk.c6t, Blk.attn, Blk.dy, Blk.g, Blk.gsum, Blk.kxd, Blk.dsolb, Blk.dv]

/-- What a first point leaves in the block of the gradient of the log gates. -/
theorem out0_A_12_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) :
    out0_A_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 = (⟨x0, x1, x2, x3, x4, x5, x6, x7, x8, (k0_pay5 (F := F))⟩ : Blk F).og := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8)]
  unfold kernelRun0_A
  dsimp only
  sl_unfold_words
  rw [View.canon_unit_zero hz2]
  simp only [View.readCov_unit_zero (S := S8x128x128) _ hz3, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.og, Blk.st, Blk.k, Blk.gc, Blk.inv, Blk.v, Blk.beta, Blk.vn, Blk.g, Blk.gsum, Blk.dgrow, Blk.dg]

/-- What a first point leaves in the block of the gradient of the write strengths. -/
theorem out0_A_13_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) :
    out0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 = (⟨x0, x1, x2, x3, x4, x5, x6, x7, x8, (k0_pay5 (F := F))⟩ : Blk F).ob := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8)]
  unfold kernelRun0_A
  dsimp only
  sl_unfold_words
  rw [View.canon_unit_zero hz2]
  simp only [View.readCov_unit_zero (S := S8x128x128) _ hz3, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.ob, Blk.inv, Blk.k, Blk.v, Blk.gc, Blk.cd0, Blk.cd1, Blk.cd2, Blk.cd3, Blk.cd4, Blk.cd5, Blk.c6, Blk.c6t, Blk.decay, Blk.egc, Blk.st, Blk.beta, Blk.rhs, Blk.q, Blk.attn, Blk.dy, Blk.g, Blk.gsum, Blk.kxd, Blk.dinv, Blk.invb, Blk.dsolb, Blk.dbeta]

/-- What a first point leaves in the block of the gradient of the running sums. -/
theorem out0_A_14_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) :
    out0_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 = (⟨x0, x1, x2, x3, x4, x5, x6, x7, x8, (k0_pay5 (F := F))⟩ : Blk F).oc := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8)]
  unfold kernelRun0_A
  dsimp only
  sl_unfold_words
  rw [View.canon_unit_zero hz2]
  simp only [View.readCov_unit_zero (S := S8x128x128) _ hz3, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.oc, Blk.inv, Blk.gc, Blk.cd0, Blk.cd1, Blk.cd2, Blk.cd3, Blk.cd4, Blk.cd5, Blk.c6, Blk.c6t, Blk.decay, Blk.k, Blk.beta, Blk.kk, Blk.q, Blk.qk, Blk.st, Blk.v, Blk.vn, Blk.dy, Blk.dqk, Blk.rhs, Blk.attn, Blk.g, Blk.gsum, Blk.kxd, Blk.dinv, Blk.dd0, Blk.dd1, Blk.dd2, Blk.dd3, Blk.dd4, Blk.kb, Blk.egc, Blk.egc2, Blk.nkd, Blk.dc1, Blk.invb, Blk.dsolb, Blk.dc2, Blk.dd5, Blk.dd6, Blk.dd7, Blk.dc3, Blk.pad4, Blk.dc4, Blk.pad1, Blk.dc]

/-- What a first point leaves in the block of the gradient of the state before the chunk. -/
theorem sout0_A_0_eq (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S8x1x128x128 .f32) (h8 : a8.IsWhole) (a9 : Memref sig .tc .vmem S8x1x128x128 .f32) (h9 : a9.IsWhole) (a10 : Memref sig .tc .vmem S128x1024 .f32) (h10 : a10.IsWhole) (a11 : Memref sig .tc .vmem S128x1024 .f32) (h11 : a11.IsWhole) (a12 : Memref sig .tc .vmem S128x1024 .f32) (h12 : a12.IsWhole) (a13 : Memref sig .tc .vmem S128x1024 .f32) (h13 : a13.IsWhole) (a14 : Memref sig .tc .vmem S128x1024 .f32) (h14 : a14.IsWhole) (a15 : Memref sig .tc .vmem S128x1024 .f32) (h15 : a15.IsWhole) (a16 : Memref sig .tc .vmem S128x1024 .f32) (h16 : a16.IsWhole) (a17 : Memref sig .tc .vmem S8x128x128 .f32) (h17 : a17.IsWhole) (hc : cond0_0 i) (x0 : Vec F S128x1024 .f32) (x1 : Vec F S128x1024 .f32) (x2 : Vec F S128x1024 .f32) (x3 : Vec F S128x1024 .f32) (x4 : Vec F S128x1024 .f32) (x5 : Vec F S128x1024 .f32) (x6 : Vec F S8x1x128x128 .f32) (x7 : Vec F S8x1x128x128 .f32) (x8 : Vec F S128x1024 .f32) :
    sout0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 = (⟨x0, x1, x2, x3, x4, x5, x6, x7, x8, (k0_pay5 (F := F))⟩ : Blk F).os := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8)]
  unfold kernelRun0_A
  dsimp only
  sl_unfold_words
  rw [View.canon_cons_unit_zero hz3]
  simp only [View.readCov_unit_zero (S := S8x128x128) _ hz3, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S128x1024) hz2, View.ld_unit_zero (S := S8x128x128) hz3, View.ld_unit_zero (S := S8x1x128x128) hz4, shapeCast_self]
  dsimp only [Blk.os, Blk.inv, Blk.k, Blk.v, Blk.beta, Blk.gc, Blk.w, Blk.q, Blk.cd0, Blk.cd1, Blk.cd2, Blk.cd3, Blk.cd4, Blk.cd5, Blk.c6, Blk.c6t, Blk.attn, Blk.qg, Blk.dy, Blk.g, Blk.gsum, Blk.kxd, Blk.dsg, Blk.dst]

end Cert.KernelIdeal.Chunk

end
-- ==== Proof.KDot.lean ====
/-
  The building blocks of the kernel's chunk, read in real matrices: its products of 128 × 128 (and 128 × 256) matrices head
  by head, its masks, and the splitting of the 1024 lanes of a block into eight heads and back.
-/
module

public import proofs.«01_k».proof.Proof.Gen.KernelIdeal.Skeleton
public import proofs.«01_k».proof.Proof.Mat

@[expose] public section

set_option maxRecDepth 16384

noncomputable section

open Idealize.ShloMosaic Idealize.ShloMosaic.TcCoe

namespace Cert.KernelIdeal.Chunk

open Cert.KernelIdeal Cert.KernelIdeal.Gen Delta Matrix

section products

variable {φ : FTy} {x y : FVec Ideal S8x128x128 .bf16} {X Y : Fin 8 → Mat}

/-- A product with the transposed matrix, head by head. -/
theorem nt (hx : Rep x X) (hy : Rep y Y) :
    Rep (matmul dot_S8x128x128_S8x128x128_S8x128x128_2_2_1_1_0_0 none x y (constant S8x128x128 .f32 0x00000000#32)) (fun h => X h * (Y h)ᵀ) := by
  intro h i j; pointwise []; simp only [hx _, hy _]; rw [coe_dot]; rfl

/-- A product, head by head. -/
theorem nn (hx : Rep x X) (hy : Rep y Y) :
    Rep (matmul dot_S8x128x128_S8x128x128_S8x128x128_2_1_1_2_0_0 none x y (constant S8x128x128 .f32 0x00000000#32)) (fun h => X h * Y h) := by
  intro h i j; pointwise []; simp only [hx _, hy _]; rw [coe_dot]; rfl

/-- A product of the transposed matrix, head by head. -/
theorem tn (hx : Rep x X) (hy : Rep y Y) :
    Rep (matmul dot_S8x128x128_S8x128x128_S8x128x128_1_1_2_2_0_0 none x y (constant S8x128x128 .f32 0x00000000#32)) (fun h => (X h)ᵀ * Y h) := by
  intro h i j; pointwise []; simp only [hx _, hy _]; rw [coe_dot]; rfl

variable {p q : FVec Ideal S8x128x256 .bf16} {U V : Fin 8 → Mat}

/-- A product with a matrix of two halves, half by half. -/
theorem nn2 (hx : Rep x X) (hp : Rep2 p U V) :
    Rep2 (matmul dot_S8x128x128_S8x128x256_S8x128x256_2_1_1_2_0_0 none x p (constant S8x128x256 .f32 0x00000000#32))
      (fun h => X h * U h) (fun h => X h * V h) := by
  intro h i
  constructor <;> intro j <;> pointwise []
  · simp only [hx _, (hp _ _).1]; rw [coe_dot]; rfl
  · simp only [hx _, (hp _ _).2]; rw [coe_dot]; rfl

/-- A product of the transposed matrix with a matrix of two halves, half by half. -/
theorem tn2 (hx : Rep x X) (hp : Rep2 p U V) :
    Rep2 (matmul dot_S8x128x128_S8x128x256_S8x128x256_1_1_2_2_0_0 none x p (constant S8x128x256 .f32 0x00000000#32))
      (fun h => (X h)ᵀ * U h) (fun h => (X h)ᵀ * V h) := by
  intro h i
  constructor <;> intro j <;> pointwise []
  · simp only [hx _, (hp _ _).1]; rw [coe_dot]; rfl
  · simp only [hx _, (hp _ _).2]; rw [coe_dot]; rfl

/-- The product of two matrices of two halves, the second transposed, is the sum of the halves' products. -/
theorem nt2 (hp : Rep2 p X Y) (hq : Rep2 q U V) :
    Rep (matmul dot_S8x128x256_S8x128x256_S8x128x128_2_2_1_1_0_0 none p q (constant S8x128x128 .f32 0x00000000#32))
      (fun h => X h * (U h)ᵀ + Y h * (V h)ᵀ) := by
  intro h i j; pointwise []
  rw [sum_halves]
  simp only [(hp _ _).1, (hp _ _).2, (hq _ _).1, (hq _ _).2]
  rw [coe_dot, coe_dot, ← EReal.coe_add]; rfl

/-- A cast of a matrix of two halves to a narrower float keeps its reals. -/
theorem trunc2 {p : FVec Ideal S8x128x256 .f32} (hp : Rep2 p U V) (hw) : Rep2 (truncf .bf16 p hw) U V := by
  intro h i; constructor <;> intro j <;> pointwise []
  · exact (hp h i).1 j
  · exact (hp h i).2 j

/-- Two matrices side by side. -/
theorem concat2 {x y : FVec Ideal S8x128x128 .f32} (hx : Rep x X) (hy : Rep y Y) :
    Rep2 (concatenate S8x128x256 2 [⟨S8x128x128, x⟩, ⟨S8x128x128, y⟩] concatenates_S8x128x128_S8x128x128_S8x128x256_d2) X Y := by
  intro h i; constructor <;> intro j <;> pointwise []
  · simpa using hx h i j
  · simpa using hy h i j

theorem left2 {p : FVec Ideal S8x128x256 .f32} (hp : Rep2 p U V) :
    Rep (extractStridedSlice S8x128x128 ![0, 0, 0] p slices_S8x128x256_o0_0_0_S8x128x128) U := by
  intro h i j; pointwise []; simpa using (hp h i).1 j

theorem right2 {p : FVec Ideal S8x128x256 .f32} (hp : Rep2 p U V) :
    Rep (extractStridedSlice S8x128x128 ![0, 0, 128] p slices_S8x128x256_o0_0_128_S8x128x128) V := by
  intro h i j; pointwise []; simpa using (hp h i).2 j

theorem add2 {p q : FVec Ideal S8x128x256 .f32} {U' V' : Fin 8 → Mat} (hp : Rep2 p U V) (hq : Rep2 q U' V') :
    Rep2 (addf p q) (fun h => U h + U' h) (fun h => V h + V' h) := by
  intro h i; constructor <;> intro j <;> pointwise []
  · rw [(hp h i).1, (hq h i).1]; exact (EReal.coe_add ..).symm
  · rw [(hp h i).2, (hq h i).2]; exact (EReal.coe_add ..).symm

/-- The zero block. -/
theorem zero : Rep (broadcast S8x128x128 (Scalar.ofBits .f32 0x00000000#32 : Ideal .f32)) (fun _ => 0) := by
  intro h i j; pointwise []; rfl

/-- Zero minus a block is its negation. -/
theorem zsub {x : FVec Ideal S8x128x128 .f32} (hx : Rep x X) :
    Rep (subf (broadcast S8x128x128 (Scalar.ofBits .f32 0x00000000#32 : Ideal .f32)) x) (fun h => -X h) :=
  (zero.sub hx).of_eq fun h => by simp

end products

section masks

/-- The kernel's first mask is the causal one. -/
theorem causal : Low k0_pay20 := by
  intro h i j; unfold k0_pay20; pointwise []; exact sge_idx i j

/-- The kernel's second mask is the strictly causal one. -/
theorem strict : SLow k0_pay24 := by
  intro h i j; unfold k0_pay24; pointwise []; exact sgt_idx i j

end masks

section heads

variable {v : FVec Ideal S128x1024 .f32} {X : Fin 8 → Mat}

/-- The block of the q, split into heads. -/
theorem split6 (hv : RepB v X) : Rep (k0_pay6 v) X := by
  intro h i j; unfold k0_pay6
  fin_cases h <;> pointwise []
  · simpa using hv 0 i j
  · exact hv 1 i j
  · exact hv 2 i j
  · exact hv 3 i j
  · exact hv 4 i j
  · exact hv 5 i j
  · exact hv 6 i j
  · exact hv 7 i j

/-- The block of the k, split into heads. -/
theorem split7 (hv : RepB v X) : Rep (k0_pay7 v) X := by
  intro h i j; unfold k0_pay7
  fin_cases h <;> pointwise []
  · simpa using hv 0 i j
  · exact hv 1 i j
  · exact hv 2 i j
  · exact hv 3 i j
  · exact hv 4 i j
  · exact hv 5 i j
  · exact hv 6 i j
  · exact hv 7 i j

/-- The block of the v, split into heads. -/
theorem split8 (hv : RepB v X) : Rep (k0_pay8 v) X := by
  intro h i j; unfold k0_pay8
  fin_cases h <;> pointwise []
  · simpa using hv 0 i j
  · exact hv 1 i j
  · exact hv 2 i j
  · exact hv 3 i j
  · exact hv 4 i j
  · exact hv 5 i j
  · exact hv 6 i j
  · exact hv 7 i j

/-- The block of the log gates, split into heads. -/
theorem split9 (hv : RepB v X) : Rep (k0_pay9 v) X := by
  intro h i j; unfold k0_pay9
  fin_cases h <;> pointwise []
  · simpa using hv 0 i j
  · exact hv 1 i j
  · exact hv 2 i j
  · exact hv 3 i j
  · exact hv 4 i j
  · exact hv 5 i j
  · exact hv 6 i j
  · exact hv 7 i j

/-- The block of the write strengths, split into heads. -/
theorem split10 (hv : RepB v X) : Rep (k0_pay10 v) X := by
  intro h i j; unfold k0_pay10
  fin_cases h <;> pointwise []
  · simpa using hv 0 i j
  · exact hv 1 i j
  · exact hv 2 i j
  · exact hv 3 i j
  · exact hv 4 i j
  · exact hv 5 i j
  · exact hv 6 i j
  · exact hv 7 i j

/-- The block of the running sums, split into heads. -/
theorem split11 (hv : RepB v X) : Rep (k0_pay11 v) X := by
  intro h i j; unfold k0_pay11
  fin_cases h <;> pointwise []
  · simpa using hv 0 i j
  · exact hv 1 i j
  · exact hv 2 i j
  · exact hv 3 i j
  · exact hv 4 i j
  · exact hv 5 i j
  · exact hv 6 i j
  · exact hv 7 i j

/-- The block of the output's gradient, split into heads. -/
theorem split38 (hv : RepB v X) : Rep (k0_pay38 v) X := by
  intro h i j; unfold k0_pay38
  fin_cases h <;> pointwise []
  · simpa using hv 0 i j
  · exact hv 1 i j
  · exact hv 2 i j
  · exact hv 3 i j
  · exact hv 4 i j
  · exact hv 5 i j
  · exact hv 6 i j
  · exact hv 7 i j

/-- Eight blocks of 128 lanes side by side: lane `128 h + j` is lane `j` of block `h`. -/
theorem cat8 (w : Fin 8 → FVec Ideal S128x128 .f32) (hc) (h : Fin 8) (i j : Fin 128) :
    concatenate S128x1024 1 [⟨S128x128, w 0⟩, ⟨S128x128, w 1⟩, ⟨S128x128, w 2⟩, ⟨S128x128, w 3⟩, ⟨S128x128, w 4⟩, ⟨S128x128, w 5⟩, ⟨S128x128, w 6⟩, ⟨S128x128, w 7⟩] hc
      (ix2 i ⟨128 * h.val + j.val, by omega⟩) = w h (ix2 i j) := by
  have hj := j.isLt
  fin_cases h <;> pointwise []
  all_goals
    repeat (first | rw [dif_pos (by omega)] | rw [dif_neg (by omega)])
    exact congrArg _ (congrArg _ (Fin.ext (by simp only []; omega)))

/-- The heads of a three-axis array, each cut out as a matrix. -/
def heads (x : FVec Ideal S8x128x128 .f32) : Fin 8 → FVec Ideal S128x128 .f32
  | 0 => shapeCast S128x128 (extractStridedSlice S1x128x128 ![0, 0, 0] x slices_S8x128x128_o0_0_0_S1x128x128) shapeCasts_S1x128x128_S128x128
  | 1 => shapeCast S128x128 (extractStridedSlice S1x128x128 ![1, 0, 0] x slices_S8x128x128_o1_0_0_S1x128x128) shapeCasts_S1x128x128_S128x128
  | 2 => shapeCast S128x128 (extractStridedSlice S1x128x128 ![2, 0, 0] x slices_S8x128x128_o2_0_0_S1x128x128) shapeCasts_S1x128x128_S128x128
  | 3 => shapeCast S128x128 (extractStridedSlice S1x128x128 ![3, 0, 0] x slices_S8x128x128_o3_0_0_S1x128x128) shapeCasts_S1x128x128_S128x128
  | 4 => shapeCast S128x128 (extractStridedSlice S1x128x128 ![4, 0, 0] x slices_S8x128x128_o4_0_0_S1x128x128) shapeCasts_S1x128x128_S128x128
  | 5 => shapeCast S128x128 (extractStridedSlice S1x128x128 ![5, 0, 0] x slices_S8x128x128_o5_0_0_S1x128x128) shapeCasts_S1x128x128_S128x128
  | 6 => shapeCast S128x128 (extractStridedSlice S1x128x128 ![6, 0, 0] x slices_S8x128x128_o6_0_0_S1x128x128) shapeCasts_S1x128x128_S128x128
  | 7 => shapeCast S128x128 (extractStridedSlice S1x128x128 ![7, 0, 0] x slices_S8x128x128_o7_0_0_S1x128x128) shapeCasts_S1x128x128_S128x128

theorem heads_at (x : FVec Ideal S8x128x128 .f32) (h : Fin 8) (i j : Fin 128) : heads x h (ix2 i j) = x (ix3 h i j) := by
  fin_cases h <;> dsimp only [heads] <;> pointwise []

/-- The gradient of `q`, its heads side by side. -/
theorem merge89 {x : FVec Ideal S8x128x128 .f32} (hx : Rep x X) : RepB (k0_pay89 x) X := by
  intro h i j
  unfold k0_pay89
  refine (cat8 (fun h => (heads x) h) _ h i j).trans ?_
  exact (heads_at x h i j).trans (hx h i j)

/-- The gradient of `k`, its heads side by side. -/
theorem merge98 {x : FVec Ideal S8x128x128 .f32} (hx : Rep x X) : RepB (k0_pay98 (k0_pay90 x) (k0_pay91 x) (k0_pay92 x) (k0_pay93 x) (k0_pay94 x) (k0_pay95 x) (k0_pay96 x) (k0_pay97 x)) X := by
  intro h i j
  unfold k0_pay98
  refine (cat8 (fun h => (heads x) h) _ h i j).trans ?_
  exact (heads_at x h i j).trans (hx h i j)

/-- The gradient of `v`, its heads side by side. -/
theorem merge99 {x : FVec Ideal S8x128x128 .f32} (hx : Rep x X) : RepB (k0_pay99 x) X := by
  intro h i j
  unfold k0_pay99
  refine (cat8 (fun h => (heads x) h) _ h i j).trans ?_
  exact (heads_at x h i j).trans (hx h i j)

/-- The gradient of the log gates, its heads side by side. -/
theorem merge100 {x : FVec Ideal S8x128x128 .f32} (hx : Rep x X) : RepB (k0_pay100 x) X := by
  intro h i j
  unfold k0_pay100
  refine (cat8 (fun h => (heads x) h) _ h i j).trans ?_
  exact (heads_at x h i j).trans (hx h i j)

/-- The gradient of the write strengths, its heads side by side. -/
theorem merge1 {x : FVec Ideal S8x128x128 .f32} (hx : Rep x X) : RepB (k0_pay1 x (k0_pay101 x) (k0_pay102 x) (k0_pay103 x) (k0_pay104 x) (k0_pay105 x) (k0_pay106 x)) X := by
  intro h i j
  unfold k0_pay1
  refine (cat8 (fun h => (heads x) h) _ h i j).trans ?_
  exact (heads_at x h i j).trans (hx h i j)

/-- The gradient of the running sums, its heads side by side. -/
theorem merge2 {x : FVec Ideal S8x128x128 .f32} (hx : Rep x X) : RepB (k0_pay2 x) X := by
  intro h i j
  unfold k0_pay2
  refine (cat8 (fun h => (heads x) h) _ h i j).trans ?_
  exact (heads_at x h i j).trans (hx h i j)

/-- A block of one chunk's states holds them head by head. -/
theorem split3 {v : FVec Ideal S8x1x128x128 .f32} (hv : ∀ h i j, v (ix4 h 0 i j) = ((X h i j : ℝ) : EReal)) : Rep (k0_pay3 v) X := by
  intro h i j; unfold k0_pay3; pointwise []; exact hv h i j

theorem split4 {v : FVec Ideal S8x1x128x128 .f32} (hv : ∀ h i j, v (ix4 h 0 i j) = ((X h i j : ℝ) : EReal)) : Rep (k0_pay4 v) X := by
  intro h i j; unfold k0_pay4; pointwise []; exact hv h i j

/-- The exponential of a real number, read in the extended reals; that of −∞ is zero. -/
theorem exp_select (c : Prop) [Decidable c] (a : ℝ) :
    Ideal.exp (Scalar.select (if c then 1#1 else 0#1) (a : EReal) (Ideal.ofBits FTy.f32 4286578688#32)) = ((if c then Real.exp a else 0 : ℝ) : EReal) := by
  by_cases h : c
  · simp only [h, if_true]; rfl
  · simp only [h, if_false]
    have e : Ideal.ofBits FTy.f32 4286578688#32 = (⊥ : EReal) := by
      simp [Ideal.ofBits, Ideal.ieee]
    rw [e]; rfl

/-- The decay between the chunk's tokens: the exponential of the masked differences of the running sums. -/
theorem decay21 (hv : RepB v X) :
    Rep (k0_pay21 (k0_pay11 v) (k0_pay12 v) (k0_pay13 v) (k0_pay14 v) (k0_pay15 v) (k0_pay16 v) (k0_pay17 v) (k0_pay18 v) (k0_pay19 v))
      (fun h i j => if j ≤ i then Real.exp (X h i j - X h j i) else 0) := by
  have hs := split11 hv
  have key : ∀ (h : Fin 8) (i j : Fin 128) (a b : EReal), a = (X h i j : ℝ) → b = (X h j i : ℝ) →
      Ideal.exp (Scalar.select (k0_pay20 (ix3 h i j)) (a - b) (Ideal.ofBits FTy.f32 4286578688#32))
      = ((if j ≤ i then Real.exp (X h i j - X h j i) else 0 : ℝ) : EReal) := fun h i j a b ha hb => by
    rw [ha, hb, causal h i j, ← EReal.coe_sub, exp_select]
  intro h i j; unfold k0_pay21 k0_pay12 k0_pay13 k0_pay14 k0_pay15 k0_pay16 k0_pay17 k0_pay18 k0_pay19
  fin_cases h
  · pointwise []; exact key 0 i j _ _ (hs 0 i j) (hs 0 j i)
  · pointwise []; exact key 1 i j _ _ (hs 1 i j) (hs 1 j i)
  · pointwise []; exact key 2 i j _ _ (hs 2 i j) (hs 2 j i)
  · pointwise []; exact key 3 i j _ _ (hs 3 i j) (hs 3 j i)
  · pointwise []; exact key 4 i j _ _ (hs 4 i j) (hs 4 j i)
  · pointwise []; exact key 5 i j _ _ (hs 5 i j) (hs 5 j i)
  · pointwise []; exact key 6 i j _ _ (hs 6 i j) (hs 6 j i)
  · pointwise []; exact key 7 i j _ _ (hs 7 i j) (hs 7 j i)

end heads

end Cert.KernelIdeal.Chunk

end
-- ==== Proof.KChunk.lean ====
/-
  The kernel's chunk in real matrices: where the blocks a point reads hold real matrices, every value the body computes
  holds the matrix of `Delta.Chunk` that its name says, head by head.
-/
module

public import proofs.«01_k».proof.Proof.KRead
public import proofs.«01_k».proof.Proof.KDot

@[expose] public section

set_option maxRecDepth 16384

noncomputable section

open Idealize.ShloMosaic Idealize.ShloMosaic.TcCoe

namespace Cert.KernelIdeal.Chunk

open Cert.KernelIdeal Cert.KernelIdeal.Gen Delta Matrix

/-- The blocks `b` hold the real matrices of the chunks `X`, one chunk a head. -/
structure Blk.Holds (B : Blk Ideal) (X : Fin 8 → Delta.Chunk) : Prop where
  q : RepB B.x0 fun h => (X h).q
  k : RepB B.x1 fun h => (X h).k
  v : RepB B.x2 fun h => (X h).v
  g : RepB B.x3 fun h => (X h).g
  b : RepB B.x4 fun h => (X h).b
  c : RepB B.x5 fun h => (X h).c
  S : ∀ h i j, B.x6 (ix4 h 0 i j) = (((X h).S i j : ℝ) : EReal)
  P : ∀ h i j, B.x7 (ix4 h 0 i j) = (((X h).P i j : ℝ) : EReal)
  dy : RepB B.x8 fun h => (X h).dy
  D : Rep B.ds fun h => (X h).D

section rows

variable {X Y : Fin 8 → Mat}

/-- The sum over a chunk's tokens, lane by lane. -/
theorem colsum {x : FVec Ideal S8x128x128 .f32} (hx : Rep x X) (h : Fin 8) (i j : Fin 128) :
    k0_pay34 x (ix2 h j) = ((colSum (X h) i j : ℝ) : EReal) := by
  unfold k0_pay34; pointwise []; simp only [hx _, coe_sum]; rfl

theorem row35 {x : FVec Ideal S8x128 .f32} (hx : ∀ h (i : Fin 128) j, x (ix2 h j) = ((X h i j : ℝ) : EReal)) : RepRow (k0_pay35 x) X := by
  intro h i j; unfold k0_pay35; pointwise []; exact hx h i j

theorem row36 {x : FVec Ideal S8x128 .f32} (hx : ∀ h (i : Fin 128) j, x (ix2 h j) = ((X h i j : ℝ) : EReal)) :
    RepRow (k0_pay36 x) (fun h => ex (X h)) := by
  intro h i j; unfold k0_pay36; pointwise []; rw [row35 hx h i j]; rfl

/-- A row repeated for every token. -/
theorem rep_row {x : FVec Ideal S8x1x128 .f32} (hx : RepRow x X) : Rep (broadcastTo S8x128x128 x broadcasts_S8x1x128_S8x128x128) X := by
  intro h i j; pointwise []; exact hx h i j

end rows

namespace Blk.Holds

variable {b : Blk Ideal} {X : Fin 8 → Delta.Chunk} (H : b.Holds X)

include H

theorem rq : Rep b.q fun h => (X h).q := split6 H.q
theorem rk : Rep b.k fun h => (X h).k := split7 H.k
theorem rv : Rep b.v fun h => (X h).v := split8 H.v
theorem rg : Rep b.g fun h => (X h).g := split9 H.g
theorem rb : Rep b.beta fun h => (X h).b := split10 H.b
theorem rc : Rep b.gc fun h => (X h).c := split11 H.c
theorem rdy : Rep b.dy fun h => (X h).dy := split38 H.dy
theorem rS : Rep b.st fun h => (X h).S := split3 H.S
theorem rP : Rep b.inv fun h => (X h).P := split4 H.P

theorem rD : Rep (k0_pay40 b.ds) fun h => (X h).D := by
  intro h i j; unfold k0_pay40; pointwise []; exact H.D h i j
theorem rD' : Rep (k0_pay39 b.ds) fun h => (X h).D := by
  intro h i j; unfold k0_pay39; pointwise []; exact H.D h i j

theorem decay : Rep b.decay fun h => (X h).decay := decay21 H.c
theorem kb : Rep b.kb fun h => (X h).kb := H.rk.mul H.rb
theorem kk : Rep b.kk fun h => (X h).kk := nt (H.kb.trunc _) (H.rk.trunc _)
theorem egc : Rep b.egc fun h => ex (X h).c := H.rc.exp
theorem egc2 : Rep b.egc2 fun h => ex (X h).c := H.rc.exp
theorem rhs : Rep2 b.rhs (fun h => (X h).r1) (fun h => (X h).r2) := concat2 (H.rv.mul H.rb) (H.kb.mul H.egc)
theorem sol : Rep2 (k0_pay27 b.inv b.k b.v b.beta b.gc) (fun h => (X h).u) (fun h => (X h).w) :=
  nn2 (H.rP.trunc _) (trunc2 H.rhs _)
theorem w : Rep b.w fun h => (X h).w := right2 H.sol
theorem qk : Rep b.qk fun h => (X h).qk := nt (H.rq.trunc _) (H.rk.trunc _)
theorem attn : Rep b.attn fun h => (X h).attn := H.qk.mul H.decay
theorem vn : Rep b.vn fun h => (X h).vn := (left2 H.sol).sub (nn (H.w.trunc _) (H.rS.trunc _))
theorem qg : Rep b.qg fun h => (X h).qg := H.rq.mul H.egc2
theorem gsum (h : Fin 8) (i j : Fin 128) : b.gsum (ix2 h j) = ((colSum (X h).g i j : ℝ) : EReal) := colsum H.rg h i j
theorem kw : Rep (k0_pay37 b.gc b.gsum) fun h => (X h).kw := ((rep_row (row35 H.gsum)).sub H.rc).exp
theorem vd : Rep (k0_pay41 b.vn b.ds) fun h => (X h).vd := nt (H.vn.trunc _) (H.rD.trunc _)
theorem kxd : Rep b.kxd fun h => (X h).kx * (X h).D := nn ((H.rk.mul H.kw).trunc _) (H.rD.trunc _)
theorem vdw : Rep b.vdw fun h => had (X h).vd (X h).kw := H.vd.mul H.kw
theorem kd : Rep (k0_pay44 b.k b.gc b.vn b.gsum b.ds) fun h => (X h).kd := (H.rk.mul H.vd).mul H.kw
theorem nkd : Rep b.nkd fun h => -(X h).kd := zsub H.kd
theorem dsg : Rep b.dsg fun h => had (X h).D (ex (colSum (X h).g)) := H.rD'.mul (rep_row (row36 H.gsum))
theorem dyv : Rep (k0_pay49 b.vn b.dy) fun h => (X h).dyv := nt (H.rdy.trunc _) (H.vn.trunc _)
theorem dvn : Rep (k0_pay50 b.attn b.dy b.kxd) fun h => (X h).dvn := H.kxd.add (tn (H.attn.trunc _) (H.rdy.trunc _))
theorem dyS : Rep (k0_pay51 b.st b.dy) fun h => (X h).dyS := nt (H.rdy.trunc _) (H.rS.trunc _)
theorem dc1 : Rep b.dc1 fun h => -(X h).kd + had (had (X h).q (X h).dyS) (ex (X h).c) := H.nkd.add ((H.rq.mul H.dyS).mul H.egc2)
theorem ndvn : Rep (k0_pay53 b.attn b.dy b.kxd) fun h => -(X h).dvn := zsub H.dvn
theorem dS : Rep b.dst fun h => (X h).dS :=
  (H.dsg.add (tn (H.qg.trunc _) (H.rdy.trunc _))).add (tn (H.w.trunc _) (H.ndvn.trunc _))
theorem dqk : Rep b.dqk fun h => had (X h).qk (X h).dyv := H.qk.mul H.dyv
theorem dA : Rep (k0_pay56 b.decay b.vn b.dy) fun h => (X h).dA := H.dyv.mul H.decay
theorem dq : Rep b.dq fun h => (X h).dq := (H.dyS.mul H.egc2).add (nn (H.dA.trunc _) (H.rk.trunc _))
theorem dk1 : Rep b.dk1 fun h => had (X h).vd (X h).kw + (X h).dAᵀ * (X h).q := H.vdw.add (tn (H.dA.trunc _) (H.rq.trunc _))
theorem dsol : Rep2 (k0_pay59 b.st b.attn b.dy b.kxd) (fun h => 0 + (X h).dvn) (fun h => (X h).dw + 0) :=
  add2 (concat2 zero (nt (H.ndvn.trunc _) (H.rS.trunc _))) (concat2 H.dvn zero)
theorem dinv : Rep b.dinv fun h => (X h).dvn * (X h).r1ᵀ + (X h).dw * (X h).r2ᵀ :=
  (nt2 (trunc2 H.dsol _) (trunc2 H.rhs _)).of_eq fun h => by simp only [zero_add, add_zero]
theorem drhs : Rep2 (k0_pay63 b.invb b.dsolb) (fun h => (X h).Pᵀ * (0 + (X h).dvn)) (fun h => (X h).Pᵀ * ((X h).dw + 0)) :=
  tn2 (H.rP.trunc _) (trunc2 H.dsol _)
theorem z1 : Rep (k0_pay64 b.invb b.dsolb) fun h => (X h).z1 :=
  (left2 H.drhs).of_eq fun h => by rw [zero_add]; rfl
theorem z2 : Rep (k0_pay65 b.invb b.dsolb) fun h => (X h).z2 :=
  (right2 H.drhs).of_eq fun h => by rw [add_zero]; rfl
theorem dc2 : Rep b.dc2 fun h => -(X h).kd + had (had (X h).q (X h).dyS) (ex (X h).c) + had (had (X h).kb (X h).z2) (ex (X h).c) :=
  H.dc1.add ((H.kb.mul H.z2).mul H.egc)
theorem dv : Rep b.dv fun h => (X h).dv := H.z1.mul H.rb
theorem dlow : Rep (k0_pay68 b.inv k0_pay24 b.dinv) fun h => (X h).dlow :=
  (Rep.slow strict (zsub (nt ((tn (H.rP.trunc _) (H.dinv.trunc _)).trunc _) (H.rP.trunc _))) zero).of_eq
    fun h => congrArg Delta.slow (X h).low_eq
theorem dL : Rep (k0_pay69 b.inv b.decay k0_pay24 b.dinv) fun h => (X h).dL := H.dlow.mul H.decay
theorem dkb : Rep (k0_pay70 b.inv b.k b.decay k0_pay24 b.egc b.dinv b.invb b.dsolb) fun h => (X h).dkb :=
  (H.z2.mul H.egc).add (nn (H.dL.trunc _) (H.rk.trunc _))
theorem db : Rep b.dbeta fun h => (X h).db := (H.rv.mul H.z1).add (H.rk.mul H.dkb)
theorem dk : Rep b.dk fun h => (X h).dk := (H.dk1.add (tn (H.dL.trunc _) (H.kb.trunc _))).add (H.dkb.mul H.rb)
theorem ddiff : Rep (k0_pay73 b.inv k0_pay20 b.decay b.kk k0_pay24 b.dqk b.dinv) fun h => (X h).ddiff :=
  Rep.low causal ((H.dqk.add (H.kk.mul H.dlow)).mul H.decay) zero

/-- The gradient of the log gates, as a row. -/
theorem dgrow : RepRow b.dgrow fun h => (X h).dg := by
  intro h i j
  unfold Blk.dgrow k0_pay47
  pointwise []
  rw [Fin.sum_univ_one, row36 H.gsum h i j]
  simp only [H.kd _, H.rS _, H.rD' _]
  rw [coe_dot, coe_sum, ← EReal.coe_mul, ← EReal.coe_add]; rfl

theorem dg : Rep b.dg fun h => (X h).dg := rep_row H.dgrow

/-- The differences' gradient, head by head: each head's block of the running sums' gradient gets it and minus its
    transpose, and nothing from the other heads. -/
theorem dc : Rep b.dc fun h => (X h).dc := by
  have key : ∀ (h : Fin 8) (i j : Fin 128) (x d d' : EReal),
      x = ((-(X h).kd + had (had (X h).q (X h).dyS) (ex (X h).c) + had (had (X h).kb (X h).z2) (ex (X h).c)) i j : ℝ) →
      d = ((X h).ddiff i j : ℝ) → d' = ((X h).ddiff j i : ℝ) → x + (0 - d') + d = ((X h).dc i j : ℝ) := by
    intro h i j x d d' ex ed ed'
    rw [ex, ed, ed', ← EReal.coe_zero, ← EReal.coe_sub, ← EReal.coe_add, ← EReal.coe_add]
    refine congrArg _ ?_
    unfold Chunk.dc
    simp only [Matrix.add_apply, Matrix.sub_apply, Matrix.transpose_apply]
    ring
  intro h i j
  unfold Blk.dc k0_pay87 Blk.dc4 k0_pay85 Blk.dc3 k0_pay82 Blk.pad4 k0_pay83 k0_pay84 Blk.pad1 k0_pay86
  unfold Blk.dd0 Blk.dd1 Blk.dd2 Blk.dd3 Blk.dd4 Blk.dd5 Blk.dd6 Blk.dd7
  unfold k0_pay74 k0_pay75 k0_pay76 k0_pay77 k0_pay78 k0_pay79 k0_pay80 k0_pay81
  fin_cases h
  · pointwise []; exact key 0 i j _ _ _ (H.dc2 0 i j) (H.ddiff 0 i j) (H.ddiff 0 j i)
  · pointwise []; exact key 1 i j _ _ _ (H.dc2 1 i j) (H.ddiff 1 i j) (H.ddiff 1 j i)
  · pointwise []; exact key 2 i j _ _ _ (H.dc2 2 i j) (H.ddiff 2 i j) (H.ddiff 2 j i)
  · pointwise []; exact key 3 i j _ _ _ (H.dc2 3 i j) (H.ddiff 3 i j) (H.ddiff 3 j i)
  · pointwise []; exact key 4 i j _ _ _ (H.dc2 4 i j) (H.ddiff 4 i j) (H.ddiff 4 j i)
  · pointwise []; exact key 5 i j _ _ _ (H.dc2 5 i j) (H.ddiff 5 i j) (H.ddiff 5 j i)
  · pointwise []; exact key 6 i j _ _ _ (H.dc2 6 i j) (H.ddiff 6 i j) (H.ddiff 6 j i)
  · pointwise []; exact key 7 i j _ _ _ (H.dc2 7 i j) (H.ddiff 7 i j) (H.ddiff 7 j i)

theorem oq : RepB b.oq fun h => (X h).dq := merge89 H.dq
theorem ok : RepB b.ok fun h => (X h).dk := merge98 H.dk
theorem ov : RepB b.ov fun h => (X h).dv := merge99 H.dv
theorem og : RepB b.og fun h => (X h).dg := merge100 H.dg
theorem ob : RepB b.ob fun h => (X h).db := merge1 H.db
theorem oc : RepB b.oc fun h => (X h).dc := merge2 H.dc
theorem os : Rep b.os fun h => (X h).dS := by
  intro h i j; unfold Blk.os k0_pay88; pointwise []; exact H.dS h i j

end Blk.Holds

end Cert.KernelIdeal.Chunk

end
-- ==== Proof.KWhole.lean ====
/-
  The kernel's six result arrays: by induction over the 16 points of the grid the carried scratch holds the gradient of the
  states, every point's blocks hold its chunk, and what the points write back fills each result with the chunks' gradients.
-/
module

public import proofs.«01_k».proof.Proof.Data
public import proofs.«01_k».proof.Proof.KChunk
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Chunk Delta

variable (m : (ℓ : Loc nD τ sig) → Buf (Elt Ideal) ℓ)

/-- A point of the grid, as a step of the scan. -/
def step (t : Fin cfg0.N) : Fin 16 := ⟨t.val, lt_of_lt_of_eq t.isLt N_0⟩

theorem idx0 : ∀ t : Fin cfg0.N, win0_0.index t 0 = 15 - t.val ∧ win0_0.index t 1 = 0 :=
  (by decide +kernel : ∀ t : Fin grid0.N, win0_0.index t 0 = 15 - t.val ∧ win0_0.index t 1 = 0)
theorem idx1 : ∀ t : Fin cfg0.N, win0_1.index t 0 = 15 - t.val ∧ win0_1.index t 1 = 0 :=
  (by decide +kernel : ∀ t : Fin grid0.N, win0_1.index t 0 = 15 - t.val ∧ win0_1.index t 1 = 0)
theorem idx3 : ∀ t : Fin cfg0.N, win0_3.index t 0 = 15 - t.val ∧ win0_3.index t 1 = 0 :=
  (by decide +kernel : ∀ t : Fin grid0.N, win0_3.index t 0 = 15 - t.val ∧ win0_3.index t 1 = 0)
theorem idx4 : ∀ t : Fin cfg0.N, win0_4.index t 0 = 15 - t.val ∧ win0_4.index t 1 = 0 :=
  (by decide +kernel : ∀ t : Fin grid0.N, win0_4.index t 0 = 15 - t.val ∧ win0_4.index t 1 = 0)
theorem idx5 : ∀ t : Fin cfg0.N, win0_5.index t 0 = 15 - t.val ∧ win0_5.index t 1 = 0 :=
  (by decide +kernel : ∀ t : Fin grid0.N, win0_5.index t 0 = 15 - t.val ∧ win0_5.index t 1 = 0)
theorem idx8 : ∀ t : Fin cfg0.N, win0_8.index t 0 = 15 - t.val ∧ win0_8.index t 1 = 0 :=
  (by decide +kernel : ∀ t : Fin grid0.N, win0_8.index t 0 = 15 - t.val ∧ win0_8.index t 1 = 0)
theorem idx9 : ∀ t : Fin cfg0.N, win0_9.index t 0 = 15 - t.val ∧ win0_9.index t 1 = 0 :=
  (by decide +kernel : ∀ t : Fin grid0.N, win0_9.index t 0 = 15 - t.val ∧ win0_9.index t 1 = 0)
theorem idx10 : ∀ t : Fin cfg0.N, win0_10.index t 0 = 15 - t.val ∧ win0_10.index t 1 = 0 :=
  (by decide +kernel : ∀ t : Fin grid0.N, win0_10.index t 0 = 15 - t.val ∧ win0_10.index t 1 = 0)
theorem idx11 : ∀ t : Fin cfg0.N, win0_11.index t 0 = 15 - t.val ∧ win0_11.index t 1 = 0 :=
  (by decide +kernel : ∀ t : Fin grid0.N, win0_11.index t 0 = 15 - t.val ∧ win0_11.index t 1 = 0)
theorem idx12 : ∀ t : Fin cfg0.N, win0_12.index t 0 = 15 - t.val ∧ win0_12.index t 1 = 0 :=
  (by decide +kernel : ∀ t : Fin grid0.N, win0_12.index t 0 = 15 - t.val ∧ win0_12.index t 1 = 0)
theorem idx13 : ∀ t : Fin cfg0.N, win0_13.index t 0 = 15 - t.val ∧ win0_13.index t 1 = 0 :=
  (by decide +kernel : ∀ t : Fin grid0.N, win0_13.index t 0 = 15 - t.val ∧ win0_13.index t 1 = 0)
theorem idx14 : ∀ t : Fin cfg0.N, win0_14.index t 0 = 15 - t.val ∧ win0_14.index t 1 = 0 :=
  (by decide +kernel : ∀ t : Fin grid0.N, win0_14.index t 0 = 15 - t.val ∧ win0_14.index t 1 = 0)
theorem idx2 : ∀ t : Fin cfg0.N, win0_2.index t 0 = 15 - t.val ∧ win0_2.index t 1 = 2 :=
  (by decide +kernel : ∀ t : Fin grid0.N, win0_2.index t 0 = 15 - t.val ∧ win0_2.index t 1 = 2)
theorem idx6 : ∀ t : Fin cfg0.N, win0_6.index t 0 = 0 ∧ win0_6.index t 1 = 15 - t.val ∧ win0_6.index t 2 = 0 ∧ win0_6.index t 3 = 0 :=
  (by decide +kernel : ∀ t : Fin grid0.N, win0_6.index t 0 = 0 ∧ win0_6.index t 1 = 15 - t.val ∧ win0_6.index t 2 = 0 ∧ win0_6.index t 3 = 0)
theorem idx7 : ∀ t : Fin cfg0.N, win0_7.index t 0 = 0 ∧ win0_7.index t 1 = 15 - t.val ∧ win0_7.index t 2 = 0 ∧ win0_7.index t 3 = 0 :=
  (by decide +kernel : ∀ t : Fin grid0.N, win0_7.index t 0 = 0 ∧ win0_7.index t 1 = 15 - t.val ∧ win0_7.index t 2 = 0 ∧ win0_7.index t 3 = 0)

/-- Point `t`'s block of the queries is its chunk's rows. -/
theorem iblk0 (c : Dev nD) (t : Fin cfg0.N) (h : Fin 8) (i j : Fin 128) :
    (iblk m c 0 t : Vec Ideal S128x1024 .f32) (ix2 i (lane h j)) = m ((c : Thread nD τ).loc main_arg0) (ix2 (row (step t) i) (lane h j)) := by
  unfold iblk
  rw [View.read_apply]
  show V m c main_arg0 _ = m (c.tc.loc main_arg0) _
  unfold V
  congr 1
  funext a
  apply Fin.ext
  match a with
  | ⟨0, _⟩ => show win0_0.index t 0 * 128 + 1 * i.val = 128 * (15 - t.val) + i.val; rw [(idx0 t).1]; omega
  | ⟨1, _⟩ => show win0_0.index t 1 * 1024 + 1 * (128 * h.val + j.val) = 128 * h.val + j.val; rw [(idx0 t).2]; omega

/-- Point `t`'s block of the keys is its chunk's rows. -/
theorem iblk1 (c : Dev nD) (t : Fin cfg0.N) (h : Fin 8) (i j : Fin 128) :
    (iblk m c 1 t : Vec Ideal S128x1024 .f32) (ix2 i (lane h j)) = m ((c : Thread nD τ).loc main_arg1) (ix2 (row (step t) i) (lane h j)) := by
  unfold iblk
  rw [View.read_apply]
  show V m c main_arg1 _ = m (c.tc.loc main_arg1) _
  unfold V
  congr 1
  funext a
  apply Fin.ext
  match a with
  | ⟨0, _⟩ => show win0_1.index t 0 * 128 + 1 * i.val = 128 * (15 - t.val) + i.val; rw [(idx1 t).1]; omega
  | ⟨1, _⟩ => show win0_1.index t 1 * 1024 + 1 * (128 * h.val + j.val) = 128 * h.val + j.val; rw [(idx1 t).2]; omega

/-- Point `t`'s block of the log gates is its chunk's rows. -/
theorem iblk3 (c : Dev nD) (t : Fin cfg0.N) (h : Fin 8) (i j : Fin 128) :
    (iblk m c 3 t : Vec Ideal S128x1024 .f32) (ix2 i (lane h j)) = m ((c : Thread nD τ).loc main_arg3) (ix2 (row (step t) i) (lane h j)) := by
  unfold iblk
  rw [View.read_apply]
  show V m c main_arg3 _ = m (c.tc.loc main_arg3) _
  unfold V
  congr 1
  funext a
  apply Fin.ext
  match a with
  | ⟨0, _⟩ => show win0_3.index t 0 * 128 + 1 * i.val = 128 * (15 - t.val) + i.val; rw [(idx3 t).1]; omega
  | ⟨1, _⟩ => show win0_3.index t 1 * 1024 + 1 * (128 * h.val + j.val) = 128 * h.val + j.val; rw [(idx3 t).2]; omega

/-- Point `t`'s block of the write strengths is its chunk's rows. -/
theorem iblk4 (c : Dev nD) (t : Fin cfg0.N) (h : Fin 8) (i j : Fin 128) :
    (iblk m c 4 t : Vec Ideal S128x1024 .f32) (ix2 i (lane h j)) = m ((c : Thread nD τ).loc main_arg4) (ix2 (row (step t) i) (lane h j)) := by
  unfold iblk
  rw [View.read_apply]
  show V m c main_arg4 _ = m (c.tc.loc main_arg4) _
  unfold V
  congr 1
  funext a
  apply Fin.ext
  match a with
  | ⟨0, _⟩ => show win0_4.index t 0 * 128 + 1 * i.val = 128 * (15 - t.val) + i.val; rw [(idx4 t).1]; omega
  | ⟨1, _⟩ => show win0_4.index t 1 * 1024 + 1 * (128 * h.val + j.val) = 128 * h.val + j.val; rw [(idx4 t).2]; omega

/-- Point `t`'s block of the running sums is its chunk's rows. -/
theorem iblk5 (c : Dev nD) (t : Fin cfg0.N) (h : Fin 8) (i j : Fin 128) :
    (iblk m c 5 t : Vec Ideal S128x1024 .f32) (ix2 i (lane h j)) = m ((c : Thread nD τ).loc main_arg5) (ix2 (row (step t) i) (lane h j)) := by
  unfold iblk
  rw [View.read_apply]
  show V m c main_arg5 _ = m (c.tc.loc main_arg5) _
  unfold V
  congr 1
  funext a
  apply Fin.ext
  match a with
  | ⟨0, _⟩ => show win0_5.index t 0 * 128 + 1 * i.val = 128 * (15 - t.val) + i.val; rw [(idx5 t).1]; omega
  | ⟨1, _⟩ => show win0_5.index t 1 * 1024 + 1 * (128 * h.val + j.val) = 128 * h.val + j.val; rw [(idx5 t).2]; omega

/-- Point `t`'s block of the output's gradient is its chunk's rows. -/
theorem iblk8 (c : Dev nD) (t : Fin cfg0.N) (h : Fin 8) (i j : Fin 128) :
    (iblk m c 8 t : Vec Ideal S128x1024 .f32) (ix2 i (lane h j)) = m ((c : Thread nD τ).loc main_arg8) (ix2 (row (step t) i) (lane h j)) := by
  unfold iblk
  rw [View.read_apply]
  show V m c main_arg8 _ = m (c.tc.loc main_arg8) _
  unfold V
  congr 1
  funext a
  apply Fin.ext
  match a with
  | ⟨0, _⟩ => show win0_8.index t 0 * 128 + 1 * i.val = 128 * (15 - t.val) + i.val; rw [(idx8 t).1]; omega
  | ⟨1, _⟩ => show win0_8.index t 1 * 1024 + 1 * (128 * h.val + j.val) = 128 * h.val + j.val; rw [(idx8 t).2]; omega

/-- Point `t`'s block of the values is its chunk's rows of the last third of the lanes. -/
theorem iblk2 (c : Dev nD) (t : Fin cfg0.N) (h : Fin 8) (i j : Fin 128) :
    (iblk m c 2 t : Vec Ideal S128x1024 .f32) (ix2 i (lane h j)) = m ((c : Thread nD τ).loc main_arg2) (ix2 (row (step t) i) (vlane h j)) := by
  unfold iblk
  rw [View.read_apply]
  show V m c main_arg2 _ = m (c.tc.loc main_arg2) _
  unfold V
  congr 1
  funext a
  apply Fin.ext
  match a with
  | ⟨0, _⟩ => show win0_2.index t 0 * 128 + 1 * i.val = 128 * (15 - t.val) + i.val; rw [(idx2 t).1]; omega
  | ⟨1, _⟩ => show win0_2.index t 1 * 1024 + 1 * (128 * h.val + j.val) = 2048 + (128 * h.val + j.val); rw [(idx2 t).2]; omega

/-- Point `t`'s block of the states is its chunk's, every head's. -/
theorem iblk6 (c : Dev nD) (t : Fin cfg0.N) (h : Fin 8) (i j : Fin 128) :
    (iblk m c 6 t : Vec Ideal S8x1x128x128 .f32) (ix4 h 0 i j) = m ((c : Thread nD τ).loc main_arg6) (ix4 h (back (step t)) i j) := by
  unfold iblk
  rw [View.read_apply]
  show V m c main_arg6 _ = m (c.tc.loc main_arg6) _
  unfold V
  congr 1
  funext a
  apply Fin.ext
  match a with
  | ⟨0, _⟩ => show win0_6.index t 0 * 8 + 1 * h.val = h.val; rw [(idx6 t).1]; omega
  | ⟨1, _⟩ => show win0_6.index t 1 * 1 + 1 * 0 = 15 - t.val; rw [(idx6 t).2.1]; omega
  | ⟨2, _⟩ => show win0_6.index t 2 * 128 + 1 * i.val = i.val; rw [(idx6 t).2.2.1]; omega
  | ⟨3, _⟩ => show win0_6.index t 3 * 128 + 1 * j.val = j.val; rw [(idx6 t).2.2.2]; omega

/-- Point `t`'s block of the inverses is its chunk's, every head's. -/
theorem iblk7 (c : Dev nD) (t : Fin cfg0.N) (h : Fin 8) (i j : Fin 128) :
    (iblk m c 7 t : Vec Ideal S8x1x128x128 .f32) (ix4 h 0 i j) = m ((c : Thread nD τ).loc main_arg7) (ix4 h (back (step t)) i j) := by
  unfold iblk
  rw [View.read_apply]
  show V m c main_arg7 _ = m (c.tc.loc main_arg7) _
  unfold V
  congr 1
  funext a
  apply Fin.ext
  match a with
  | ⟨0, _⟩ => show win0_7.index t 0 * 8 + 1 * h.val = h.val; rw [(idx7 t).1]; omega
  | ⟨1, _⟩ => show win0_7.index t 1 * 1 + 1 * 0 = 15 - t.val; rw [(idx7 t).2.1]; omega
  | ⟨2, _⟩ => show win0_7.index t 2 * 128 + 1 * i.val = i.val; rw [(idx7 t).2.2.1]; omega
  | ⟨3, _⟩ => show win0_7.index t 3 * 128 + 1 * j.val = j.val; rw [(idx7 t).2.2.2]; omega

/-- Block `t` of result 0's array, read at an index. -/
theorem read9 (t : Fin cfg0.N) (y : Buf (Elt Ideal) (((0 : Dev nD) : Thread nD τ).loc main_v0_0)) (h : Fin 8) (i j : Fin 128) :
    (((cfg0.win 9).blk t).view.read (Elt Ideal) y : Vec Ideal S128x1024 .f32) (ix2 i (lane h j)) = y (ix2 (row (step t) i) (lane h j)) := by
  rw [View.read_apply]
  show y _ = y _
  congr 1
  funext a
  apply Fin.ext
  match a with
  | ⟨0, _⟩ => show win0_9.index t 0 * 128 + 1 * i.val = 128 * (15 - t.val) + i.val; rw [(idx9 t).1]; omega
  | ⟨1, _⟩ => show win0_9.index t 1 * 1024 + 1 * (128 * h.val + j.val) = 128 * h.val + j.val; rw [(idx9 t).2]; omega

/-- Result 0's array holds what the points wrote back. -/
theorem whole9 (c : Dev nD) (G : Fin 16 → Fin 8 → Mat)
    (H : ∀ t : Fin cfg0.N, RepB (φ := .f32) (outsAt0 m c t.val t.isLt).1 (G (step t))) :
    Whole ((dats m 0 c).arrAt 9 cfg0.N) G := by
  intro s h i j
  have ht : s.val < cfg0.N := lt_of_lt_of_eq s.isLt N_0.symm
  have e := congrFun ((blocks9 m c ⟨s.val, ht⟩ (flush0_9 _)).trans (flushed9 m c ⟨s.val, ht⟩)) (ix2 i (lane h j))
  exact ((read9 ⟨s.val, ht⟩ _ h i j).symm.trans e).trans (H ⟨s.val, ht⟩ h i j)

/-- Block `t` of result 1's array, read at an index. -/
theorem read10 (t : Fin cfg0.N) (y : Buf (Elt Ideal) (((0 : Dev nD) : Thread nD τ).loc main_v0_1)) (h : Fin 8) (i j : Fin 128) :
    (((cfg0.win 10).blk t).view.read (Elt Ideal) y : Vec Ideal S128x1024 .f32) (ix2 i (lane h j)) = y (ix2 (row (step t) i) (lane h j)) := by
  rw [View.read_apply]
  show y _ = y _
  congr 1
  funext a
  apply Fin.ext
  match a with
  | ⟨0, _⟩ => show win0_10.index t 0 * 128 + 1 * i.val = 128 * (15 - t.val) + i.val; rw [(idx10 t).1]; omega
  | ⟨1, _⟩ => show win0_10.index t 1 * 1024 + 1 * (128 * h.val + j.val) = 128 * h.val + j.val; rw [(idx10 t).2]; omega

/-- Result 1's array holds what the points wrote back. -/
theorem whole10 (c : Dev nD) (G : Fin 16 → Fin 8 → Mat)
    (H : ∀ t : Fin cfg0.N, RepB (φ := .f32) (outsAt0 m c t.val t.isLt).2.1 (G (step t))) :
    Whole ((dats m 0 c).arrAt 10 cfg0.N) G := by
  intro s h i j
  have ht : s.val < cfg0.N := lt_of_lt_of_eq s.isLt N_0.symm
  have e := congrFun ((blocks10 m c ⟨s.val, ht⟩ (flush0_10 _)).trans (flushed10 m c ⟨s.val, ht⟩)) (ix2 i (lane h j))
  exact ((read10 ⟨s.val, ht⟩ _ h i j).symm.trans e).trans (H ⟨s.val, ht⟩ h i j)

/-- Block `t` of result 2's array, read at an index. -/
theorem read11 (t : Fin cfg0.N) (y : Buf (Elt Ideal) (((0 : Dev nD) : Thread nD τ).loc main_v0_2)) (h : Fin 8) (i j : Fin 128) :
    (((cfg0.win 11).blk t).view.read (Elt Ideal) y : Vec Ideal S128x1024 .f32) (ix2 i (lane h j)) = y (ix2 (row (step t) i) (lane h j)) := by
  rw [View.read_apply]
  show y _ = y _
  congr 1
  funext a
  apply Fin.ext
  match a with
  | ⟨0, _⟩ => show win0_11.index t 0 * 128 + 1 * i.val = 128 * (15 - t.val) + i.val; rw [(idx11 t).1]; omega
  | ⟨1, _⟩ => show win0_11.index t 1 * 1024 + 1 * (128 * h.val + j.val) = 128 * h.val + j.val; rw [(idx11 t).2]; omega

/-- Result 2's array holds what the points wrote back. -/
theorem whole11 (c : Dev nD) (G : Fin 16 → Fin 8 → Mat)
    (H : ∀ t : Fin cfg0.N, RepB (φ := .f32) (outsAt0 m c t.val t.isLt).2.2.1 (G (step t))) :
    Whole ((dats m 0 c).arrAt 11 cfg0.N) G := by
  intro s h i j
  have ht : s.val < cfg0.N := lt_of_lt_of_eq s.isLt N_0.symm
  have e := congrFun ((blocks11 m c ⟨s.val, ht⟩ (flush0_11 _)).trans (flushed11 m c ⟨s.val, ht⟩)) (ix2 i (lane h j))
  exact ((read11 ⟨s.val, ht⟩ _ h i j).symm.trans e).trans (H ⟨s.val, ht⟩ h i j)

/-- Block `t` of result 3's array, read at an index. -/
theorem read12 (t : Fin cfg0.N) (y : Buf (Elt Ideal) (((0 : Dev nD) : Thread nD τ).loc main_v0_3)) (h : Fin 8) (i j : Fin 128) :
    (((cfg0.win 12).blk t).view.read (Elt Ideal) y : Vec Ideal S128x1024 .f32) (ix2 i (lane h j)) = y (ix2 (row (step t) i) (lane h j)) := by
  rw [View.read_apply]
  show y _ = y _
  congr 1
  funext a
  apply Fin.ext
  match a with
  | ⟨0, _⟩ => show win0_12.index t 0 * 128 + 1 * i.val = 128 * (15 - t.val) + i.val; rw [(idx12 t).1]; omega
  | ⟨1, _⟩ => show win0_12.index t 1 * 1024 + 1 * (128 * h.val + j.val) = 128 * h.val + j.val; rw [(idx12 t).2]; omega

/-- Result 3's array holds what the points wrote back. -/
theorem whole12 (c : Dev nD) (G : Fin 16 → Fin 8 → Mat)
    (H : ∀ t : Fin cfg0.N, RepB (φ := .f32) (outsAt0 m c t.val t.isLt).2.2.2.1 (G (step t))) :
    Whole ((dats m 0 c).arrAt 12 cfg0.N) G := by
  intro s h i j
  have ht : s.val < cfg0.N := lt_of_lt_of_eq s.isLt N_0.symm
  have e := congrFun ((blocks12 m c ⟨s.val, ht⟩ (flush0_12 _)).trans (flushed12 m c ⟨s.val, ht⟩)) (ix2 i (lane h j))
  exact ((read12 ⟨s.val, ht⟩ _ h i j).symm.trans e).trans (H ⟨s.val, ht⟩ h i j)

/-- Block `t` of result 4's array, read at an index. -/
theorem read13 (t : Fin cfg0.N) (y : Buf (Elt Ideal) (((0 : Dev nD) : Thread nD τ).loc main_v0_4)) (h : Fin 8) (i j : Fin 128) :
    (((cfg0.win 13).blk t).view.read (Elt Ideal) y : Vec Ideal S128x1024 .f32) (ix2 i (lane h j)) = y (ix2 (row (step t) i) (lane h j)) := by
  rw [View.read_apply]
  show y _ = y _
  congr 1
  funext a
  apply Fin.ext
  match a with
  | ⟨0, _⟩ => show win0_13.index t 0 * 128 + 1 * i.val = 128 * (15 - t.val) + i.val; rw [(idx13 t).1]; omega
  | ⟨1, _⟩ => show win0_13.index t 1 * 1024 + 1 * (128 * h.val + j.val) = 128 * h.val + j.val; rw [(idx13 t).2]; omega

/-- Result 4's array holds what the points wrote back. -/
theorem whole13 (c : Dev nD) (G : Fin 16 → Fin 8 → Mat)
    (H : ∀ t : Fin cfg0.N, RepB (φ := .f32) (outsAt0 m c t.val t.isLt).2.2.2.2.1 (G (step t))) :
    Whole ((dats m 0 c).arrAt 13 cfg0.N) G := by
  intro s h i j
  have ht : s.val < cfg0.N := lt_of_lt_of_eq s.isLt N_0.symm
  have e := congrFun ((blocks13 m c ⟨s.val, ht⟩ (flush0_13 _)).trans (flushed13 m c ⟨s.val, ht⟩)) (ix2 i (lane h j))
  exact ((read13 ⟨s.val, ht⟩ _ h i j).symm.trans e).trans (H ⟨s.val, ht⟩ h i j)

/-- Block `t` of result 5's array, read at an index. -/
theorem read14 (t : Fin cfg0.N) (y : Buf (Elt Ideal) (((0 : Dev nD) : Thread nD τ).loc main_v0_5)) (h : Fin 8) (i j : Fin 128) :
    (((cfg0.win 14).blk t).view.read (Elt Ideal) y : Vec Ideal S128x1024 .f32) (ix2 i (lane h j)) = y (ix2 (row (step t) i) (lane h j)) := by
  rw [View.read_apply]
  show y _ = y _
  congr 1
  funext a
  apply Fin.ext
  match a with
  | ⟨0, _⟩ => show win0_14.index t 0 * 128 + 1 * i.val = 128 * (15 - t.val) + i.val; rw [(idx14 t).1]; omega
  | ⟨1, _⟩ => show win0_14.index t 1 * 1024 + 1 * (128 * h.val + j.val) = 128 * h.val + j.val; rw [(idx14 t).2]; omega

/-- Result 5's array holds what the points wrote back. -/
theorem whole14 (c : Dev nD) (G : Fin 16 → Fin 8 → Mat)
    (H : ∀ t : Fin cfg0.N, RepB (φ := .f32) (outsAt0 m c t.val t.isLt).2.2.2.2.2.1 (G (step t))) :
    Whole ((dats m 0 c).arrAt 14 cfg0.N) G := by
  intro s h i j
  have ht : s.val < cfg0.N := lt_of_lt_of_eq s.isLt N_0.symm
  have e := congrFun ((blocks14 m c ⟨s.val, ht⟩ (flush0_14 _)).trans (flushed14 m c ⟨s.val, ht⟩)) (ix2 i (lane h j))
  exact ((read14 ⟨s.val, ht⟩ _ h i j).symm.trans e).trans (H ⟨s.val, ht⟩ h i j)

/-! ## The induction over the grid -/

/-- The blocks that point `t` reads, over what the scratch holds before it. -/
abbrev blk (c : Dev nD) (t : Fin cfg0.N) (ds : FVec Ideal S8x128x128 .f32) : Blk Ideal :=
  ⟨iblk m c 0 t, iblk m c 1 t, iblk m c 2 t, iblk m c 3 t, iblk m c 4 t, iblk m c 5 t, iblk m c 6 t, iblk m c 7 t, iblk m c 8 t, ds⟩

/-- The arguments on device `c` hold the reals `x`. -/
abbrev Args (c : Dev nD) (x : Data) : Prop :=
  x.Holds (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg8))
    (m ((c : Thread nD τ).loc main_arg2)) (m ((c : Thread nD τ).loc main_arg6)) (m ((c : Thread nD τ).loc main_arg7))

variable {m}
variable {c : Dev nD} {x : Data} (hx : Args m c x)
include hx

/-- Where the scratch holds the gradient of the states after the chunk, the point's blocks hold the step's chunk. -/
theorem blk_holds (t : Fin cfg0.N) (ds : FVec Ideal S8x128x128 .f32) (hd : Rep ds (x.D t.val)) :
    (blk m c t ds).Holds (x.at_ (step t)) where
  q h i j := (iblk0 m c t h i j).trans (hx.q ..)
  k h i j := (iblk1 m c t h i j).trans (hx.k ..)
  v h i j := (iblk2 m c t h i j).trans (hx.v ..)
  g h i j := (iblk3 m c t h i j).trans (hx.g ..)
  b h i j := (iblk4 m c t h i j).trans (hx.b ..)
  c h i j := (iblk5 m c t h i j).trans (hx.c ..)
  S h i j := (iblk6 m c t h i j).trans (hx.S ..)
  P h i j := (iblk7 m c t h i j).trans (hx.P ..)
  dy h i j := (iblk8 m c t h i j).trans (hx.dy ..)
  D := hd

/-- What point `n` leaves is its chunk's six gradients and the state's, from a scratch that holds the gradient of the
    states after the chunk. -/
theorem outs (n : ℕ) (hn : n < cfg0.N) : ∃ ds : FVec Ideal S8x128x128 .f32, Rep ds (x.D n) ∧ outsAt0 m c n hn
    = ((blk m c ⟨n, hn⟩ ds).oq, (blk m c ⟨n, hn⟩ ds).ok, (blk m c ⟨n, hn⟩ ds).ov, (blk m c ⟨n, hn⟩ ds).og,
      (blk m c ⟨n, hn⟩ ds).ob, (blk m c ⟨n, hn⟩ ds).oc, (blk m c ⟨n, hn⟩ ds).os) := by
  induction n with
  | zero =>
    refine ⟨k0_pay5 (F := Ideal), fun h i j => ?_, ?_⟩
    · unfold k0_pay5
      pointwise []
      exact EReal.coe_zero.symm
    · refine (outsAt0_A m c ⟨0, hn⟩ rfl).trans ?_
      rw [out0_A_9_eq, out0_A_10_eq, out0_A_11_eq, out0_A_12_eq, out0_A_13_eq, out0_A_14_eq, sout0_A_0_eq]
  | succ n ih =>
    obtain ⟨ds, hd, e⟩ := ih (Nat.lt_of_succ_lt hn)
    have hN : cfg0.N = 16 := N_0
    have hB : ¬(⟨n + 1, hn⟩ : Fin cfg0.N).val % 16 = 0 := by dsimp only; omega
    refine ⟨(outsAt0 m c n (Nat.lt_of_succ_lt hn)).2.2.2.2.2.2, ?_, ?_⟩
    · rw [e, show x.D (n + 1) = _ from x.D_succ ⟨n, by omega⟩]
      exact (blk_holds hx ⟨n, _⟩ ds hd).os
    · refine (outsAt0_B m c ⟨n + 1, hn⟩ hB).trans ?_
      rw [out0_B_9_eq, out0_B_10_eq, out0_B_11_eq, out0_B_12_eq, out0_B_13_eq, out0_B_14_eq, sout0_B_0_eq]
      rfl

/-- Result 0 holds the gradient of the queries, chunk by chunk. -/
theorem result0 : Whole ((dats m 0 c).arrAt 9 cfg0.N) fun t h => (x.at_ t h).dq :=
  whole9 m c _ fun t => by
    obtain ⟨ds, hd, e⟩ := outs hx t.val t.isLt
    rw [e]; exact (blk_holds hx t ds hd).oq

/-- Result 1 holds the gradient of the keys, chunk by chunk. -/
theorem result1 : Whole ((dats m 0 c).arrAt 10 cfg0.N) fun t h => (x.at_ t h).dk :=
  whole10 m c _ fun t => by
    obtain ⟨ds, hd, e⟩ := outs hx t.val t.isLt
    rw [e]; exact (blk_holds hx t ds hd).ok

/-- Result 2 holds the gradient of the values, chunk by chunk. -/
theorem result2 : Whole ((dats m 0 c).arrAt 11 cfg0.N) fun t h => (x.at_ t h).dv :=
  whole11 m c _ fun t => by
    obtain ⟨ds, hd, e⟩ := outs hx t.val t.isLt
    rw [e]; exact (blk_holds hx t ds hd).ov

/-- Result 3 holds the gradient of the log gates, chunk by chunk. -/
theorem result3 : Whole ((dats m 0 c).arrAt 12 cfg0.N) fun t h => (x.at_ t h).dg :=
  whole12 m c _ fun t => by
    obtain ⟨ds, hd, e⟩ := outs hx t.val t.isLt
    rw [e]; exact (blk_holds hx t ds hd).og

/-- Result 4 holds the gradient of the write strengths, chunk by chunk. -/
theorem result4 : Whole ((dats m 0 c).arrAt 13 cfg0.N) fun t h => (x.at_ t h).db :=
  whole13 m c _ fun t => by
    obtain ⟨ds, hd, e⟩ := outs hx t.val t.isLt
    rw [e]; exact (blk_holds hx t ds hd).ob

/-- Result 5 holds the gradient of the running sums, chunk by chunk. -/
theorem result5 : Whole ((dats m 0 c).arrAt 14 cfg0.N) fun t h => (x.at_ t h).dc :=
  whole14 m c _ fun t => by
    obtain ⟨ds, hd, e⟩ := outs hx t.val t.isLt
    rw [e]; exact (blk_holds hx t ds hd).oc

end Cert.KernelIdeal.Whole

end
-- ==== Proof.RChunk.lean ====
/-
  One trip of the reference's loop in real matrices: where the slices a trip reads hold real matrices, every value of the trip
  holds the matrix of `Delta.Chunk` that its place in the chain rule gives it, head by head.
-/
module

public import proofs.«01_k».proof.Proof.Gen.ReferenceIdeal.Step
public import proofs.«01_k».proof.Proof.Mat

@[expose] public section

set_option maxRecDepth 16384

noncomputable section

open Idealize.ShloMosaic Idealize.ShloMosaic.TcCoe

namespace Cert.ReferenceIdeal.Chunk

open Cert.ReferenceIdeal Cert.ReferenceIdeal.Gen Cert.ReferenceIdeal.Step Delta Matrix

section products

variable {x y : FVec Ideal S8x128x128 .f32} {X Y : Fin 8 → Mat}

theorem nt (hx : Rep x X) (hy : Rep y Y) :
    Rep (Host.dotGeneral dot_S8x128x128_S8x128x128_S8x128x128_2_2_1_1_0_0 none x y) (fun h => X h * (Y h)ᵀ) := by
  intro h i j; pointwise []; simp only [hx _, hy _]; rw [coe_dot]; rfl

theorem nn (hx : Rep x X) (hy : Rep y Y) :
    Rep (Host.dotGeneral dot_S8x128x128_S8x128x128_S8x128x128_2_1_1_2_0_0 none x y) (fun h => X h * Y h) := by
  intro h i j; pointwise []; simp only [hx _, hy _]; rw [coe_dot]; rfl

theorem tn (hx : Rep x X) (hy : Rep y Y) :
    Rep (Host.dotGeneral dot_S8x128x128_S8x128x128_S8x128x128_1_1_2_2_0_0 none x y) (fun h => (X h)ᵀ * Y h) := by
  intro h i j; pointwise []; simp only [hx _, hy _]; rw [coe_dot]; rfl

theorem tt (hx : Rep x X) (hy : Rep y Y) :
    Rep (Host.dotGeneral dot_S8x128x128_S8x128x128_S8x128x128_1_2_2_1_0_0 none x y) (fun h => (X h)ᵀ * (Y h)ᵀ) := by
  intro h i j; pointwise []; simp only [hx _, hy _]; rw [coe_dot]; rfl

/-- A transposed array holds the transposed matrices. -/
theorem tr (hx : Rep x X) : Rep (transpose S8x128x128 [0, 2, 1] x transposes_S8x128x128_S8x128x128_0_2_1) (fun h => (X h)ᵀ) := by
  intro h i j; pointwise []; exact hx h j i

variable {p q : FVec Ideal S8x128x256 .f32} {U V : Fin 8 → Mat}

theorem nn2 (hx : Rep x X) (hp : Rep2 p U V) :
    Rep2 (Host.dotGeneral dot_S8x128x128_S8x128x256_S8x128x256_2_1_1_2_0_0 none x p) (fun h => X h * U h) (fun h => X h * V h) := by
  intro h i
  constructor <;> intro j <;> pointwise []
  · simp only [hx _, (hp _ _).1]; rw [coe_dot]; rfl
  · simp only [hx _, (hp _ _).2]; rw [coe_dot]; rfl

/-- The product of two matrices of two halves, the second transposed first, is the sum of the halves' products. -/
theorem nt2 (hp : Rep2 p X Y) (hq : Rep2 q U V) :
    Rep (Host.dotGeneral dot_S8x128x256_S8x256x128_S8x128x128_2_1_1_2_0_0 none p
      (transpose S8x256x128 [0, 2, 1] q transposes_S8x128x256_S8x256x128_0_2_1)) (fun h => X h * (U h)ᵀ + Y h * (V h)ᵀ) := by
  intro h i j; pointwise []
  rw [sum_halves]
  simp only [(hp _ _).1, (hp _ _).2, (hq _ _).1, (hq _ _).2]
  rw [coe_dot, coe_dot, ← EReal.coe_add]; rfl

theorem concat2 (hx : Rep x X) (hy : Rep y Y) :
    Rep2 (concatenate S8x128x256 2 [⟨S8x128x128, x⟩, ⟨S8x128x128, y⟩] concatenates_S8x128x128_S8x128x128_S8x128x256_d2) X Y := by
  intro h i; constructor <;> intro j <;> pointwise []
  · simpa using hx h i j
  · simpa using hy h i j

theorem left2 (hp : Rep2 p U V) : Rep (extractStridedSlice S8x128x128 ![0, 0, 0] p slices_S8x128x256_S8x128x128_0_0_0) U := by
  intro h i j; pointwise []; simpa using (hp h i).1 j

theorem right2 (hp : Rep2 p U V) : Rep (extractStridedSlice S8x128x128 ![0, 0, 128] p slices_S8x128x256_S8x128x128_0_0_128) V := by
  intro h i j; pointwise []; simpa using (hp h i).2 j

theorem add2 {U' V' : Fin 8 → Mat} (hp : Rep2 p U V) (hq : Rep2 q U' V') :
    Rep2 (addf p q) (fun h => U h + U' h) (fun h => V h + V' h) := by
  intro h i; constructor <;> intro j <;> pointwise []
  · rw [(hp h i).1, (hq h i).1]; exact (EReal.coe_add ..).symm
  · rw [(hp h i).2, (hq h i).2]; exact (EReal.coe_add ..).symm

/-- A matrix with a zero matrix at its left. -/
theorem padl (hx : Rep x X) :
    Rep2 (pad S8x128x256 ![0, 0, 128] ![0, 0, 0] ![0, 0, 0] x (constant S_ .f32 0x00000000#32) pads_S8x128x128_S8x128x256_000_000_12800 h_S_)
      (fun _ => 0) X := by
  intro h i; constructor <;> intro j <;> pointwise []
  · simp
  · exact hx h i j

/-- A matrix with a zero matrix at its right. -/
theorem padr (hx : Rep x X) :
    Rep2 (pad S8x128x256 ![0, 0, 0] ![0, 0, 128] ![0, 0, 0] x (constant S_ .f32 0x00000000#32) pads_S8x128x128_S8x128x256_000_000_01280 h_S_)
      X (fun _ => 0) := by
  intro h i; constructor <;> intro j <;> pointwise []
  · exact hx h i j
  · simp

theorem zero : Rep (broadcastInDim S8x128x128 ![] bcast_S_S8x128x128 (constant S_ .f32 0x00000000#32 : FVec Ideal S_ .f32)) (fun _ => 0) := by
  intro h i j; pointwise []; rfl

/-- The sum over a chunk's tokens, lane by lane. -/
theorem colsum (hx : Rep x X) (h : Fin 8) (i j : Fin 128) :
    Host.reduceAdd x (constant S_ .f32 0x00000000#32) reducesTo_S8x128x128_S8x128_d1 h_S_ (ix2 h j) = ((colSum (X h) i j : ℝ) : EReal) := by
  pointwise []; simp only [hx _, coe_sum]; rfl

theorem rowb {r : FVec Ideal S8x128 .f32} (hr : ∀ h (i : Fin 128) j, r (ix2 h j) = ((X h i j : ℝ) : EReal)) :
    RepRow (broadcastInDim S8x1x128 ![0, 2] bcast_S8x128_S8x1x128_0_2 r) X := by
  intro h i j; pointwise []; exact hr h i j

theorem rowc {r : FVec Ideal S8x128 .f32} (hr : ∀ h (i : Fin 128) j, r (ix2 h j) = ((X h i j : ℝ) : EReal)) :
    RepRow (shapeCast S8x1x128 r shapeCasts_S8x128_S8x1x128) X := by
  intro h i j; pointwise []; exact hr h i j

theorem rep_row {r : FVec Ideal S8x1x128 .f32} (hr : RepRow r X) :
    Rep (broadcastInDim S8x128x128 ![0, 1, 2] bcast_S8x1x128_S8x128x128_0_1_2 r) X := by
  intro h i j; pointwise []; exact hr h i j

theorem exp_row {r : FVec Ideal S8x1x128 .f32} (hr : RepRow r X) : RepRow (Host.exp r) (fun h => ex (X h)) := by
  intro h i j; pointwise []; rw [hr h i j]; rfl

theorem mul_row {r r' : FVec Ideal S8x1x128 .f32} (hr : RepRow r X) (hr' : RepRow r' Y) : RepRow (mulf r r') (fun h => had (X h) (Y h)) := by
  intro h i j; pointwise []; rw [hr h i j, hr' h i j]; exact (EReal.coe_mul ..).symm

theorem add_row {r r' : FVec Ideal S8x1x128 .f32} (hr : RepRow r X) (hr' : RepRow r' Y) : RepRow (addf r r') (fun h => X h + Y h) := by
  intro h i j; pointwise []; rw [hr h i j, hr' h i j]; exact (EReal.coe_add ..).symm

theorem spread {r : FVec Ideal S8x1x128 .f32} (hr : RepRow r X) :
    Rep (broadcastInDim S8x128x128 ![0, 2] bcast_S8x128_S8x128x128_0_2
      (Host.reduceAdd r (constant S_ .f32 0x00000000#32) reducesTo_S8x1x128_S8x128_d1 h_S_)) X := by
  intro h i j; pointwise []
  rw [Fin.sum_univ_one]; exact hr h i j

/-- The heads' lanes of a chunk side by side, token by token. -/
theorem tokens (hx : Rep x X) :
    RepB (shapeCast S128x1024 (transpose S128x8x128 [1, 0, 2] x transposes_S8x128x128_S128x8x128_1_0_2) shapeCasts_S128x8x128_S128x1024) X := by
  intro h i j; pointwise []
  exact hx h i j

end products

variable (j : ℕ) (s : State Ideal)

theorem causal : Low (b64 (F := Ideal) j s) := by
  intro h i k; unfold b64 b54 b52 b53 b50 b51 b49; pointwise []; exact sge_idx i k

theorem strict : SLow (b82 (F := Ideal) j s) := by
  intro h i k; unfold b82 b59 b57 b58 b55 b56 b49; pointwise []; exact sgt_idx i k

theorem exp_select (c : Prop) [Decidable c] (a : ℝ) :
    Ideal.exp (Scalar.select (if c then 1#1 else 0#1) (a : EReal) (Ideal.ofBits FTy.f32 4286578688#32)) = ((if c then Real.exp a else 0 : ℝ) : EReal) := by
  by_cases h : c
  · simp only [h, if_true]; rfl
  · simp only [h, if_false]
    have e : Ideal.ofBits FTy.f32 4286578688#32 = (⊥ : EReal) := by
      simp [Ideal.ofBits, Ideal.ieee]
    rw [e]; rfl

/-- The slices a trip reads hold the real matrices of the chunks `X`, one chunk a head. -/
structure Holds (X : Fin 8 → Delta.Chunk) : Prop where
  q : Rep (φ := .f32) (b8 j s) fun h => (X h).q
  k : Rep (φ := .f32) (b13 j s) fun h => (X h).k
  v : Rep (φ := .f32) (b18 j s) fun h => (X h).v
  g : Rep (φ := .f32) (b23 j s) fun h => (X h).g
  b : Rep (φ := .f32) (b28 j s) fun h => (X h).b
  c : Rep (φ := .f32) (b33 j s) fun h => (X h).c
  dy : Rep (φ := .f32) (b38 j s) fun h => (X h).dy
  S : Rep (φ := .f32) (b43 j s) fun h => (X h).S
  P : Rep (φ := .f32) (b48 j s) fun h => (X h).P
  D : Rep (φ := .f32) s.main_v19_10 fun h => (X h).D

namespace Holds

variable {j s} {X : Fin 8 → Delta.Chunk} (H : Holds j s X)

include H

theorem decay : Rep (φ := .f32) (b69 j s) fun h => (X h).decay := by
  have key : ∀ (h : Fin 8) (i k : Fin 128) (a b : EReal), a = ((X h).c i k : ℝ) → b = ((X h).c k i : ℝ) →
      Ideal.exp (Scalar.select (b64 (F := Ideal) j s (ix3 h i k)) (a - b) (Ideal.ofBits FTy.f32 4286578688#32))
      = (((X h).decay i k : ℝ) : EReal) := fun h i k a b ha hb => by
    rw [ha, hb, causal j s h i k, ← EReal.coe_sub, exp_select]; rfl
  intro h i k
  unfold b69 b66 b61 b60 b65 b63 b62
  pointwise []
  exact key h i k _ _ (H.c h i k) (H.c h k i)
theorem gsum (h : Fin 8) (i k : Fin 128) : b71 j s (ix2 h k) = ((colSum (X h).g i k : ℝ) : EReal) := colsum H.g h i k
theorem grow : RepRow (φ := .f32) (b72 j s) fun h => colSum (X h).g := rowb H.gsum
theorem kw : Rep (φ := .f32) (b75 j s) fun h => (X h).kw := ((rep_row H.grow).sub H.c).hexp
theorem kx : Rep (φ := .f32) (b76 j s) fun h => (X h).kx := H.k.mul H.kw
theorem kb : Rep (φ := .f32) (b77 j s) fun h => (X h).kb := H.k.mul H.b
theorem kk : Rep (φ := .f32) (b78 j s) fun h => (X h).kk := nt H.kb H.k
theorem ec : Rep (φ := .f32) (b88 j s) fun h => ex (X h).c := H.c.hexp
theorem rhs : Rep2 (φ := .f32) (b90 j s) (fun h => (X h).r1) (fun h => (X h).r2) := concat2 (H.v.mul H.b) (H.kb.mul H.ec)
theorem sol : Rep2 (φ := .f32) (b91 j s) (fun h => (X h).u) (fun h => (X h).w) := nn2 H.P H.rhs
theorem u : Rep (φ := .f32) (b92 j s) fun h => (X h).u := left2 H.sol
theorem w : Rep (φ := .f32) (b93 j s) fun h => (X h).w := right2 H.sol
theorem qk : Rep (φ := .f32) (b94 j s) fun h => (X h).qk := nt H.q H.k
theorem attn : Rep (φ := .f32) (b95 j s) fun h => (X h).attn := H.qk.mul H.decay
theorem vn : Rep (φ := .f32) (b97 j s) fun h => (X h).vn := H.u.sub (nn H.w H.S)
theorem ec' : Rep (φ := .f32) (b98 j s) fun h => ex (X h).c := H.c.hexp
theorem qg : Rep (φ := .f32) (b99 j s) fun h => (X h).qg := H.q.mul H.ec'
theorem erow : RepRow (φ := .f32) (b103 j s) fun h => ex (colSum (X h).g) := exp_row H.grow
theorem kxD : Rep (φ := .f32) (b109 j s) fun h => (X h).kx * (X h).D := (tr (tt H.D H.kx)).of_eq fun h => by simp [Matrix.transpose_mul]
theorem vd : Rep (φ := .f32) (b111 j s) fun h => (X h).vd := (tr (nt H.D H.vn)).of_eq fun h => by simp [Matrix.transpose_mul, Chunk.vd]
theorem sdrow : RepRow (φ := .f32) (b115 j s) fun h => colSum (had (X h).S (X h).D) := rowc (colsum (H.S.mul H.D))
theorem De : Rep (φ := .f32) (b117 j s) fun h => had (X h).D (ex (colSum (X h).g)) := H.D.mul (rep_row H.erow)
theorem sderow : RepRow (φ := .f32) (b118 j s) fun h => had (colSum (had (X h).S (X h).D)) (ex (colSum (X h).g)) := mul_row H.sdrow H.erow
theorem attnTdy : Rep (φ := .f32) (b120 j s) fun h => (X h).attnᵀ * (X h).dy := (tr (tn H.dy H.attn)).of_eq fun h => by simp [Matrix.transpose_mul]
theorem dvn : Rep (φ := .f32) (b121 j s) fun h => (X h).dvn := H.kxD.add H.attnTdy
theorem dyv : Rep (φ := .f32) (b122 j s) fun h => (X h).dyv := nt H.dy H.vn
theorem qgTdy : Rep (φ := .f32) (b124 j s) fun h => (X h).qgᵀ * (X h).dy := (tr (tn H.dy H.qg)).of_eq fun h => by simp [Matrix.transpose_mul]
theorem dyS : Rep (φ := .f32) (b126 j s) fun h => (X h).dyS := nt H.dy H.S
theorem qdySe : Rep (φ := .f32) (b129 j s) fun h => had (had (X h).q (X h).dyS) (ex (X h).c) := (H.q.mul H.dyS).mul H.ec'
theorem ndvn : Rep (φ := .f32) (b130 j s) fun h => -(X h).dvn := H.dvn.hneg
theorem wTndvn : Rep (φ := .f32) (b132 j s) fun h => (X h).wᵀ * -(X h).dvn := (tr (tn H.ndvn H.w)).of_eq fun h => by
  rw [Matrix.transpose_mul, Matrix.transpose_transpose]
theorem dS : Rep (φ := .f32) (b133 j s) fun h => (X h).dS := (H.De.add H.qgTdy).add H.wTndvn
theorem dw : Rep (φ := .f32) (b134 j s) fun h => (X h).dw := nt H.ndvn H.S
theorem qkdyv : Rep (φ := .f32) (b135 j s) fun h => had (X h).qk (X h).dyv := H.qk.mul H.dyv
theorem dA : Rep (φ := .f32) (b136 j s) fun h => (X h).dA := H.dyv.mul H.decay
theorem dATq : Rep (φ := .f32) (b137 j s) fun h => (X h).dAᵀ * (X h).q := tn H.dA H.q
theorem dq : Rep (φ := .f32) (b139 j s) fun h => (X h).dq := (H.dyS.mul H.ec').add (nn H.dA H.k)
theorem ct : Rep2 (φ := .f32) (b144 j s) (fun h => 0 + (X h).dvn) (fun h => (X h).dw + 0) := add2 (padl H.dw) (padr H.dvn)
theorem z : Rep2 (φ := .f32) (b146 j s) (fun h => (X h).Pᵀ * (0 + (X h).dvn)) (fun h => (X h).Pᵀ * ((X h).dw + 0)) := nn2 (tr H.P) H.ct
theorem z1 : Rep (φ := .f32) (b152 j s) fun h => (X h).z1 := (left2 H.z).of_eq fun h => by rw [zero_add]; rfl
theorem z2 : Rep (φ := .f32) (b153 j s) fun h => (X h).z2 := (right2 H.z).of_eq fun h => by rw [add_zero]; rfl
theorem dsys : Rep (φ := .f32) (b149 j s) fun h => -((X h).z1 * (X h).uᵀ + (X h).z2 * (X h).wᵀ) :=
  (nt2 H.z H.sol).hneg.of_eq fun h => by rw [zero_add, add_zero]; rfl
theorem kbz2e : Rep (φ := .f32) (b156 j s) fun h => had (had (X h).kb (X h).z2) (ex (X h).c) := (H.kb.mul H.z2).mul H.ec
theorem dv : Rep (φ := .f32) (b159 j s) fun h => (X h).dv := H.z1.mul H.b
theorem dlow : Rep (φ := .f32) (b162 j s) fun h => (X h).dlow := Rep.slow (strict j s) H.dsys zero
theorem pre : Rep (φ := .f32) (b164 j s) fun h => had (X h).qk (X h).dyv + had (X h).kk (X h).dlow := H.qkdyv.add (H.kk.mul H.dlow)
theorem dL : Rep (φ := .f32) (b165 j s) fun h => (X h).dL := H.dlow.mul H.decay
theorem dkb : Rep (φ := .f32) (b169 j s) fun h => (X h).dkb := (H.z2.mul H.ec).add (nn H.dL H.k)
theorem db : Rep (φ := .f32) (b171 j s) fun h => (X h).db := (H.v.mul H.z1).add (H.k.mul H.dkb)
theorem dk : Rep (φ := .f32) (b176 j s) fun h => (X h).dk :=
  (((H.dATq.add (tn H.dL H.kb)).add (H.dkb.mul H.b)).add (H.vd.mul H.kw)).of_eq fun h => by unfold Chunk.dk; abel
theorem kd : Rep (φ := .f32) (b177 j s) fun h => (X h).kd := (H.k.mul H.vd).mul H.kw
theorem dg : Rep (φ := .f32) (b186 j s) fun h => (X h).dg :=
  (spread (add_row H.sderow (rowc (colsum H.kd)))).of_eq fun h => by unfold Chunk.dg; abel
theorem ddiff : Rep (φ := .f32) (b190 j s) fun h => (X h).ddiff := Rep.low (causal j s) (H.pre.mul H.decay) zero
theorem dc : Rep (φ := .f32) (b194 j s) fun h => (X h).dc :=
  ((((H.qdySe.add H.kbz2e).add H.kd.hneg).add H.ddiff).add (tr H.ddiff.hneg)).of_eq fun h => by
    unfold Chunk.dc; rw [Matrix.transpose_neg]; abel

theorem oq : RepB (φ := .f32) (b196 j s) fun h => (X h).dq := tokens H.dq
theorem ok : RepB (φ := .f32) (b198 j s) fun h => (X h).dk := tokens H.dk
theorem ov : RepB (φ := .f32) (b200 j s) fun h => (X h).dv := tokens H.dv
theorem og : RepB (φ := .f32) (b202 j s) fun h => (X h).dg := tokens H.dg
theorem ob : RepB (φ := .f32) (b204 j s) fun h => (X h).db := tokens H.db
theorem oc : RepB (φ := .f32) (b206 j s) fun h => (X h).dc := tokens H.dc

end Holds

end Cert.ReferenceIdeal.Chunk

end
-- ==== Proof.RWhole.lean ====
/-
  The reference's six results: by induction over the 16 trips of its loop the carried state holds the gradient of the states,
  every trip's slices hold its chunk, and the gradients joined in front of those before them fill the results.
-/
module

public import proofs.«01_k».proof.Proof.Data
public import proofs.«01_k».proof.Proof.RChunk

@[expose] public section

set_option maxRecDepth 16384

noncomputable section

open Idealize.ShloMosaic Idealize.ShloMosaic.TcCoe

namespace Cert.ReferenceIdeal.Whole

open Cert.ReferenceIdeal Cert.ReferenceIdeal.Gen Cert.ReferenceIdeal.Step Delta

/-- After `t` steps the array `y` begins with the `t` steps' matrices, the last step's first. -/
def Filled (y : FVec Ideal S2048x1024 .f32) (t : ℕ) (G : Fin 16 → Fin 8 → Mat) : Prop :=
  ∀ (u : Fin 16) (h : Fin 8) (i j : Fin 128) (r : Fin 2048), u.val < t → r.val = 128 * (t - 1 - u.val) + i.val →
    y (ix2 r (lane h j)) = ((G u h i j : ℝ) : EReal)

/-- A step's rows joined in front of the rows of the steps before it. -/
theorem Filled.push {y : FVec Ideal S2048x1024 .f32} {a : FVec Ideal S128x1024 .f32} {t : Fin 16} {G : Fin 16 → Fin 8 → Mat}
    (hy : Filled y t.val G) (ha : RepB a (G t)) :
    Filled (concatenate S2048x1024 0 [⟨S128x1024, a⟩, ⟨S1920x1024, extractStridedSlice S1920x1024 ![0, 0] y slices_S2048x1024_S1920x1024_0_0⟩]
      concatenates_S128x1024_S1920x1024_S2048x1024_d0) (t.val + 1) G := by
  intro u h i j r hu hr
  pointwise []
  have hi := i.isLt
  have ht := t.isLt
  by_cases e : u = t
  · subst e
    have hr' : r.val = i.val := by omega
    rw [dif_pos (by omega)]
    have := ha h i j
    rw [← this]
    exact congrArg a (congrArg₂ ix2 (Fin.ext hr') rfl)
  · have hne : u.val ≠ t.val := fun he => e (Fin.ext he)
    rw [dif_neg (by omega)]
    exact hy u h i j _ (by omega) (by dsimp only; omega)

theorem Filled.whole {y : FVec Ideal S2048x1024 .f32} {G : Fin 16 → Fin 8 → Mat} (hy : Filled y 16 G) : Whole y G :=
  fun t h i j => hy t h i j _ t.isLt rfl

/-- The chunk the loop takes, as the program counts it: 15 minus the trip's number. -/
theorem at_b3 (t : Fin 16) (s : State Ideal) (k) : (b3 t.val s k).toInt = 15 - (t.val : Int) := by
  unfold b3 b1 b2 b0
  pointwise []
  fin_cases t <;> rfl

/-- A chunk's slice of an array of chunks, at the start the loop computes. -/
theorem slice_at (x : FVec Ideal S16x8x128x128 .f32) (t : Fin 16) (v : Fin 4 → IVec S_ 32)
    (h0 : ∀ k, (v 0 k).toInt = 15 - (t.val : Int)) (h1 : ∀ k, (v 1 k).toInt = 0) (h2 : ∀ k, (v 2 k).toInt = 0)
    (h3 : ∀ k, (v 3 k).toInt = 0) (h : Fin 8) (i j : Fin 128) :
    shapeCast S8x128x128 (Host.dynamicSlice S1x8x128x128 x (fun k => (v k (Shape.Idx.first h_S_)).toInt)
      sliceFits_S16x8x128x128_S1x8x128x128) shapeCasts_S1x8x128x128_S8x128x128 (ix3 h i j) = x (ix4 (back t) h i j) := by
  have ht := t.isLt
  pointwise []
  refine congrArg x ?_
  have e0 : (Host.clampedStart S16x8x128x128 S1x8x128x128 rfl (fun k => (v k (Shape.Idx.first h_S_)).toInt) 0) = 15 - t.val :=
    Host.clampedStart_of_le _ _ _ _ (by rw [h0]; omega) (by show 15 - t.val + 1 ≤ 16; omega)
  have e1 : (Host.clampedStart S16x8x128x128 S1x8x128x128 rfl (fun k => (v k (Shape.Idx.first h_S_)).toInt) 1) = 0 :=
    Host.clampedStart_of_le _ _ _ _ (by rw [h1]; rfl) (by show 0 + 8 ≤ 8; omega)
  have e2 : (Host.clampedStart S16x8x128x128 S1x8x128x128 rfl (fun k => (v k (Shape.Idx.first h_S_)).toInt) 2) = 0 :=
    Host.clampedStart_of_le _ _ _ _ (by rw [h2]; rfl) (by show 0 + 128 ≤ 128; omega)
  have e3 : (Host.clampedStart S16x8x128x128 S1x8x128x128 rfl (fun k => (v k (Shape.Idx.first h_S_)).toInt) 3) = 0 :=
    Host.clampedStart_of_le _ _ _ _ (by rw [h3]; rfl) (by show 0 + 128 ≤ 128; omega)
  have ext4 : ∀ {a a' : Fin 16} {b b' : Fin 8} {c c' d d' : Fin 128}, a.val = a'.val → b.val = b'.val → c.val = c'.val →
      d.val = d'.val → (ix4 a b c d : S16x8x128x128.Idx) = ix4 a' b' c' d' := by
    intro a a' b b' c c' d d' ha hb hc hd
    rw [Fin.ext ha, Fin.ext hb, Fin.ext hc, Fin.ext hd]
  apply ext4
  · exact e0
  · dsimp only; rw [e1]; omega
  · dsimp only; rw [e2]; omega
  · dsimp only; rw [e3]; omega

/-- A token array cut into chunks and heads, read at a chunk, a head, a token and a lane. -/
theorem cut_at (a : FVec Ideal S2048x1024 .f32) (t : Fin 16) (h : Fin 8) (i j : Fin 128) :
    transpose S16x8x128x128 [0, 2, 1, 3] (shapeCast S16x128x8x128 a shapeCasts_S2048x1024_S16x128x8x128)
      transposes_S16x128x8x128_S16x8x128x128_0_2_1_3 (ix4 (back t) h i j) = a (ix2 (row t i) (lane h j)) := by
  pointwise []
  have ht := t.isLt
  refine congrArg a (congrArg₂ ix2 (Fin.ext ?_) (Fin.ext ?_))
  · show (15 - t.val) * 128 + i.val = 128 * (15 - t.val) + i.val; omega
  · show h.val * 128 + j.val = 128 * h.val + j.val; omega

/-- The last third of the lanes of an array, read at a token and a lane. -/
theorem third_at (a : FVec Ideal S2048x3072 .f32) (t : Fin 16) (h : Fin 8) (i j : Fin 128) :
    extractStridedSlice S2048x1024 ![0, 2048] a slices_S2048x3072_S2048x1024_0_2048 (ix2 (row t i) (lane h j))
      = a (ix2 (row t i) (vlane h j)) := by
  pointwise []
  rfl

/-- A per-head array with its chunks in front, read at an index. -/
theorem swap_at (a : FVec Ideal S8x16x128x128 .f32) (t : Fin 16) (h : Fin 8) (i j : Fin 128) :
    transpose S16x8x128x128 [1, 0, 2, 3] a transposes_S8x16x128x128_S16x8x128x128_1_0_2_3 (ix4 (back t) h i j)
      = a (ix4 h (back t) i j) := by
  pointwise []

/-- What the loop holds before trip `t`: the arrays cut into chunks, the gradient of the states, and the results so far. -/
structure At (x : Data) (t : ℕ) (s : State Ideal) : Prop where
  q : ∀ u h i j, s.main_v19_0 (ix4 (back u) h i j) = (x.q (row u i) (lane h j) : EReal)
  k : ∀ u h i j, s.main_v19_1 (ix4 (back u) h i j) = (x.k (row u i) (lane h j) : EReal)
  v : ∀ u h i j, s.main_v19_2 (ix4 (back u) h i j) = (x.v (row u i) (vlane h j) : EReal)
  g : ∀ u h i j, s.main_v19_3 (ix4 (back u) h i j) = (x.g (row u i) (lane h j) : EReal)
  b : ∀ u h i j, s.main_v19_4 (ix4 (back u) h i j) = (x.b (row u i) (lane h j) : EReal)
  c : ∀ u h i j, s.main_v19_5 (ix4 (back u) h i j) = (x.c (row u i) (lane h j) : EReal)
  dy : ∀ u h i j, s.main_v19_6 (ix4 (back u) h i j) = (x.dy (row u i) (lane h j) : EReal)
  S : ∀ u h i j, s.main_v19_7 (ix4 (back u) h i j) = (x.S h (back u) i j : EReal)
  P : ∀ u h i j, s.main_v19_8 (ix4 (back u) h i j) = (x.P h (back u) i j : EReal)
  D : Rep (φ := .f32) s.main_v19_10 (x.D t)
  dq : Filled s.main_v19_11 t fun t h => (x.at_ t h).dq
  dk : Filled s.main_v19_12 t fun t h => (x.at_ t h).dk
  dv : Filled s.main_v19_13 t fun t h => (x.at_ t h).dv
  dg : Filled s.main_v19_14 t fun t h => (x.at_ t h).dg
  db : Filled s.main_v19_15 t fun t h => (x.at_ t h).db
  dc : Filled s.main_v19_16 t fun t h => (x.at_ t h).dc

/-- Before the first trip. -/
theorem At.init {x : Data} {a0 a1 a3 a4 a5 a8 : FVec Ideal S2048x1024 .f32} {a2 : FVec Ideal S2048x3072 .f32}
    {a6 a7 : FVec Ideal S8x16x128x128 .f32} (hx : x.Holds a0 a1 a3 a4 a5 a8 a2 a6 a7) :
    At x 0 (Step.init a0 a1 a2 a3 a4 a5 a6 a7 a8) where
  q u h i j := (cut_at a0 u h i j).trans (hx.q ..)
  k u h i j := (cut_at a1 u h i j).trans (hx.k ..)
  v u h i j := ((cut_at _ u h i j).trans (third_at a2 u h i j)).trans (hx.v ..)
  g u h i j := (cut_at a3 u h i j).trans (hx.g ..)
  b u h i j := (cut_at a4 u h i j).trans (hx.b ..)
  c u h i j := (cut_at a5 u h i j).trans (hx.c ..)
  dy u h i j := (cut_at a8 u h i j).trans (hx.dy ..)
  S u h i j := (swap_at a6 u h i j).trans (hx.S ..)
  P u h i j := (swap_at a7 u h i j).trans (hx.P ..)
  D h i j := by
    show K_main_v17 (F := Ideal) (ix3 h i j) = _
    unfold K_main_v17 K_main_cst
    pointwise []
    exact EReal.coe_zero.symm
  dq u _ _ _ _ hu := absurd hu (Nat.not_lt_zero _)
  dk u _ _ _ _ hu := absurd hu (Nat.not_lt_zero _)
  dv u _ _ _ _ hu := absurd hu (Nat.not_lt_zero _)
  dg u _ _ _ _ hu := absurd hu (Nat.not_lt_zero _)
  db u _ _ _ _ hu := absurd hu (Nat.not_lt_zero _)
  dc u _ _ _ _ hu := absurd hu (Nat.not_lt_zero _)

/-- What trip `t` slices is its step's chunk. -/
theorem At.holds {x : Data} {t : Fin 16} {s : State Ideal} (H : At x t.val s) : Chunk.Holds t.val s (x.at_ t) where
  q h i j := (slice_at s.main_v19_0 t _ (at_b3 t s) (fun _ => rfl) (fun _ => rfl) (fun _ => rfl) h i j).trans (H.q ..)
  k h i j := (slice_at s.main_v19_1 t _ (at_b3 t s) (fun _ => rfl) (fun _ => rfl) (fun _ => rfl) h i j).trans (H.k ..)
  v h i j := (slice_at s.main_v19_2 t _ (at_b3 t s) (fun _ => rfl) (fun _ => rfl) (fun _ => rfl) h i j).trans (H.v ..)
  g h i j := (slice_at s.main_v19_3 t _ (at_b3 t s) (fun _ => rfl) (fun _ => rfl) (fun _ => rfl) h i j).trans (H.g ..)
  b h i j := (slice_at s.main_v19_4 t _ (at_b3 t s) (fun _ => rfl) (fun _ => rfl) (fun _ => rfl) h i j).trans (H.b ..)
  c h i j := (slice_at s.main_v19_5 t _ (at_b3 t s) (fun _ => rfl) (fun _ => rfl) (fun _ => rfl) h i j).trans (H.c ..)
  dy h i j := (slice_at s.main_v19_6 t _ (at_b3 t s) (fun _ => rfl) (fun _ => rfl) (fun _ => rfl) h i j).trans (H.dy ..)
  S h i j := (slice_at s.main_v19_7 t _ (at_b3 t s) (fun _ => rfl) (fun _ => rfl) (fun _ => rfl) h i j).trans (H.S ..)
  P h i j := (slice_at s.main_v19_8 t _ (at_b3 t s) (fun _ => rfl) (fun _ => rfl) (fun _ => rfl) h i j).trans (H.P ..)
  D := H.D

/-- A trip leads from one such state to the next. -/
theorem At.step {x : Data} {t : Fin 16} {s : State Ideal} (H : At x t.val s) : At x (t.val + 1) (Step.step t.val s) where
  q := H.q
  k := H.k
  v := H.v
  g := H.g
  b := H.b
  c := H.c
  dy := H.dy
  S := H.S
  P := H.P
  D := by rw [x.D_succ t]; exact H.holds.dS
  dq := H.dq.push H.holds.oq
  dk := H.dk.push H.holds.ok
  dv := H.dv.push H.holds.ov
  dg := H.dg.push H.holds.og
  db := H.db.push H.holds.ob
  dc := H.dc.push H.holds.oc

/-- So before trip `t` of any sequence of states that starts from the arguments and goes on by the loop's step. -/
theorem at_iter {x : Data} (it : ℕ → State Ideal) (h0 : At x 0 (it 0)) (hs : ∀ n, it (n + 1) = Step.step n (it n)) :
    ∀ n, n ≤ 16 → At x n (it n)
  | 0, _ => h0
  | n + 1, h => by rw [hs n]; exact (at_iter it h0 hs n (by omega)).step (t := ⟨n, h⟩)

end Cert.ReferenceIdeal.Whole

end
-- ==== Proof.lean ====
/-
  The proof of `Cert.Claim` (proofs.«01_k».proof.Defs): the frames of the kernel, of the kernel over the extended reals and of
  the reference, and the equality of the kernel's six results with the reference's over the extended reals, from finite
  arguments. The kernel's results are read in Proof/KWhole.lean, the reference's in Proof/RWhole.lean; both hold the gradients
  Proof/Mat.lean defines, so they are equal. The same for the four calls of the MLP's backward pass, each in a module of its own
  (Proof/DownDx.lean, Proof/DownDw.lean, Proof/UpDw.lean, Proof/UpDx.lean), of the two of its forward pass (Proof/UpFwd.lean,
  Proof/DownFwd.lean) and of the three each of the input and the output projection (Proof/InFwd.lean, Proof/InDw.lean,
  Proof/InDx.lean, Proof/OutFwd.lean, Proof/OutDw.lean, Proof/OutDx.lean), from any arguments; and for the attention's backward
  call (Proof/XaBwd.lean), from finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.StepRun
public import proofs.«01_k».proof.Proof.Finite
public import proofs.«01_k».proof.Proof.UpDx
public import proofs.«01_k».proof.Proof.InDw
public import proofs.«01_k».proof.Proof.InDx
public import proofs.«01_k».proof.Proof.InFwd
public import proofs.«01_k».proof.Proof.OutDw
public import proofs.«01_k».proof.Proof.OutDx
public import proofs.«01_k».proof.Proof.OutFwd
public import proofs.«01_k».proof.Proof.UpFwd
public import proofs.«01_k».proof.Proof.DownFwd
public import proofs.«01_k».proof.Proof.XaBwd
public import proofs.«01_k».proof.Proof.DownDx
public import proofs.«01_k».proof.Proof.UpDw
public import proofs.«01_k».proof.Proof.DownDw
public import proofs.«01_k».proof.Proof.KWhole
public import proofs.«01_k».proof.Proof.RWhole
public import Idealize.ShloMosaic.Adequacy
public import Idealize.ShloMosaic.Init

@[expose] public section

noncomputable section

namespace Cert.Proof

open Idealize.ShloMosaic Idealize.ShloMosaic.TcCoe Idealize.SL.Sem
open Cert.ReferenceIdeal.Step (State)

/-- The states of the reference's loop at device `c`, one a trip. -/
def states (m : (ℓ : Loc Cert.ReferenceIdeal.nD Cert.ReferenceIdeal.τ Cert.ReferenceIdeal.sig) → Buf (Elt Ideal) ℓ)
    (c : Dev Cert.ReferenceIdeal.nD) : ℕ → State Ideal
  | 0 => Cert.ReferenceIdeal.StepRun.initState m c
  | n + 1 => Cert.ReferenceIdeal.Step.step n (states m c n)

/-- `Cert.quiescent_ReferenceIdeal`: the reference ends, keeps its arguments and leaves no semaphore counted. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.StepRun.run_iter (F := Ideal) m ρ (states m) (fun _ => rfl) (fun _ _ => rfl))

/-- `Cert.algebraic_KernelIdeal_ReferenceIdeal_pre_finite`: from memories whose arguments agree and hold no infinity, the
    kernel's six results are the reference's. -/
theorem algebraic : Cert.algebraic_KernelIdeal_ReferenceIdeal_pre_finite := by
  intro m ρ m' ρ' hfin hagree
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    Cert.KernelIdeal.Value.run_blocks m ρ, ?_⟩
  refine (θ_run Cert.ReferenceIdeal.defs _ _).mono (fun r h c => ?_)
    (Cert.ReferenceIdeal.StepRun.run_iter (F := Ideal) m' ρ' (states m') (fun _ => rfl) (fun _ _ => rfl))
  obtain ⟨x, hx⟩ := Cert.Pre_finite.data _ _ _ _ _ _ _ _ _ (hfin c)
  obtain ⟨e0, e1, e2, e3, e4, e5, e6, e7, e8⟩ := hagree c
  have hs : Cert.ReferenceIdeal.Whole.At x 16 (states m' c 16) := by
    refine Cert.ReferenceIdeal.Whole.at_iter (states m' c) ?_ (fun _ => rfl) 16 le_rfl
    refine Cert.ReferenceIdeal.Whole.At.init ?_
    rw [e0, e1, e2, e3, e4, e5, e6, e7, e8]
    exact hx
  obtain ⟨h0, h1, h2, h3, h4, h5, hk⟩ := h c
  exact ⟨h0.trans (hs.dq.whole.eq (Cert.KernelIdeal.Whole.result0 hx)),
    h1.trans (hs.dk.whole.eq (Cert.KernelIdeal.Whole.result1 hx)),
    h2.trans (hs.dv.whole.eq (Cert.KernelIdeal.Whole.result2 hx)),
    h3.trans (hs.dg.whole.eq (Cert.KernelIdeal.Whole.result3 hx)),
    h4.trans (hs.db.whole.eq (Cert.KernelIdeal.Whole.result4 hx)),
    h5.trans (hs.dc.whole.eq (Cert.KernelIdeal.Whole.result5 hx)), hk⟩

/-- Everything the certificate claims. -/
theorem claim : Cert.Claim :=
  ⟨Cert.Kernel.Gen.facts, Cert.KernelIdeal.Gen.facts, Cert.ReferenceIdeal.Gen.facts,
    Cert.DownDx.Gen.facts, Cert.DownDxIdeal.Gen.facts, Cert.DownDxReferenceIdeal.Gen.facts,
    Cert.DownDw.Gen.facts, Cert.DownDwIdeal.Gen.facts, Cert.DownDwReferenceIdeal.Gen.facts,
    Cert.UpDw.Gen.facts, Cert.UpDwIdeal.Gen.facts, Cert.UpDwReferenceIdeal.Gen.facts,
    Cert.UpDx.Gen.facts, Cert.UpDxIdeal.Gen.facts, Cert.UpDxReferenceIdeal.Gen.facts,
    Cert.InDw.Gen.facts, Cert.InDwIdeal.Gen.facts, Cert.InDwReferenceIdeal.Gen.facts,
    Cert.InDx.Gen.facts, Cert.InDxIdeal.Gen.facts, Cert.InDxReferenceIdeal.Gen.facts,
    Cert.InFwd.Gen.facts, Cert.InFwdIdeal.Gen.facts, Cert.InFwdReferenceIdeal.Gen.facts,
    Cert.OutDw.Gen.facts, Cert.OutDwIdeal.Gen.facts, Cert.OutDwReferenceIdeal.Gen.facts,
    Cert.OutDx.Gen.facts, Cert.OutDxIdeal.Gen.facts, Cert.OutDxReferenceIdeal.Gen.facts,
    Cert.OutFwd.Gen.facts, Cert.OutFwdIdeal.Gen.facts, Cert.OutFwdReferenceIdeal.Gen.facts,
    Cert.UpFwd.Gen.facts, Cert.UpFwdIdeal.Gen.facts, Cert.UpFwdReferenceIdeal.Gen.facts,
    Cert.DownFwd.Gen.facts, Cert.DownFwdIdeal.Gen.facts, Cert.DownFwdReferenceIdeal.Gen.facts,
    Cert.XaBwd.Gen.facts, Cert.XaBwdIdeal.Gen.facts, Cert.XaBwdReferenceIdeal.Gen.facts,
    Cert.Pre_finite.facts, Cert.Pre_xa_finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.DownDx.Gen.frame m ρ, fun m ρ _ => Cert.DownDxIdeal.Gen.frame m ρ, DownDx.frame_reference,
    fun m ρ _ => Cert.DownDw.Gen.frame m ρ, fun m ρ _ => Cert.DownDwIdeal.Gen.frame m ρ, DownDw.frame_reference,
    fun m ρ _ => Cert.UpDw.Gen.frame m ρ, fun m ρ _ => Cert.UpDwIdeal.Gen.frame m ρ, UpDw.frame_reference,
    fun m ρ _ => Cert.UpDx.Gen.frame m ρ, fun m ρ _ => Cert.UpDxIdeal.Gen.frame m ρ, UpDx.frame_reference,
    fun m ρ _ => Cert.InDw.Gen.frame m ρ, fun m ρ _ => Cert.InDwIdeal.Gen.frame m ρ, InDw.frame_reference,
    fun m ρ _ => Cert.InDx.Gen.frame m ρ, fun m ρ _ => Cert.InDxIdeal.Gen.frame m ρ, InDx.frame_reference,
    fun m ρ _ => Cert.InFwd.Gen.frame m ρ, fun m ρ _ => Cert.InFwdIdeal.Gen.frame m ρ, InFwd.frame_reference,
    fun m ρ _ => Cert.OutDw.Gen.frame m ρ, fun m ρ _ => Cert.OutDwIdeal.Gen.frame m ρ, OutDw.frame_reference,
    fun m ρ _ => Cert.OutDx.Gen.frame m ρ, fun m ρ _ => Cert.OutDxIdeal.Gen.frame m ρ, OutDx.frame_reference,
    fun m ρ _ => Cert.OutFwd.Gen.frame m ρ, fun m ρ _ => Cert.OutFwdIdeal.Gen.frame m ρ, OutFwd.frame_reference,
    fun m ρ _ => Cert.UpFwd.Gen.frame m ρ, fun m ρ _ => Cert.UpFwdIdeal.Gen.frame m ρ, UpFwd.frame_reference,
    fun m ρ _ => Cert.DownFwd.Gen.frame m ρ, fun m ρ _ => Cert.DownFwdIdeal.Gen.frame m ρ, DownFwd.frame_reference,
    fun m ρ _ => Cert.XaBwd.Gen.frame m ρ, fun m ρ _ => Cert.XaBwdIdeal.Gen.frame m ρ, fun m ρ _ => Cert.XaBwdIdeal.Gen.frame m ρ,
    XaBwd.frame_reference, fun m ρ _ => XaBwd.frame_reference m ρ trivial,
    trivial, algebraic, trivial, DownDx.algebraic, trivial, DownDw.algebraic, trivial, UpDw.algebraic, trivial, UpDx.algebraic,
    trivial, InDw.algebraic, trivial, InDx.algebraic, trivial, InFwd.algebraic, trivial, OutDw.algebraic, trivial, OutDx.algebraic,
    trivial, OutFwd.algebraic, trivial, UpFwd.algebraic, trivial, DownFwd.algebraic,
    trivial, XaBwd.algebraic⟩

end Cert.Proof

end
